-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 1024]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![1024, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![1024, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_ReferenceIdeal.lean ====
abbrev S2x512x2048 : Shape := ⟨3, ![2, 512, 2048]⟩
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x1024 .f32) (main_arg2 : FVec F S1024x2048 .f32) (main_arg3 : FVec F S1024x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩
abbrev S2048x256 : Shape := ⟨2, ![2048, 256]⟩
abbrev S2048x64 : Shape := ⟨2, ![2048, 64]⟩
abbrev S8 : Shape := ⟨1, ![8]⟩
abbrev S128x8x256 : Shape := ⟨3, ![128, 8, 256]⟩
abbrev S8x1 : Shape := ⟨2, ![8, 1]⟩
abbrev S1 : Shape := ⟨1, ![1]⟩
abbrev S1x1 : Shape := ⟨2, ![1, 1]⟩
abbrev S2x512x128 : Shape := ⟨3, ![2, 512, 128]⟩
abbrev S2x2x512x256 : Shape := ⟨4, ![2, 2, 512, 256]⟩
abbrev S7x2x512x256 : Shape := ⟨4, ![7, 2, 512, 256]⟩
abbrev S2x512x256 : Shape := ⟨3, ![2, 512, 256]⟩
abbrev S8x2x512x128 : Shape := ⟨4, ![8, 2, 512, 128]⟩
abbrev S2x512x64 : Shape := ⟨3, ![2, 512, 64]⟩
abbrev S2x512x32 : Shape := ⟨3, ![2, 512, 32]⟩
abbrev S2x128x2048 : Shape := ⟨3, ![2, 128, 2048]⟩
abbrev S7 : Shape := ⟨1, ![7]⟩
abbrev S2 : Shape := ⟨1, ![2]⟩
abbrev S1x128x2048 : Shape := ⟨3, ![1, 128, 2048]⟩
abbrev S1x512x2048 : Shape := ⟨3, ![1, 512, 2048]⟩
abbrev S512x2048 : Shape := ⟨2, ![512, 2048]⟩
abbrev S512x128 : Shape := ⟨2, ![512, 128]⟩
abbrev S1x512x128 : Shape := ⟨3, ![1, 512, 128]⟩
abbrev S128x256 : Shape := ⟨2, ![128, 256]⟩
abbrev S512x256 : Shape := ⟨2, ![512, 256]⟩
abbrev S1x512x256 : Shape := ⟨3, ![1, 512, 256]⟩
abbrev S1x1x512x256 : Shape := ⟨4, ![1, 1, 512, 256]⟩
abbrev S1x2x512x256 : Shape := ⟨4, ![1, 2, 512, 256]⟩
abbrev S512x64 : Shape := ⟨2, ![512, 64]⟩
abbrev S1x512x64 : Shape := ⟨3, ![1, 512, 64]⟩
abbrev S512x32 : Shape := ⟨2, ![512, 32]⟩
abbrev S1x512x32 : Shape := ⟨3, ![1, 512, 32]⟩
abbrev S512x512 : Shape := ⟨2, ![512, 512]⟩
abbrev S512 : Shape := ⟨1, ![512]⟩
abbrev S512x1 : Shape := ⟨2, ![512, 1]⟩
abbrev S1x1x512x128 : Shape := ⟨4, ![1, 1, 512, 128]⟩
abbrev S1x2x512x128 : Shape := ⟨4, ![1, 2, 512, 128]⟩

abbrev nBuf : Space → Nat
  | .hbm => 158
  | .vmem => 23
  | .smem => 0
  | _ => 0

abbrev hbmTy0_0 (i : Nat) : BufTy := match i % 128 with
  | 0 => ⟨S2x512x2048, .f32⟩
  | 1 => ⟨S2048x128, .f32⟩
  | 2 => ⟨S128x2048, .f32⟩
  | 3 => ⟨S128x2048, .f32⟩
  | 4 => ⟨S2048x2048, .f32⟩
  | 5 => ⟨S2048x512, .f32⟩
  | 6 => ⟨S2048x32, .f32⟩
  | 7 => ⟨S2048x2048, .f32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i1⟩
  | 27 => ⟨S_, .i32⟩
  | 28 => ⟨S_, .i1⟩
  | 29 => ⟨S_, .i1⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S2048x256, .f32⟩
  | 42 => ⟨S2048x256, .bf16⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S2048x64, .f32⟩
  | 52 => ⟨S2048x64, .bf16⟩
  | 53 => ⟨S2048x32, .bf16⟩
  | 54 => ⟨S8, .i32⟩
  | 55 => ⟨S8, .i32⟩
  | 56 => ⟨S8, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S8, .i32⟩
  | 64 => ⟨S8, .i32⟩
  | 65 => ⟨S_, .i32⟩
  | 66 => ⟨S8, .i32⟩
  | 67 => ⟨S8, .i1⟩
  | 68 => ⟨S_, .i32⟩
  | 69 => ⟨S8, .i32⟩
  | 70 => ⟨S8, .i1⟩
  | 71 => ⟨S_, .i32⟩
  | 72 => ⟨S_, .i1⟩
  | 73 => ⟨S8, .i1⟩
  | 74 => ⟨S8, .i1⟩
  | 75 => ⟨S8, .i1⟩
  | 76 => ⟨S8, .i32⟩
  | 77 => ⟨S8, .i32⟩
  | 78 => ⟨S8, .i32⟩
  | 79 => ⟨S_, .i32⟩
  | 80 => ⟨S_, .i32⟩
  | 81 => ⟨S8, .i32⟩
  | 82 => ⟨S8, .i32⟩
  | 83 => ⟨S8, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S8, .i32⟩
  | 91 => ⟨S8, .i32⟩
  | 92 => ⟨S_, .i32⟩
  | 93 => ⟨S8, .i32⟩
  | 94 => ⟨S8, .i1⟩
  | 95 => ⟨S_, .i32⟩
  | 96 => ⟨S8, .i32⟩
  | 97 => ⟨S8, .i1⟩
  | 98 => ⟨S_, .i32⟩
  | 99 => ⟨S_, .i1⟩
  | 100 => ⟨S8, .i1⟩
  | 101 => ⟨S8, .i1⟩
  | 102 => ⟨S8, .i1⟩
  | 103 => ⟨S8, .i32⟩
  | 104 => ⟨S8, .i32⟩
  | 105 => ⟨S8, .i32⟩
  | 106 => ⟨S128x8x256, .f32⟩
  | 107 => ⟨S_, .i32⟩
  | 108 => ⟨S8, .i32⟩
  | 109 => ⟨S8, .i1⟩
  | 110 => ⟨S_, .i32⟩
  | 111 => ⟨S8, .i32⟩
  | 112 => ⟨S8, .i32⟩
  | 113 => ⟨S8, .i32⟩
  | 114 => ⟨S8x1, .i32⟩
  | 115 => ⟨S1, .i32⟩
  | 116 => ⟨S_, .i32⟩
  | 117 => ⟨S8x1, .i32⟩
  | 118 => ⟨S8x1, .i1⟩
  | 119 => ⟨S1x1, .i32⟩
  | 120 => ⟨S8x1, .i32⟩
  | 121 => ⟨S8x1, .i1⟩
  | 122 => ⟨S8x1, .i1⟩
  | 123 => ⟨S_, .i1⟩
  | 124 => ⟨S8, .i1⟩
  | 125 => ⟨S128x8x256, .f32⟩
  | 126 => ⟨S128x8x256, .i1⟩
  | 127 => ⟨S_, .f32⟩
  | _ => ⟨S2x512x2048, .f32⟩

abbrev hbmTy0_1 (i : Nat) : BufTy := match i % 128 with
  | 0 => ⟨S128x8x256, .f32⟩
  | 1 => ⟨S128x8x256, .f32⟩
  | 2 => ⟨S128x2048, .f32⟩
  | 3 => ⟨S128x8x256, .f32⟩
  | 4 => ⟨S_, .i32⟩
  | 5 => ⟨S8, .i32⟩
  | 6 => ⟨S8, .i1⟩
  | 7 => ⟨S_, .i32⟩
  | 8 => ⟨S8, .i32⟩
  | 9 => ⟨S8, .i32⟩
  | 10 => ⟨S8, .i32⟩
  | 11 => ⟨S8x1, .i32⟩
  | 12 => ⟨S1, .i32⟩
  | 13 => ⟨S_, .i32⟩
  | 14 => ⟨S8x1, .i32⟩
  | 15 => ⟨S8x1, .i1⟩
  | 16 => ⟨S1x1, .i32⟩
  | 17 => ⟨S8x1, .i32⟩
  | 18 => ⟨S8x1, .i1⟩
  | 19 => ⟨S8x1, .i1⟩
  | 20 => ⟨S_, .i1⟩
  | 21 => ⟨S8, .i1⟩
  | 22 => ⟨S128x8x256, .f32⟩
  | 23 => ⟨S128x8x256, .i1⟩
  | 24 => ⟨S_, .f32⟩
  | 25 => ⟨S128x8x256, .f32⟩
  | 26 => ⟨S128x8x256, .f32⟩
  | 27 => ⟨S128x2048, .f32⟩
  | 28 => ⟨S2048x2048, .bf16⟩
  | 29 => ⟨S2x512x2048, .f32⟩
  | _ => ⟨S2x512x2048, .f32⟩

abbrev hbmTy (i : Nat) : BufTy := match i / 128 with
  | 0 => hbmTy0_0 i
  | 1 => hbmTy0_1 i
  | _ => ⟨S2x512x2048, .f32⟩

abbrev bufTy : (tb : Table) → Fin (tcTables nBuf tb) → BufTy
  | .hbm, ⟨i, _⟩ => hbmTy i
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x256, .bf16⟩
  | .local _ .vmem, ⟨5, _⟩ => ⟨S2048x64, .bf16⟩
  | .local _ .vmem, ⟨6, _⟩ => ⟨S2048x32, .bf16⟩
  | .local _ .vmem, ⟨7, _⟩ => ⟨S2x512x2048, .f32⟩
  | .local _ .vmem, ⟨8, _⟩ => ⟨S2x512x128, .f32⟩
  | .local _ .vmem, ⟨9, _⟩ => ⟨S2x512x2048, .bf16⟩
  | .local _ .vmem, ⟨10, _⟩ => ⟨S2x2x512x256, .bf16⟩
  | .local _ .vmem, ⟨11, _⟩ => ⟨S2x2x512x256, .bf16⟩
  | .local _ .vmem, ⟨12, _⟩ => ⟨S7x2x512x256, .bf16⟩
  | .local _ .vmem, ⟨13, _⟩ => ⟨S7x2x512x256, .bf16⟩
  | .local _ .vmem, ⟨14, _⟩ => ⟨S2x512x256, .f32⟩
  | .local _ .vmem, ⟨15, _⟩ => ⟨S2x512x256, .f32⟩
  | .local _ .vmem, ⟨16, _⟩ => ⟨S8x2x512x128, .bf16⟩
  | .local _ .vmem, ⟨17, _⟩ => ⟨S8x2x512x128, .bf16⟩
  | .local _ .vmem, ⟨18, _⟩ => ⟨S2x512x256, .bf16⟩
  | .local _ .vmem, ⟨19, _⟩ => ⟨S2x512x64, .bf16⟩
  | .local _ .vmem, ⟨20, _⟩ => ⟨S2x512x32, .bf16⟩
  | .local _ .vmem, ⟨21, _⟩ => ⟨S2x128x2048, .bf16⟩
  | .local _ .vmem, ⟨22, _⟩ => ⟨S2x128x2048, .bf16⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_v4 : Ref sig .tc := ⟨.hbm, 24, rfl⟩
abbrev main_call0_c_2 : Ref sig .tc := ⟨.hbm, 25, rfl⟩
abbrev main_call0_v5 : Ref sig .tc := ⟨.hbm, 26, rfl⟩
abbrev main_call0_c_3 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_v6 : Ref sig .tc := ⟨.hbm, 32, rfl⟩
abbrev main_c_3 : Ref sig .tc := ⟨.hbm, 33, rfl⟩
abbrev main_v7 : Ref sig .tc := ⟨.hbm, 34, rfl⟩
abbrev main_c_4 : Ref sig .tc := ⟨.hbm, 35, rfl⟩
abbrev main_v8 : Ref sig .tc := ⟨.hbm, 36, rfl⟩
abbrev main_c_5 : Ref sig .tc := ⟨.hbm, 37, rfl⟩
abbrev main_v9 : Ref sig .tc := ⟨.hbm, 38, rfl⟩
abbrev main_v10 : Ref sig .tc := ⟨.hbm, 39, rfl⟩
abbrev main_c_6 : Ref sig .tc := ⟨.hbm, 40, rfl⟩
abbrev main_v11 : Ref sig .tc := ⟨.hbm, 41, rfl⟩
abbrev main_v12 : Ref sig .tc := ⟨.hbm, 42, rfl⟩
abbrev main_c_7 : Ref sig .tc := ⟨.hbm, 43, rfl⟩
abbrev main_v13 : Ref sig .tc := ⟨.hbm, 44, rfl⟩
abbrev main_c_8 : Ref sig .tc := ⟨.hbm, 45, rfl⟩
abbrev main_v14 : Ref sig .tc := ⟨.hbm, 46, rfl⟩
abbrev main_c_9 : Ref sig .tc := ⟨.hbm, 47, rfl⟩
abbrev main_v15 : Ref sig .tc := ⟨.hbm, 48, rfl⟩
abbrev main_v16 : Ref sig .tc := ⟨.hbm, 49, rfl⟩
abbrev main_c_10 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_11 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v23 : Ref sig .tc := ⟨.hbm, 78, rfl⟩
abbrev main_c_12 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_c_13 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v28 : Ref sig .tc := ⟨.hbm, 105, rfl⟩
abbrev main_v29 : Ref sig .tc := ⟨.hbm, 106, rfl⟩
abbrev main_call3_c : Ref sig .tc := ⟨.hbm, 107, rfl⟩
abbrev main_call3_v0 : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_c_1 : Ref sig .tc := ⟨.hbm, 115, rfl⟩
abbrev main_call3_c_2 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_3 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_call3_cst : Ref sig .tc := ⟨.hbm, 127, rfl⟩
abbrev main_call3_v15 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_cst : Ref sig .tc := ⟨.hbm, 152, rfl⟩
abbrev main_call4_v15 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v26 : BitVec 32 := Scalar.addi v2 c1_i32_14
  let v27 : BitVec 32 := Scalar.subi v26 c0_i32_15
  let c8_i32_16 : BitVec 32 := 8#32
  let c0_i32_17 : BitVec 32 := 0#32
  let v28 : BitVec 1 := Scalar.cmpi .eq c8_i32_16 c0_i32_17
  let c1_i32_18 : BitVec 32 := 1#32
  let v29 : BitVec 32 := Scalar.select v28 c1_i32_18 c8_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c256_i32 : BitVec 32 := 256#32
  let v38 : BitVec 32 := Scalar.muli v37 c256_i32
  let c0_i32_26 : BitVec 32 := 0#32
  ![v38.toNat, 0]
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v44 : BitVec 32 := Scalar.addi v2 c1_i32_27
  let v45 : BitVec 32 := Scalar.addi v44 c0_i32_28
  let c8_i32_29 : BitVec 32 := 8#32
  let c0_i32_30 : BitVec 32 := 0#32
  let v46 : BitVec 1 := Scalar.cmpi .eq c8_i32_29 c0_i32_30
  let c1_i32_31 : BitVec 32 := 1#32
  let v47 : BitVec 32 := Scalar.select v46 c1_i32_31 c8_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c256_i32_35 : BitVec 32 := 256#32
  let v56 : BitVec 32 := Scalar.muli v55 c256_i32_35
  let c128_i32 : BitVec 32 := 128#32
  let v57 : BitVec 32 := Scalar.addi v56 c128_i32
  let c0_i32_40 : BitVec 32 := 0#32
  ![v57.toNat, 0]
def k0_dev1 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_150 : BitVec 32 := 1#32
  let v173 : BitVec 32 := Scalar.muli v14 c1_i32_150
  let v174 : BitVec 32 := Scalar.addi c0_i32_151 v173
  v174.toNat
def k0_dev2 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_153 : BitVec 32 := 1#32
  let v175 : BitVec 32 := Scalar.muli v25 c1_i32_153
  let v176 : BitVec 32 := Scalar.addi c0_i32_154 v175
  v176.toNat
def k0_dev3 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_159 : BitVec 32 := 1#32
  let v177 : BitVec 32 := Scalar.muli v25 c1_i32_159
  let v178 : BitVec 32 := Scalar.addi c0_i32_160 v177
  v178.toNat
def k0_dev4 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_171 : BitVec 32 := 1#32
  let v187 : BitVec 32 := Scalar.muli v14 c1_i32_171
  let v188 : BitVec 32 := Scalar.addi c0_i32_172 v187
  v188.toNat
def k0_dev5 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_320 : BitVec 32 := 1#32
  let v309 : BitVec 32 := Scalar.muli v25 c1_i32_320
  let v310 : BitVec 32 := Scalar.addi c0_i32_321 v309
  v310.toNat
def k0_dev6 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_332 : BitVec 32 := 1#32
  let v319 : BitVec 32 := Scalar.muli v14 c1_i32_332
  let v320 : BitVec 32 := Scalar.addi c0_i32_333 v319
  v320.toNat
def k0_dev7 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_487 : BitVec 32 := 1#32
  let v447 : BitVec 32 := Scalar.muli v25 c1_i32_487
  let v448 : BitVec 32 := Scalar.addi c0_i32_488 v447
  v448.toNat
def k0_dev8 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_499 : BitVec 32 := 1#32
  let v457 : BitVec 32 := Scalar.muli v14 c1_i32_499
  let v458 : BitVec 32 := Scalar.addi c0_i32_500 v457
  v458.toNat
def k0_dev9 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_670 : BitVec 32 := 1#32
  let v603 : BitVec 32 := Scalar.muli v25 c1_i32_670
  let v604 : BitVec 32 := Scalar.addi c0_i32_671 v603
  v604.toNat
def k0_dev10 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_682 : BitVec 32 := 1#32
  let v613 : BitVec 32 := Scalar.muli v14 c1_i32_682
  let v614 : BitVec 32 := Scalar.addi c0_i32_683 v613
  v614.toNat
def k0_dev11 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_817 : BitVec 32 := 1#32
  let v723 : BitVec 32 := Scalar.muli v25 c1_i32_817
  let v724 : BitVec 32 := Scalar.addi c0_i32_818 v723
  v724.toNat
def k0_dev12 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_829 : BitVec 32 := 1#32
  let v733 : BitVec 32 := Scalar.muli v14 c1_i32_829
  let v734 : BitVec 32 := Scalar.addi c0_i32_830 v733
  v734.toNat
def k0_dev13 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_964 : BitVec 32 := 1#32
  let v843 : BitVec 32 := Scalar.muli v25 c1_i32_964
  let v844 : BitVec 32 := Scalar.addi c0_i32_965 v843
  v844.toNat
def k0_dev14 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_976 : BitVec 32 := 1#32
  let v853 : BitVec 32 := Scalar.muli v14 c1_i32_976
  let v854 : BitVec 32 := Scalar.addi c0_i32_977 v853
  v854.toNat
def k0_dev15 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1111 : BitVec 32 := 1#32
  let v963 : BitVec 32 := Scalar.muli v25 c1_i32_1111
  let v964 : BitVec 32 := Scalar.addi c0_i32_1112 v963
  v964.toNat
def k0_dev16 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1123 : BitVec 32 := 1#32
  let v973 : BitVec 32 := Scalar.muli v14 c1_i32_1123
  let v974 : BitVec 32 := Scalar.addi c0_i32_1124 v973
  v974.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let v1104 : Index := Scalar.indexCast v25
  let c0_1271 : Index := 0#32
  let c0_1272 : Index := 0#32
  let c0_1273 : Index := 0#32
  ![v1104.toNat, 0, 0, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let v1133 : Index := Scalar.indexCast v25
  let c1_1294 : Index := 1#32
  let c0_1295 : Index := 0#32
  let c0_1296 : Index := 0#32
  ![v1133.toNat, 1, 0, 0]
def k0_off5 (d0 : Dev nD) (c0_i32_1298 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1297 : BitVec 32 := 1#32
  let v1137 : BitVec 32 := Scalar.addi v2 c1_i32_1297
  let v1138 : BitVec 32 := Scalar.subi v1137 c0_i32_1298
  let c8_i32_1299 : BitVec 32 := 8#32
  let c0_i32_1300 : BitVec 32 := 0#32
  let v1139 : BitVec 1 := Scalar.cmpi .eq c8_i32_1299 c0_i32_1300
  let c1_i32_1301 : BitVec 32 := 1#32
  let v1140 : BitVec 32 := Scalar.select v1139 c1_i32_1301 c8_i32_1299
  let v1141 : BitVec 32 := Scalar.remsi v1138 v1140
  let c0_i32_1303 : BitVec 32 := 0#32
  let v1143 : BitVec 1 := Scalar.cmpi .slt v1141 c0_i32_1303
  let c0_i32_1304 : BitVec 32 := 0#32
  let v1144 : BitVec 1 := Scalar.cmpi .slt v1140 c0_i32_1304
  let v1145 : BitVec 1 := Scalar.xori v1143 v1144
  let c0_i32_1302 : BitVec 32 := 0#32
  let v1142 : BitVec 1 := Scalar.cmpi .ne v1141 c0_i32_1302
  let v1146 : BitVec 1 := Scalar.andi v1145 v1142
  let v1147 : BitVec 32 := Scalar.addi v1141 v1140
  let v1148 : BitVec 32 := Scalar.select v1146 v1147 v1141
  let c0_i32_1309 : BitVec 32 := 0#32
  let c0_i32_1310 : BitVec 32 := 0#32
  let c0_i32_1311 : BitVec 32 := 0#32
  ![v1148.toNat, 0, 0, 0]
def k0_dev17 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1307 : BitVec 32 := 1#32
  let v1149 : BitVec 32 := Scalar.muli v25 c1_i32_1307
  let v1150 : BitVec 32 := Scalar.addi c0_i32_1308 v1149
  v1150.toNat
def k0_off6 (d0 : Dev nD) (c0_i32_1368 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1367 : BitVec 32 := 1#32
  let v1229 : BitVec 32 := Scalar.addi v2 c1_i32_1367
  let v1230 : BitVec 32 := Scalar.addi v1229 c0_i32_1368
  let c8_i32_1369 : BitVec 32 := 8#32
  let c0_i32_1370 : BitVec 32 := 0#32
  let v1231 : BitVec 1 := Scalar.cmpi .eq c8_i32_1369 c0_i32_1370
  let c1_i32_1371 : BitVec 32 := 1#32
  let v1232 : BitVec 32 := Scalar.select v1231 c1_i32_1371 c8_i32_1369
  let v1233 : BitVec 32 := Scalar.remsi v1230 v1232
  let c0_i32_1373 : BitVec 32 := 0#32
  let v1235 : BitVec 1 := Scalar.cmpi .slt v1233 c0_i32_1373
  let c0_i32_1374 : BitVec 32 := 0#32
  let v1236 : BitVec 1 := Scalar.cmpi .slt v1232 c0_i32_1374
  let v1237 : BitVec 1 := Scalar.xori v1235 v1236
  let c0_i32_1372 : BitVec 32 := 0#32
  let v1234 : BitVec 1 := Scalar.cmpi .ne v1233 c0_i32_1372
  let v1238 : BitVec 1 := Scalar.andi v1237 v1234
  let v1239 : BitVec 32 := Scalar.addi v1233 v1232
  let v1240 : BitVec 32 := Scalar.select v1238 v1239 v1233
  let c0_i32_1379 : BitVec 32 := 0#32
  let c0_i32_1380 : BitVec 32 := 0#32
  let c0_i32_1381 : BitVec 32 := 0#32
  ![v1240.toNat, 0, 0, 0]
def k0_dev18 (d0 : Dev nD) : Nat :=
  let c0_i32_1378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1377 : BitVec 32 := 1#32
  let v1241 : BitVec 32 := Scalar.muli v14 c1_i32_1377
  let v1242 : BitVec 32 := Scalar.addi c0_i32_1378 v1241
  v1242.toNat
def k0_off7 (d0 : Dev nD) (c0_i32_1386 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1385 : BitVec 32 := 1#32
  let v1251 : BitVec 32 := Scalar.addi v2 c1_i32_1385
  let v1252 : BitVec 32 := Scalar.subi v1251 c0_i32_1386
  let c8_i32_1387 : BitVec 32 := 8#32
  let c0_i32_1388 : BitVec 32 := 0#32
  let v1253 : BitVec 1 := Scalar.cmpi .eq c8_i32_1387 c0_i32_1388
  let c1_i32_1389 : BitVec 32 := 1#32
  let v1254 : BitVec 32 := Scalar.select v1253 c1_i32_1389 c8_i32_1387
  let v1255 : BitVec 32 := Scalar.remsi v1252 v1254
  let c0_i32_1391 : BitVec 32 := 0#32
  let v1257 : BitVec 1 := Scalar.cmpi .slt v1255 c0_i32_1391
  let c0_i32_1392 : BitVec 32 := 0#32
  let v1258 : BitVec 1 := Scalar.cmpi .slt v1254 c0_i32_1392
  let v1259 : BitVec 1 := Scalar.xori v1257 v1258
  let c0_i32_1390 : BitVec 32 := 0#32
  let v1256 : BitVec 1 := Scalar.cmpi .ne v1255 c0_i32_1390
  let v1260 : BitVec 1 := Scalar.andi v1259 v1256
  let v1261 : BitVec 32 := Scalar.addi v1255 v1254
  let v1262 : BitVec 32 := Scalar.select v1260 v1261 v1255
  let v1281 : Index := Scalar.indexCast v1262
  let c0_1407 : Index := 0#32
  let c0_1408 : Index := 0#32
  let c0_1409 : Index := 0#32
  ![v1281.toNat, 0, 0, 0]
def k0_off8 (d0 : Dev nD) (c0_i32_1386 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1385 : BitVec 32 := 1#32
  let v1251 : BitVec 32 := Scalar.addi v2 c1_i32_1385
  let v1252 : BitVec 32 := Scalar.subi v1251 c0_i32_1386
  let c8_i32_1387 : BitVec 32 := 8#32
  let c0_i32_1388 : BitVec 32 := 0#32
  let v1253 : BitVec 1 := Scalar.cmpi .eq c8_i32_1387 c0_i32_1388
  let c1_i32_1389 : BitVec 32 := 1#32
  let v1254 : BitVec 32 := Scalar.select v1253 c1_i32_1389 c8_i32_1387
  let v1255 : BitVec 32 := Scalar.remsi v1252 v1254
  let c0_i32_1391 : BitVec 32 := 0#32
  let v1257 : BitVec 1 := Scalar.cmpi .slt v1255 c0_i32_1391
  let c0_i32_1392 : BitVec 32 := 0#32
  let v1258 : BitVec 1 := Scalar.cmpi .slt v1254 c0_i32_1392
  let v1259 : BitVec 1 := Scalar.xori v1257 v1258
  let c0_i32_1390 : BitVec 32 := 0#32
  let v1256 : BitVec 1 := Scalar.cmpi .ne v1255 c0_i32_1390
  let v1260 : BitVec 1 := Scalar.andi v1259 v1256
  let v1261 : BitVec 32 := Scalar.addi v1255 v1254
  let v1262 : BitVec 32 := Scalar.select v1260 v1261 v1255
  let v1290 : Index := Scalar.indexCast v1262
  let c1_1417 : Index := 1#32
  let c0_1418 : Index := 0#32
  let c0_1419 : Index := 0#32
  ![v1290.toNat, 1, 0, 0]
def k0_off9 (d0 : Dev nD) (c0_i32_1428 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1427 : BitVec 32 := 1#32
  let v1299 : BitVec 32 := Scalar.addi v2 c1_i32_1427
  let v1300 : BitVec 32 := Scalar.addi v1299 c0_i32_1428
  let c8_i32_1429 : BitVec 32 := 8#32
  let c0_i32_1430 : BitVec 32 := 0#32
  let v1301 : BitVec 1 := Scalar.cmpi .eq c8_i32_1429 c0_i32_1430
  let c1_i32_1431 : BitVec 32 := 1#32
  let v1302 : BitVec 32 := Scalar.select v1301 c1_i32_1431 c8_i32_1429
  let v1303 : BitVec 32 := Scalar.remsi v1300 v1302
  let c0_i32_1433 : BitVec 32 := 0#32
  let v1305 : BitVec 1 := Scalar.cmpi .slt v1303 c0_i32_1433
  let c0_i32_1434 : BitVec 32 := 0#32
  let v1306 : BitVec 1 := Scalar.cmpi .slt v1302 c0_i32_1434
  let v1307 : BitVec 1 := Scalar.xori v1305 v1306
  let c0_i32_1432 : BitVec 32 := 0#32
  let v1304 : BitVec 1 := Scalar.cmpi .ne v1303 c0_i32_1432
  let v1308 : BitVec 1 := Scalar.andi v1307 v1304
  let v1309 : BitVec 32 := Scalar.addi v1303 v1302
  let v1310 : BitVec 32 := Scalar.select v1308 v1309 v1303
  let v1332 : Index := Scalar.indexCast v1310
  let c0_1453 : Index := 0#32
  let c0_1454 : Index := 0#32
  let c0_1455 : Index := 0#32
  ![v1332.toNat, 0, 0, 0]
def k0_off10 (d0 : Dev nD) (c0_i32_1428 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1427 : BitVec 32 := 1#32
  let v1299 : BitVec 32 := Scalar.addi v2 c1_i32_1427
  let v1300 : BitVec 32 := Scalar.addi v1299 c0_i32_1428
  let c8_i32_1429 : BitVec 32 := 8#32
  let c0_i32_1430 : BitVec 32 := 0#32
  let v1301 : BitVec 1 := Scalar.cmpi .eq c8_i32_1429 c0_i32_1430
  let c1_i32_1431 : BitVec 32 := 1#32
  let v1302 : BitVec 32 := Scalar.select v1301 c1_i32_1431 c8_i32_1429
  let v1303 : BitVec 32 := Scalar.remsi v1300 v1302
  let c0_i32_1433 : BitVec 32 := 0#32
  let v1305 : BitVec 1 := Scalar.cmpi .slt v1303 c0_i32_1433
  let c0_i32_1434 : BitVec 32 := 0#32
  let v1306 : BitVec 1 := Scalar.cmpi .slt v1302 c0_i32_1434
  let v1307 : BitVec 1 := Scalar.xori v1305 v1306
  let c0_i32_1432 : BitVec 32 := 0#32
  let v1304 : BitVec 1 := Scalar.cmpi .ne v1303 c0_i32_1432
  let v1308 : BitVec 1 := Scalar.andi v1307 v1304
  let v1309 : BitVec 32 := Scalar.addi v1303 v1302
  let v1310 : BitVec 32 := Scalar.select v1308 v1309 v1303
  let v1344 : Index := Scalar.indexCast v1310
  let c1_1466 : Index := 1#32
  let c0_1467 : Index := 0#32
  let c0_1468 : Index := 0#32
  ![v1344.toNat, 1, 0, 0]
def k0_dev19 (d0 : Dev nD) : Nat :=
  let c0_i32_1562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1561 : BitVec 32 := 1#32
  let v1443 : BitVec 32 := Scalar.muli v25 c1_i32_1561
  let v1444 : BitVec 32 := Scalar.addi c0_i32_1562 v1443
  v1444.toNat
def k0_dev20 (d0 : Dev nD) : Nat :=
  let c0_i32_1572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1571 : BitVec 32 := 1#32
  let v1453 : BitVec 32 := Scalar.muli v14 c1_i32_1571
  let v1454 : BitVec 32 := Scalar.addi c0_i32_1572 v1453
  v1454.toNat
def k0_dev21 (d0 : Dev nD) : Nat :=
  let c0_i32_1762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1761 : BitVec 32 := 1#32
  let v1661 : BitVec 32 := Scalar.muli v25 c1_i32_1761
  let v1662 : BitVec 32 := Scalar.addi c0_i32_1762 v1661
  v1662.toNat
def k0_dev22 (d0 : Dev nD) : Nat :=
  let c0_i32_1772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1771 : BitVec 32 := 1#32
  let v1671 : BitVec 32 := Scalar.muli v14 c1_i32_1771
  let v1672 : BitVec 32 := Scalar.addi c0_i32_1772 v1671
  v1672.toNat
def k0_dev23 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1961 : BitVec 32 := 1#32
  let v1879 : BitVec 32 := Scalar.muli v25 c1_i32_1961
  let v1880 : BitVec 32 := Scalar.addi c0_i32_1962 v1879
  v1880.toNat
def k0_dev24 (d0 : Dev nD) : Nat :=
  let c0_i32_1972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1971 : BitVec 32 := 1#32
  let v1889 : BitVec 32 := Scalar.muli v14 c1_i32_1971
  let v1890 : BitVec 32 := Scalar.addi c0_i32_1972 v1889
  v1890.toNat
def k0_dev25 (d0 : Dev nD) : Nat :=
  let c0_i32_2162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2161 : BitVec 32 := 1#32
  let v2097 : BitVec 32 := Scalar.muli v25 c1_i32_2161
  let v2098 : BitVec 32 := Scalar.addi c0_i32_2162 v2097
  v2098.toNat
def k0_dev26 (d0 : Dev nD) : Nat :=
  let c0_i32_2172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2171 : BitVec 32 := 1#32
  let v2107 : BitVec 32 := Scalar.muli v14 c1_i32_2171
  let v2108 : BitVec 32 := Scalar.addi c0_i32_2172 v2107
  v2108.toNat
def k0_dev27 (d0 : Dev nD) : Nat :=
  let c0_i32_2362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2361 : BitVec 32 := 1#32
  let v2315 : BitVec 32 := Scalar.muli v25 c1_i32_2361
  let v2316 : BitVec 32 := Scalar.addi c0_i32_2362 v2315
  v2316.toNat
def k0_dev28 (d0 : Dev nD) : Nat :=
  let c0_i32_2372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2371 : BitVec 32 := 1#32
  let v2325 : BitVec 32 := Scalar.muli v14 c1_i32_2371
  let v2326 : BitVec 32 := Scalar.addi c0_i32_2372 v2325
  v2326.toNat
def k0_dev29 (d0 : Dev nD) : Nat :=
  let c0_i32_2561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2560 : BitVec 32 := 1#32
  let v2533 : BitVec 32 := Scalar.muli v25 c1_i32_2560
  let v2534 : BitVec 32 := Scalar.addi c0_i32_2561 v2533
  v2534.toNat
def k0_dev30 (d0 : Dev nD) : Nat :=
  let c0_i32_2571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2570 : BitVec 32 := 1#32
  let v2543 : BitVec 32 := Scalar.muli v14 c1_i32_2570
  let v2544 : BitVec 32 := Scalar.addi c0_i32_2571 v2543
  v2544.toNat
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x512x2048 : Shape := ⟨3, ![2, 512, 2048]⟩
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S2x512x1024 : Shape := ⟨3, ![2, 512, 1024]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x1024, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Prog.lean ====
/-
# The kernel's body, step by step

The kernel is a ring of eight devices run in three stretches: the setting up (the compressed activations, the first
partial products, the handshake with both neighbours), seven reduce-scatter steps, and seven all-gather hops with a
last projection. Here each step is a program of its own, written once at a symbolic step number, and the printed
body is proved to be their sequence.
-/
module

public import proofs.«01_k».proof.Proof.Gen.KernelIdeal
public import proofs.«01_k».proof.Proof.Gen.KernelIdeal.Skeleton

@[expose] public section

noncomputable section

namespace Cert.KernelIdeal.Mla

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .vmem S2x512x2048 .f32 := Memref.whole cc0_stg0_0
abbrev wdM : Memref sig .tc .vmem S2048x128 .f32 := Memref.whole cc0_stg1_0
abbrev wkM : Memref sig .tc .vmem S128x2048 .f32 := Memref.whole cc0_stg2_0
abbrev wvM : Memref sig .tc .vmem S128x2048 .f32 := Memref.whole cc0_stg3_0
abbrev wqM : Memref sig .tc .vmem S2048x256 .bf16 := Memref.whole cc0_stg4_0
abbrev wqrM : Memref sig .tc .vmem S2048x64 .bf16 := Memref.whole cc0_stg5_0
abbrev wkrM : Memref sig .tc .vmem S2048x32 .bf16 := Memref.whole cc0_stg6_0
abbrev woM : Memref sig .tc .hbm S2048x2048 .bf16 := Memref.whole main_v35
abbrev outM : Memref sig .tc .vmem S2x512x2048 .f32 := Memref.whole cc0_stg7_0
abbrev cM : Memref sig .tc .vmem S2x512x128 .f32 := Memref.whole cc0_scratch0
abbrev xbM : Memref sig .tc .vmem S2x512x2048 .bf16 := Memref.whole cc0_scratch1
abbrev ksM : Memref sig .tc .vmem S2x2x512x256 .bf16 := Memref.whole cc0_scratch2
abbrev vsM : Memref sig .tc .vmem S2x2x512x256 .bf16 := Memref.whole cc0_scratch3
abbrev rkM : Memref sig .tc .vmem S7x2x512x256 .bf16 := Memref.whole cc0_scratch4
abbrev rvM : Memref sig .tc .vmem S7x2x512x256 .bf16 := Memref.whole cc0_scratch5
abbrev kfM : Memref sig .tc .vmem S2x512x256 .f32 := Memref.whole cc0_scratch6
abbrev vfM : Memref sig .tc .vmem S2x512x256 .f32 := Memref.whole cc0_scratch7
abbrev ofM : Memref sig .tc .vmem S8x2x512x128 .bf16 := Memref.whole cc0_scratch8
abbrev obM : Memref sig .tc .vmem S8x2x512x128 .bf16 := Memref.whole cc0_scratch9
abbrev qM : Memref sig .tc .vmem S2x512x256 .bf16 := Memref.whole cc0_scratch10
abbrev qrM : Memref sig .tc .vmem S2x512x64 .bf16 := Memref.whole cc0_scratch11
abbrev krM : Memref sig .tc .vmem S2x512x32 .bf16 := Memref.whole cc0_scratch12
abbrev wfM : Memref sig .tc .vmem S2x128x2048 .bf16 := Memref.whole cc0_scratch13
abbrev wbM : Memref sig .tc .vmem S2x128x2048 .bf16 := Memref.whole cc0_scratch14

/-! ## The places accessed -/

/-- The other of two slots. -/
abbrev par (s : ℕ) : Fin 2 := ⟨s % 2, Nat.mod_lt _ (by decide)⟩

theorem inb3 {n a b : ℕ} (i : Fin n) (o b' : ℕ) (h : o + b' ≤ b) :
    ∀ k, (![i.val, 0, o] : Fin 3 → ℕ) k + (![1, a, b'] : Fin 3 → ℕ) k ≤ (![n, a, b] : Fin 3 → ℕ) k := by
  have := i.isLt
  intro k; fin_cases k <;> simp <;> omega
theorem inb4 {n l a b : ℕ} (i : Fin n) (j : ℕ) (l' : ℕ) (h : j + l' ≤ l) :
    ∀ k, (![i.val, j, 0, 0] : Fin 4 → ℕ) k + (![1, l', a, b] : Fin 4 → ℕ) k ≤ (![n, l, a, b] : Fin 4 → ℕ) k := by
  have := i.isLt
  intro k; fin_cases k <;> simp <;> omega

/-- One batch row of a buffer of two. -/
abbrev rX (b : Fin 2) : Rect S2x512x2048 := Rect.unit (s := S2x512x2048) ![b.val, 0, 0] S1x512x2048.size (inb3 b 0 2048 (by decide))
abbrev rC (b : Fin 2) : Rect S2x512x128 := Rect.unit (s := S2x512x128) ![b.val, 0, 0] S1x512x128.size (inb3 b 0 128 (by decide))
abbrev rK (b : Fin 2) : Rect S2x512x256 := Rect.unit (s := S2x512x256) ![b.val, 0, 0] S1x512x256.size (inb3 b 0 256 (by decide))
abbrev rQr (b : Fin 2) : Rect S2x512x64 := Rect.unit (s := S2x512x64) ![b.val, 0, 0] S1x512x64.size (inb3 b 0 64 (by decide))
abbrev rKr (b : Fin 2) : Rect S2x512x32 := Rect.unit (s := S2x512x32) ![b.val, 0, 0] S1x512x32.size (inb3 b 0 32 (by decide))
/-- One head of one batch row. -/
abbrev rKh (b h : Fin 2) : Rect S2x512x256 := Rect.unit (s := S2x512x256) ![b.val, 0, 128 * h.val] S1x512x128.size (inb3 b _ 128 (by omega))
abbrev rQrh (b h : Fin 2) : Rect S2x512x64 := Rect.unit (s := S2x512x64) ![b.val, 0, 32 * h.val] S1x512x32.size (inb3 b _ 32 (by omega))
/-- One slot of the weight rows fetched. -/
abbrev rW (p : Fin 2) : Rect S2x128x2048 := Rect.unit (s := S2x128x2048) ![p.val, 0, 0] S1x128x2048.size (inb3 p 0 2048 (by decide))
/-- The weight blocks: all of `Wdkv`'s shard, the columns of block `t` of the permuted `Wuk` and `Wuv`, the query weights. -/
abbrev rWd : Rect S2048x128 := Rect.unit (s := S2048x128) ![0, 0] S2048x128.size inb_S2048x128_S2048x128_0_0
theorem inbWt (t : Fin 8) : ∀ k, (![0, 256 * t.val] : Fin 2 → ℕ) k + S128x256.size k ≤ S128x2048.size k := by
  revert t; decide
abbrev rWt (t : Fin 8) : Rect S128x2048 := Rect.unit (s := S128x2048) ![0, 256 * t.val] S128x256.size (inbWt t)
abbrev rWq : Rect S2048x256 := Rect.unit (s := S2048x256) ![0, 0] S2048x256.size inb_S2048x256_S2048x256_0_0
abbrev rWqr : Rect S2048x64 := Rect.unit (s := S2048x64) ![0, 0] S2048x64.size inb_S2048x64_S2048x64_0_0
abbrev rWkr : Rect S2048x32 := Rect.unit (s := S2048x32) ![0, 0] S2048x32.size inb_S2048x32_S2048x32_0_0
/-- One batch row of one slot of the sums on their way. -/
abbrev rS (p b : Fin 2) : Rect S2x2x512x256 := Rect.unit (s := S2x2x512x256) ![p.val, b.val, 0, 0] S1x1x512x256.size (inb4 p _ 1 (by omega))
abbrev rR (s : Fin 7) (b : Fin 2) : Rect S7x2x512x256 := Rect.unit (s := S7x2x512x256) ![s.val, b.val, 0, 0] S1x1x512x256.size (inb4 s _ 1 (by omega))
/-- One slot of them. -/
abbrev rSs (p : Fin 2) : Rect S2x2x512x256 := Rect.unit (s := S2x2x512x256) ![p.val, 0, 0, 0] S1x2x512x256.size (inb4 p 0 2 (by decide))
abbrev rRs (s : Fin 7) : Rect S7x2x512x256 := Rect.unit (s := S7x2x512x256) ![s.val, 0, 0, 0] S1x2x512x256.size (inb4 s 0 2 (by decide))

theorem words_S (p : Fin 2) : (rSs p).WholeWords (EltTy.packing .bf16) :=
  match p with
  | 0 => wordsbf16_S2x2x512x256_S1x2x512x256_0_0_0_0
  | 1 => wordsbf16_S2x2x512x256_S1x2x512x256_1_0_0_0
theorem words_R (s : Fin 7) : (rRs s).WholeWords (EltTy.packing .bf16) :=
  match s with
  | 0 => wordsbf16_S7x2x512x256_S1x2x512x256_0_0_0_0
  | 1 => wordsbf16_S7x2x512x256_S1x2x512x256_1_0_0_0
  | 2 => wordsbf16_S7x2x512x256_S1x2x512x256_2_0_0_0
  | 3 => wordsbf16_S7x2x512x256_S1x2x512x256_3_0_0_0
  | 4 => wordsbf16_S7x2x512x256_S1x2x512x256_4_0_0_0
  | 5 => wordsbf16_S7x2x512x256_S1x2x512x256_5_0_0_0
  | 6 => wordsbf16_S7x2x512x256_S1x2x512x256_6_0_0_0
theorem packed_S (p b : Fin 2) : (rS p b).PackedRows (EltTy.packing .bf16) :=
  match p, b with
  | 0, 0 => packedbf16_S2x2x512x256_S1x1x512x256_0_0_0_0
  | 0, 1 => packedbf16_S2x2x512x256_S1x1x512x256_0_1_0_0
  | 1, 0 => packedbf16_S2x2x512x256_S1x1x512x256_1_0_0_0
  | 1, 1 => packedbf16_S2x2x512x256_S1x1x512x256_1_1_0_0
theorem packed_X (b : Fin 2) : (rX b).PackedRows (EltTy.packing .bf16) :=
  match b with
  | 0 => packedbf16_S2x512x2048_S1x512x2048_0_0_0
  | 1 => packedbf16_S2x512x2048_S1x512x2048_1_0_0
theorem packed_K (b : Fin 2) : (rK b).PackedRows (EltTy.packing .bf16) :=
  match b with
  | 0 => packedbf16_S2x512x256_S1x512x256_0_0_0
  | 1 => packedbf16_S2x512x256_S1x512x256_1_0_0
theorem packed_Qr (b : Fin 2) : (rQr b).PackedRows (EltTy.packing .bf16) :=
  match b with
  | 0 => packedbf16_S2x512x64_S1x512x64_0_0_0
  | 1 => packedbf16_S2x512x64_S1x512x64_1_0_0
theorem packed_Kr (b : Fin 2) : (rKr b).PackedRows (EltTy.packing .bf16) :=
  match b with
  | 0 => packedbf16_S2x512x32_S1x512x32_0_0_0
  | 1 => packedbf16_S2x512x32_S1x512x32_1_0_0
theorem words_W (p : Fin 2) : (rW p).WholeWords (EltTy.packing .bf16) :=
  match p with
  | 0 => wordsbf16_S2x128x2048_S1x128x2048_0_0_0
  | 1 => wordsbf16_S2x128x2048_S1x128x2048_1_0_0

/-- Device `d`'s own slot of the gathered outputs, one batch row of it. -/
def ownOff (d : Dev nD) : Fin 2 → Fin S8x2x512x128.rank → ℕ
  | 0 => k0_off3 d
  | 1 => k0_off4 d
theorem ownOff_inb (d : Dev nD) : (b : Fin 2) → ∀ k, ownOff d b k + S1x1x512x128.size k ≤ S8x2x512x128.size k
  | 0 => k0_off3_inb d
  | 1 => k0_off4_inb d
abbrev rOwn (d : Dev nD) (b : Fin 2) : Rect S8x2x512x128 := Rect.unit (s := S8x2x512x128) (ownOff d b) S1x1x512x128.size (ownOff_inb d b)

/-! ## The semaphores -/

abbrev sem7 (a : DmaSems sig S7) (s : Fin 7) : DmaSem sig :=
  ((a.slice (Rect.unit (s := S7) ![s.val] S1.size (by revert s; decide))).squeeze S_ squeezes_S1_S_).sem
abbrev sem2 (a : DmaSems sig S2) (p : Fin 2) : DmaSem sig :=
  ((a.slice (Rect.unit (s := S2) ![p.val] S1.size (by revert p; decide))).squeeze S_ squeezes_S1_S_).sem

/-! ## The slots the copies move -/

abbrev ksS (p : Fin 2) : Memref sig .tc .vmem S2x512x256 .bf16 := (ksM.slice (rSs p) (fun _ => rfl)).squeeze S2x512x256 squeezes_S1x2x512x256_S2x512x256
abbrev vsS (p : Fin 2) : Memref sig .tc .vmem S2x512x256 .bf16 := (vsM.slice (rSs p) (fun _ => rfl)).squeeze S2x512x256 squeezes_S1x2x512x256_S2x512x256
abbrev rkS (s : Fin 7) : Memref sig .tc .vmem S2x512x256 .bf16 := (rkM.slice (rRs s) (fun _ => rfl)).squeeze S2x512x256 squeezes_S1x2x512x256_S2x512x256
abbrev rvS (s : Fin 7) : Memref sig .tc .vmem S2x512x256 .bf16 := (rvM.slice (rRs s) (fun _ => rfl)).squeeze S2x512x256 squeezes_S1x2x512x256_S2x512x256
abbrev rOf (d : Dev nD) (s : Fin 7) : Rect S8x2x512x128 := Rect.unit (s := S8x2x512x128) (k0_off5 d (BitVec.ofNat 32 s.val)) S1x2x512x128.size (k0_off5_inb d s)
abbrev rOb (d : Dev nD) (s : Fin 7) : Rect S8x2x512x128 := Rect.unit (s := S8x2x512x128) (k0_off6 d (BitVec.ofNat 32 s.val)) S1x2x512x128.size (k0_off6_inb d s)
abbrev ofS (d : Dev nD) (s : Fin 7) : Memref sig .tc .vmem S2x512x128 .bf16 := (ofM.slice (rOf d s) (fun _ => rfl)).squeeze S2x512x128 squeezes_S1x2x512x128_S2x512x128
abbrev obS (d : Dev nD) (s : Fin 7) : Memref sig .tc .vmem S2x512x128 .bf16 := (obM.slice (rOb d s) (fun _ => rfl)).squeeze S2x512x128 squeezes_S1x2x512x128_S2x512x128
abbrev wfS (p : Fin 2) : Memref sig .tc .vmem S128x2048 .bf16 := (wfM.slice (rW p) (fun _ => rfl)).squeeze S128x2048 squeezes_S1x128x2048_S128x2048
abbrev wbS (p : Fin 2) : Memref sig .tc .vmem S128x2048 .bf16 := (wbM.slice (rW p) (fun _ => rfl)).squeeze S128x2048 squeezes_S1x128x2048_S128x2048
abbrev woF (d : Dev nD) (t : Fin 8) : Memref sig .tc .hbm S128x2048 .bf16 := woM.slice (Rect.unit (s := S2048x2048) (k0_off1 d (BitVec.ofNat 32 t.val)) S128x2048.size (k0_off1_inb d t)) (fun _ => rfl)
abbrev woB (d : Dev nD) (t : Fin 8) : Memref sig .tc .hbm S128x2048 .bf16 := woM.slice (Rect.unit (s := S2048x2048) (k0_off2 d (BitVec.ofNat 32 t.val)) S128x2048.size (k0_off2_inb d t)) (fun _ => rfl)
/-- One batch row of the slot projected at step `t`. -/
def pfOff (d : Dev nD) (t : Fin 8) : Fin 2 → Fin S8x2x512x128.rank → ℕ
  | 0 => k0_off7 d (BitVec.ofNat 32 t.val)
  | 1 => k0_off8 d (BitVec.ofNat 32 t.val)
theorem pfOff_inb (d : Dev nD) (t : Fin 8) : (b : Fin 2) → ∀ k, pfOff d t b k + S1x1x512x128.size k ≤ S8x2x512x128.size k
  | 0 => k0_off7_inb d t
  | 1 => k0_off8_inb d t
def pbOff (d : Dev nD) (t : Fin 8) : Fin 2 → Fin S8x2x512x128.rank → ℕ
  | 0 => k0_off9 d (BitVec.ofNat 32 t.val)
  | 1 => k0_off10 d (BitVec.ofNat 32 t.val)
theorem pbOff_inb (d : Dev nD) (t : Fin 8) : (b : Fin 2) → ∀ k, pbOff d t b k + S1x1x512x128.size k ≤ S8x2x512x128.size k
  | 0 => k0_off9_inb d t
  | 1 => k0_off10_inb d t
abbrev rPf (d : Dev nD) (t : Fin 8) (b : Fin 2) : Rect S8x2x512x128 := Rect.unit (s := S8x2x512x128) (pfOff d t b) S1x1x512x128.size (pfOff_inb d t b)
abbrev rPb (d : Dev nD) (t : Fin 8) (b : Fin 2) : Rect S8x2x512x128 := Rect.unit (s := S8x2x512x128) (pbOff d t b) S1x1x512x128.size (pbOff_inb d t b)

/-! ## The steps -/

/-- A program of the kernel. -/
abbrev Pr (F : FTy → Type) [FloatOps F] (α : Type) : Type _ := Prog (TpuEff nD τ sig (Elt F) Λ₀ .tc) α

theorem woF_words (d : Dev nD) (t : Fin 8) : (woF d t).view.WordExact :=
  (Memref.isWhole_whole main_v35).wordExact_slice rfl _ (k0_off1_wordsbf16 d t)
theorem woB_words (d : Dev nD) (t : Fin 8) : (woB d t).view.WordExact :=
  (Memref.isWhole_whole main_v35).wordExact_slice rfl _ (k0_off2_wordsbf16 d t)
theorem wfS_words (p : Fin 2) : (wfS p).view.WordExact :=
  ((Memref.isWhole_whole cc0_scratch13).wordExact_slice rfl _ (words_W p)).reshape _ _
theorem wbS_words (p : Fin 2) : (wbS p).view.WordExact :=
  ((Memref.isWhole_whole cc0_scratch14).wordExact_slice rfl _ (words_W p)).reshape _ _
theorem ksS_words (p : Fin 2) : (ksS p).view.WordExact :=
  ((Memref.isWhole_whole cc0_scratch2).wordExact_slice rfl _ (words_S p)).reshape _ _
theorem vsS_words (p : Fin 2) : (vsS p).view.WordExact :=
  ((Memref.isWhole_whole cc0_scratch3).wordExact_slice rfl _ (words_S p)).reshape _ _
theorem rkS_words (s : Fin 7) : (rkS s).view.WordExact :=
  ((Memref.isWhole_whole cc0_scratch4).wordExact_slice rfl _ (words_R s)).reshape _ _
theorem rvS_words (s : Fin 7) : (rvS s).view.WordExact :=
  ((Memref.isWhole_whole cc0_scratch5).wordExact_slice rfl _ (words_R s)).reshape _ _
theorem ofS_words (d : Dev nD) (s : Fin 7) : (ofS d s).view.WordExact :=
  ((Memref.isWhole_whole cc0_scratch8).wordExact_slice rfl _ (k0_off5_wordsbf16 d s)).reshape _ _
theorem obS_words (d : Dev nD) (s : Fin 7) : (obS d s).view.WordExact :=
  ((Memref.isWhole_whole cc0_scratch9).wordExact_slice rfl _ (k0_off6_wordsbf16 d s)).reshape _ _

/-- The right and the left neighbour of the ring, as the kernel computes them. -/
abbrev rgt (d : Dev nD) : Dev nD := ⟨k0_dev3 d, k0_dev3_lt d⟩
abbrev lft (d : Dev nD) : Dev nD := ⟨k0_dev4 d, k0_dev4_lt d⟩

/-- Fetch the output-projection rows of step `t`. -/
def fetchF (d : Dev nD) (t : Fin 8) : Pr F PUnit :=
  Prog.lift (.enqueueDma (woF d t) (.here (wfS (par t))) (.dma (sem2 cc0_scratch23 (par t))) (woF_words d t) (wfS_words _) ⟨Or.inl rfl, trivial⟩)
def fetchB (d : Dev nD) (t : Fin 8) : Pr F PUnit :=
  Prog.lift (.enqueueDma (woB d t) (.here (wbS (par t))) (.dma (sem2 cc0_scratch24 (par t))) (woB_words d t) (wbS_words _) ⟨Or.inl rfl, trivial⟩)

/-- The compressed activations of one batch row. -/
def cStep (b : Fin 2) : Pr F PUnit := do
  let x : Vec F S1x512x2048 .f32 ← Prog.lift (.load xM (rX b).toLoadRect (View.loadsAt_vmem h_S1x512x2048))
  let w : Vec F S2048x128 .f32 ← Prog.lift (.load wdM rWd.toLoadRect (View.loadsAt_vmem h_S2048x128))
  let _ : Vec F S1x512x128 .f32 ← Prog.lift (.load cM (rC b).toLoadRect (View.loadsAt_vmem h_S1x512x128))
  Prog.lift (.store cM (rC b) (k0_pay2 x w) Finset.univ (View.stores_vmem_bits_univ h_S1x512x128 rfl) (.inl rfl))

/-- The partial keys (values) of block `t`. -/
def kPart (t : Fin 8) (b : Fin 2) : Pr F PUnit := do
  let c : Vec F S1x512x128 .f32 ← Prog.lift (.load cM (rC b).toLoadRect (View.loadsAt_vmem h_S1x512x128))
  let w : Vec F S128x256 .f32 ← Prog.lift (.load wkM (rWt t).toLoadRect (View.loadsAt_vmem h_S128x256))
  let _ : Vec F S1x512x256 .f32 ← Prog.lift (.load kfM (rK b).toLoadRect (View.loadsAt_vmem h_S1x512x256))
  Prog.lift (.store kfM (rK b) (k0_pay4 c w) Finset.univ (View.stores_vmem_bits_univ h_S1x512x256 rfl) (.inl rfl))
def vPart (t : Fin 8) (b : Fin 2) : Pr F PUnit := do
  let c : Vec F S1x512x128 .f32 ← Prog.lift (.load cM (rC b).toLoadRect (View.loadsAt_vmem h_S1x512x128))
  let w : Vec F S128x256 .f32 ← Prog.lift (.load wvM (rWt t).toLoadRect (View.loadsAt_vmem h_S128x256))
  let _ : Vec F S1x512x256 .f32 ← Prog.lift (.load vfM (rK b).toLoadRect (View.loadsAt_vmem h_S1x512x256))
  Prog.lift (.store vfM (rK b) (k0_pay4 c w) Finset.univ (View.stores_vmem_bits_univ h_S1x512x256 rfl) (.inl rfl))

/-- The first partial sums, narrowed for the way. -/
def narrow (b : Fin 2) : Pr F PUnit := do
  let k : Vec F S1x512x256 .f32 ← Prog.lift (.load kfM (rK b).toLoadRect (View.loadsAt_vmem h_S1x512x256))
  let _ : Vec F S1x1x512x256 .bf16 ← Prog.lift (.load ksM (rS 0 b).toLoadRect (View.loadsAt_vmem h_S1x1x512x256))
  Prog.lift (.store ksM (rS 0 b) (k0_pay11 k) Finset.univ (View.stores_vmem h_S1x1x512x256 ((Memref.isWhole_whole cc0_scratch2).storeExact_slice rfl _ (packed_S 0 b)) (fun _ => rfl)) (.inl rfl))
  let v : Vec F S1x512x256 .f32 ← Prog.lift (.load vfM (rK b).toLoadRect (View.loadsAt_vmem h_S1x512x256))
  let _ : Vec F S1x1x512x256 .bf16 ← Prog.lift (.load vsM (rS 0 b).toLoadRect (View.loadsAt_vmem h_S1x1x512x256))
  Prog.lift (.store vsM (rS 0 b) (k0_pay11 v) Finset.univ (View.stores_vmem h_S1x1x512x256 ((Memref.isWhole_whole cc0_scratch3).storeExact_slice rfl _ (packed_S 0 b)) (fun _ => rfl)) (.inl rfl))

/-- The handshake's counter. -/
abbrev barM : Sems sig S_ := SemArray.scalar (sig.barrier 0 rfl)

/-- The handshake with both neighbours. -/
def shake (d : Dev nD) : Pr F PUnit := do
  semSignalWord (lft d) barM.sem 1#32
  semSignalWord (rgt d) barM.sem 1#32
  semWaitWord barM.sem 2#32

/-- Everything before the first copy to a neighbour. -/
def setUp (d : Dev nD) : Pr F PUnit := do
  fetchF d 0; fetchB d 0; fetchF d 1; fetchB d 1
  cStep 0; cStep 1
  kPart 0 0; kPart 0 1; vPart 0 0; vPart 0 1
  narrow 0; narrow 1
  shake d

/-- The two copies of reduce-scatter step `s`. -/
def rsSend (d : Dev nD) (s : Fin 7) : Pr F PUnit := do
  Prog.lift (.enqueueDma (ksS (par s)) (.remote (Dev.tc (rgt d)) (rkS s) (.dma (sem7 cc0_scratch15 s))) (.dma (sem7 cc0_scratch16 s)) (ksS_words _) (rkS_words s) ⟨⟨rfl, Or.inl rfl⟩, trivial⟩)
  Prog.lift (.enqueueDma (vsS (par s)) (.remote (Dev.tc (lft d)) (rvS s) (.dma (sem7 cc0_scratch17 s))) (.dma (sem7 cc0_scratch18 s)) (vsS_words _) (rvS_words s) ⟨⟨rfl, Or.inl rfl⟩, trivial⟩)

/-- The four waits of reduce-scatter step `s`. -/
def rsWait (s : Fin 7) : Pr F PUnit := do
  Prog.lift (.waitDma2 (sem7 cc0_scratch15 s) (rkS s) (ksS (par s)) (rkS_words s) (ksS_words _))
  Prog.lift (.waitDma2 (sem7 cc0_scratch16 s) (ksS (par s)) (rkS s) (ksS_words _) (rkS_words s))
  Prog.lift (.waitDma2 (sem7 cc0_scratch17 s) (rvS s) (vsS (par s)) (rvS_words s) (vsS_words _))
  Prog.lift (.waitDma2 (sem7 cc0_scratch18 s) (vsS (par s)) (rvS s) (vsS_words _) (rvS_words s))

/-- The narrowed activations; the queries; the rotary queries and keys: the work done while the first copies fly. -/
def xbStep (b : Fin 2) : Pr F PUnit := do
  let x : Vec F S1x512x2048 .f32 ← Prog.lift (.load xM (rX b).toLoadRect (View.loadsAt_vmem h_S1x512x2048))
  let _ : Vec F S1x512x2048 .bf16 ← Prog.lift (.load xbM (rX b).toLoadRect (View.loadsAt_vmem h_S1x512x2048))
  Prog.lift (.store xbM (rX b) (k0_pay14 x) Finset.univ (View.stores_vmem h_S1x512x2048 ((Memref.isWhole_whole cc0_scratch1).storeExact_slice rfl _ (packed_X b)) (fun _ => rfl)) (.inl rfl))
def qStep (b : Fin 2) : Pr F PUnit := do
  let x : Vec F S1x512x2048 .bf16 ← Prog.lift (.load xbM (rX b).toLoadRect (View.loadsAt_vmem h_S1x512x2048))
  let w : Vec F S2048x256 .bf16 ← Prog.lift (.load wqM rWq.toLoadRect (View.loadsAt_vmem h_S2048x256))
  let _ : Vec F S1x512x256 .bf16 ← Prog.lift (.load qM (rK b).toLoadRect (View.loadsAt_vmem h_S1x512x256))
  Prog.lift (.store qM (rK b) (k0_pay28 x w) Finset.univ (View.stores_vmem h_S1x512x256 ((Memref.isWhole_whole cc0_scratch10).storeExact_slice rfl _ (packed_K b)) (fun _ => rfl)) (.inl rfl))
def rotStep (b : Fin 2) : Pr F PUnit := do
  let x : Vec F S1x512x2048 .bf16 ← Prog.lift (.load xbM (rX b).toLoadRect (View.loadsAt_vmem h_S1x512x2048))
  let w : Vec F S2048x64 .bf16 ← Prog.lift (.load wqrM rWqr.toLoadRect (View.loadsAt_vmem h_S2048x64))
  let _ : Vec F S1x512x64 .bf16 ← Prog.lift (.load qrM (rQr b).toLoadRect (View.loadsAt_vmem h_S1x512x64))
  Prog.lift (.store qrM (rQr b) (k0_pay41 x w) Finset.univ (View.stores_vmem h_S1x512x64 ((Memref.isWhole_whole cc0_scratch11).storeExact_slice rfl _ (packed_Qr b)) (fun _ => rfl)) (.inl rfl))
  let x' : Vec F S1x512x2048 .bf16 ← Prog.lift (.load xbM (rX b).toLoadRect (View.loadsAt_vmem h_S1x512x2048))
  let w' : Vec F S2048x32 .bf16 ← Prog.lift (.load wkrM rWkr.toLoadRect (View.loadsAt_vmem h_S2048x32))
  let _ : Vec F S1x512x32 .bf16 ← Prog.lift (.load krM (rKr b).toLoadRect (View.loadsAt_vmem h_S1x512x32))
  Prog.lift (.store krM (rKr b) (k0_pay42 x' w') Finset.univ (View.stores_vmem h_S1x512x32 ((Memref.isWhole_whole cc0_scratch12).storeExact_slice rfl _ (packed_Kr b)) (fun _ => rfl)) (.inl rfl))

/-- The work of step `s` beside the partial sums. -/
def during (s : Fin 7) : Pr F PUnit :=
  match s with
  | 0 => do xbStep 0; xbStep 1
  | 1 => do qStep 0; qStep 1
  | 2 => do rotStep 0; rotStep 1
  | 3 => pure ⟨⟩
  | 4 => pure ⟨⟩
  | 5 => pure ⟨⟩
  | 6 => pure ⟨⟩

/-- What arrived is added and narrowed for the next step. -/
def accStep (s : Fin 7) (p b : Fin 2) : Pr F PUnit := do
  let k : Vec F S1x512x256 .f32 ← Prog.lift (.load kfM (rK b).toLoadRect (View.loadsAt_vmem h_S1x512x256))
  let r : Vec F S1x1x512x256 .bf16 ← Prog.lift (.load rkM (rR s b).toLoadRect (View.loadsAt_vmem h_S1x1x512x256))
  let v : Vec F S1x512x256 .f32 ← Prog.lift (.load vfM (rK b).toLoadRect (View.loadsAt_vmem h_S1x512x256))
  let u : Vec F S1x1x512x256 .bf16 ← Prog.lift (.load rvM (rR s b).toLoadRect (View.loadsAt_vmem h_S1x1x512x256))
  let _ : Vec F S1x1x512x256 .bf16 ← Prog.lift (.load ksM (rS p b).toLoadRect (View.loadsAt_vmem h_S1x1x512x256))
  Prog.lift (.store ksM (rS p b) (k0_pay35 k r) Finset.univ (View.stores_vmem h_S1x1x512x256 ((Memref.isWhole_whole cc0_scratch2).storeExact_slice rfl _ (packed_S p b)) (fun _ => rfl)) (.inl rfl))
  let _ : Vec F S1x1x512x256 .bf16 ← Prog.lift (.load vsM (rS p b).toLoadRect (View.loadsAt_vmem h_S1x1x512x256))
  Prog.lift (.store vsM (rS p b) (k0_pay35 v u) Finset.univ (View.stores_vmem h_S1x1x512x256 ((Memref.isWhole_whole cc0_scratch3).storeExact_slice rfl _ (packed_S p b)) (fun _ => rfl)) (.inl rfl))
/-- After the last step the sum itself is kept. -/
def lastAcc (b : Fin 2) : Pr F PUnit := do
  let k : Vec F S1x512x256 .f32 ← Prog.lift (.load kfM (rK b).toLoadRect (View.loadsAt_vmem h_S1x512x256))
  let r : Vec F S1x1x512x256 .bf16 ← Prog.lift (.load rkM (rR 6 b).toLoadRect (View.loadsAt_vmem h_S1x1x512x256))
  let v : Vec F S1x512x256 .f32 ← Prog.lift (.load vfM (rK b).toLoadRect (View.loadsAt_vmem h_S1x512x256))
  let u : Vec F S1x1x512x256 .bf16 ← Prog.lift (.load rvM (rR 6 b).toLoadRect (View.loadsAt_vmem h_S1x1x512x256))
  let _ : Vec F S1x512x256 .f32 ← Prog.lift (.load kfM (rK b).toLoadRect (View.loadsAt_vmem h_S1x512x256))
  Prog.lift (.store kfM (rK b) (k0_pay93 k r) Finset.univ (View.stores_vmem_bits_univ h_S1x512x256 rfl) (.inl rfl))
  let _ : Vec F S1x512x256 .f32 ← Prog.lift (.load vfM (rK b).toLoadRect (View.loadsAt_vmem h_S1x512x256))
  Prog.lift (.store vfM (rK b) (k0_pay93 v u) Finset.univ (View.stores_vmem_bits_univ h_S1x512x256 rfl) (.inl rfl))

/-- The part of a reduce-scatter step before what arrived is added. -/
def rsStep (d : Dev nD) (s : Fin 7) : Pr F PUnit := do
  rsSend d s
  during s
  kPart s.succ 0; kPart s.succ 1; vPart s.succ 0; vPart s.succ 1
  rsWait s

/-- The attention output of one head and one batch row. -/
def attnPay (q : Vec F S1x512x128 .bf16) (k v : Vec F S1x512x128 .f32) (qr kr : Vec F S1x512x32 .bf16) : FVec F S1x1x512x128 .bf16 :=
  k0_pay104 (k0_pay103 q k v qr kr)
theorem packed_own (d : Dev nD) (b : Fin 2) : (rOwn d b).PackedRows (EltTy.packing .bf16) :=
  match b with
  | 0 => k0_off3_packedbf16 d
  | 1 => k0_off4_packedbf16 d
def attnIn (h b : Fin 2) : Pr F (FVec F S1x1x512x128 .bf16) := do
  let q : Vec F S1x512x128 .bf16 ← Prog.lift (.load qM (rKh b h).toLoadRect (View.loadsAt_vmem h_S1x512x128))
  let k : Vec F S1x512x128 .f32 ← Prog.lift (.load kfM (rKh b h).toLoadRect (View.loadsAt_vmem h_S1x512x128))
  let v : Vec F S1x512x128 .f32 ← Prog.lift (.load vfM (rKh b h).toLoadRect (View.loadsAt_vmem h_S1x512x128))
  let qr : Vec F S1x512x32 .bf16 ← Prog.lift (.load qrM (rQrh b h).toLoadRect (View.loadsAt_vmem h_S1x512x32))
  let kr : Vec F S1x512x32 .bf16 ← Prog.lift (.load krM (rKr b).toLoadRect (View.loadsAt_vmem h_S1x512x32))
  pure (attnPay q k v qr kr)
def attnF (d : Dev nD) (b : Fin 2) : Pr F PUnit := do
  let o ← attnIn 0 b
  let _ : Vec F S1x1x512x128 .bf16 ← Prog.lift (.load ofM (rOwn d b).toLoadRect (View.loadsAt_vmem h_S1x1x512x128))
  Prog.lift (.store ofM (rOwn d b) o Finset.univ (View.stores_vmem h_S1x1x512x128 ((Memref.isWhole_whole cc0_scratch8).storeExact_slice rfl _ (packed_own d b)) (fun _ => rfl)) (.inl rfl))
def attnB (d : Dev nD) (b : Fin 2) : Pr F PUnit := do
  let o ← attnIn 1 b
  let _ : Vec F S1x1x512x128 .bf16 ← Prog.lift (.load obM (rOwn d b).toLoadRect (View.loadsAt_vmem h_S1x1x512x128))
  Prog.lift (.store obM (rOwn d b) o Finset.univ (View.stores_vmem h_S1x1x512x128 ((Memref.isWhole_whole cc0_scratch9).storeExact_slice rfl _ (packed_own d b)) (fun _ => rfl)) (.inl rfl))

/-- The copies of all-gather hop `s`, and their waits. -/
def agSendF (d : Dev nD) (s : Fin 7) : Pr F PUnit :=
  Prog.lift (.enqueueDma (ofS d s) (.remote (Dev.tc (rgt d)) (ofS d s) (.dma (sem7 cc0_scratch19 s))) (.dma (sem7 cc0_scratch20 s)) (ofS_words d s) (ofS_words d s) ⟨⟨rfl, Or.inl rfl⟩, trivial⟩)
def agSendB (d : Dev nD) (s : Fin 7) : Pr F PUnit :=
  Prog.lift (.enqueueDma (obS d s) (.remote (Dev.tc (lft d)) (obS d s) (.dma (sem7 cc0_scratch21 s))) (.dma (sem7 cc0_scratch22 s)) (obS_words d s) (obS_words d s) ⟨⟨rfl, Or.inl rfl⟩, trivial⟩)
def agWait (d : Dev nD) (s : Fin 7) : Pr F PUnit := do
  Prog.lift (.waitDma2 (sem7 cc0_scratch19 s) (ofS d s) (ofS d s) (ofS_words d s) (ofS_words d s))
  Prog.lift (.waitDma2 (sem7 cc0_scratch20 s) (ofS d s) (ofS d s) (ofS_words d s) (ofS_words d s))
  Prog.lift (.waitDma2 (sem7 cc0_scratch21 s) (obS d s) (obS d s) (obS_words d s) (obS_words d s))
  Prog.lift (.waitDma2 (sem7 cc0_scratch22 s) (obS d s) (obS d s) (obS_words d s) (obS_words d s))

/-- The projections of the slots of step `t`: the first product overwrites the result, the others are added. -/
def projF0 (d : Dev nD) (b : Fin 2) : Pr F PUnit := do
  let o : Vec F S1x1x512x128 .bf16 ← Prog.lift (.load ofM (rPf d 0 b).toLoadRect (View.loadsAt_vmem h_S1x1x512x128))
  let w : Vec F S1x128x2048 .bf16 ← Prog.lift (.load wfM (rW 0).toLoadRect (View.loadsAt_vmem h_S1x128x2048))
  let _ : Vec F S1x512x2048 .f32 ← Prog.lift (.load outM (rX b).toLoadRect (View.loadsAt_vmem h_S1x512x2048))
  Prog.lift (.store outM (rX b) (k0_pay112 o w) Finset.univ (View.stores_vmem_bits_univ h_S1x512x2048 rfl) (.inl rfl))
def projF (d : Dev nD) (t : Fin 8) (b : Fin 2) : Pr F PUnit := do
  let o : Vec F S1x1x512x128 .bf16 ← Prog.lift (.load ofM (rPf d t b).toLoadRect (View.loadsAt_vmem h_S1x1x512x128))
  let w : Vec F S1x128x2048 .bf16 ← Prog.lift (.load wfM (rW (par t)).toLoadRect (View.loadsAt_vmem h_S1x128x2048))
  let a : Vec F S1x512x2048 .f32 ← Prog.lift (.load outM (rX b).toLoadRect (View.loadsAt_vmem h_S1x512x2048))
  let _ : Vec F S1x512x2048 .f32 ← Prog.lift (.load outM (rX b).toLoadRect (View.loadsAt_vmem h_S1x512x2048))
  Prog.lift (.store outM (rX b) (k0_pay1 a o w) Finset.univ (View.stores_vmem_bits_univ h_S1x512x2048 rfl) (.inl rfl))
def projB (d : Dev nD) (t : Fin 8) (b : Fin 2) : Pr F PUnit := do
  let a : Vec F S1x512x2048 .f32 ← Prog.lift (.load outM (rX b).toLoadRect (View.loadsAt_vmem h_S1x512x2048))
  let o : Vec F S1x1x512x128 .bf16 ← Prog.lift (.load obM (rPb d t b).toLoadRect (View.loadsAt_vmem h_S1x1x512x128))
  let w : Vec F S1x128x2048 .bf16 ← Prog.lift (.load wbM (rW (par t)).toLoadRect (View.loadsAt_vmem h_S1x128x2048))
  let _ : Vec F S1x512x2048 .f32 ← Prog.lift (.load outM (rX b).toLoadRect (View.loadsAt_vmem h_S1x512x2048))
  Prog.lift (.store outM (rX b) (k0_pay1 a o w) Finset.univ (View.stores_vmem_bits_univ h_S1x512x2048 rfl) (.inl rfl))
def gotF (d : Dev nD) (t : Fin 8) : Pr F PUnit :=
  Prog.lift (.waitDma2 (sem2 cc0_scratch23 (par t)) (woF d t) (wfS (par t)) (woF_words d t) (wfS_words _))
def gotB (d : Dev nD) (t : Fin 8) : Pr F PUnit :=
  Prog.lift (.waitDma2 (sem2 cc0_scratch24 (par t)) (woB d t) (wbS (par t)) (woB_words d t) (wbS_words _))

/-- The first hop up to its waits: both heads, both sends, the first projection. -/
def hop0 (d : Dev nD) : Pr F PUnit := do
  attnF d 0; attnF d 1
  agSendF d 0
  attnB d 0; attnB d 1
  agSendB d 0
  gotF d 0
  projF0 d 0; projF0 d 1
  gotB d 0
  projB d 0 0; projB d 0 1
  fetchF d 2; fetchB d 2
  agWait d 0

/-- The projections of step `t > 0`. -/
def proj (d : Dev nD) (t : Fin 8) : Pr F PUnit := do
  gotF d t
  projF d t 0; projF d t 1
  gotB d t
  projB d t 0; projB d t 1

/-- A middle hop, which also fetches two steps ahead; and the last one, which has nothing left to fetch. -/
def hopM (d : Dev nD) (s : Fin 7) (t2 : Fin 8) : Pr F PUnit := do
  agSendF d s; agSendB d s
  proj d s.castSucc
  fetchF d t2; fetchB d t2
  agWait d s
def hopL (d : Dev nD) : Pr F PUnit := do
  agSendF d 6; agSendB d 6
  proj d 6
  agWait d 6

/-- The body, step by step. -/
def ringBody : Pr F PUnit := do
  let d : Dev nD ← Prog.lift .deviceId
  setUp d
  rsStep d 0; accStep 0 1 0; accStep 0 1 1
  rsStep d 1; accStep 1 0 0; accStep 1 0 1
  rsStep d 2; accStep 2 1 0; accStep 2 1 1
  rsStep d 3; accStep 3 0 0; accStep 3 0 1
  rsStep d 4; accStep 4 1 0; accStep 4 1 1
  rsStep d 5; accStep 5 0 0; accStep 5 0 1
  rsStep d 6; lastAcc 0; lastAcc 1
  hop0 d
  hopM d 1 3; hopM d 2 4; hopM d 3 5; hopM d 4 6; hopM d 5 7
  hopL d
  proj d 7

set_option maxHeartbeats 0 in
set_option maxRecDepth 100000 in
/-- The printed body is that sequence. -/
theorem body_eq : cc0__body (F := F) xM (Memref.isWhole_whole _) wdM (Memref.isWhole_whole _) wkM (Memref.isWhole_whole _)
    wvM (Memref.isWhole_whole _) wqM (Memref.isWhole_whole _) wqrM (Memref.isWhole_whole _) wkrM (Memref.isWhole_whole _)
    woM (Memref.isWhole_whole _) outM (Memref.isWhole_whole _) cM (Memref.isWhole_whole _) xbM (Memref.isWhole_whole _)
    ksM (Memref.isWhole_whole _) vsM (Memref.isWhole_whole _) rkM (Memref.isWhole_whole _) rvM (Memref.isWhole_whole _)
    kfM (Memref.isWhole_whole _) vfM (Memref.isWhole_whole _) ofM (Memref.isWhole_whole _) obM (Memref.isWhole_whole _)
    qM (Memref.isWhole_whole _) qrM (Memref.isWhole_whole _) krM (Memref.isWhole_whole _) wfM (Memref.isWhole_whole _) wbM (Memref.isWhole_whole _)
    cc0_scratch15 cc0_scratch16 cc0_scratch17 cc0_scratch18 cc0_scratch19 cc0_scratch20 cc0_scratch21 cc0_scratch22 cc0_scratch23 cc0_scratch24 = ringBody := rfl

end Cert.KernelIdeal.Mla
-- ==== Proof.Mem.lean ====
/-
# What the kernel's memory holds, and its steps that only touch memory

A buffer, or a slot of one, is spoken of through a view: `holds c v q w` says device `c` owns the elements under `v` at
share `q` and the view reads `w`. The steps of the body that neither copy nor signal are stated in these terms.
-/
module

public import proofs.«01_k».proof.Proof.Prog
public import Idealize.ShloMosaic.Lib.Rounds
public import Idealize.ShloMosaic.Lib.Tactic
public import Idealize.ShloMosaic.Lib.ValueLayout

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's resources and the ring protocol's. -/
abbrev UB : Type := Rounds.URounds (GSem nD τ sig) Bool
abbrev UU : Type := UR sig nD τ × UB

local notation "𝕄" => MT nD τ sig Unit (Elt F) ℕ UU ℕ

abbrev 𝒱₀ : Variants := Variants.none

/-- The weakest precondition of a program of the kernel on device `c`. -/
abbrev run (c : Dev nD) {α : Type} (p : Pr F α) (K : α → sProp 𝕄) : sProp 𝕄 :=
  wp frame (wpE (defs₀ (F := F)) 𝒱₀ (c : Thread nD τ) none) Set.univ p K

/-- Device `c` owns the elements under the view, at share `q`, and the view reads `w`. -/
def holds (c : Dev nD) {sp : Space} {s : Shape} {e : EltTy} (v : View sig .tc sp s e) (q : PosShare TreeShare) (w : s.Idx → Elt F e) : sProp 𝕄 :=
  iprop(∃ f : Buf (Elt F) (v.loc (c : Thread nD τ)), (v.loc (c : Thread nD τ) ↦[v.set]{q} f) ∗ ⌜v.read (Elt F) f = w⌝)

/-- The same at contents not chosen. -/
def any (c : Dev nD) {sp : Space} {s : Shape} {e : EltTy} (v : View sig .tc sp s e) : sProp 𝕄 :=
  iprop(∃ w : s.Idx → Elt F e, holds c v fullShare w)

instance holds_storable (c : Dev nD) {sp : Space} {s : Shape} {e : EltTy} (v : View sig .tc sp s e) (q : PosShare TreeShare)
    (w : s.Idx → Elt F e) : BI.Storable (upEmb : UEmb _ 𝕄) (holds c v q w) := by unfold holds; infer_instance
instance any_storable (c : Dev nD) {sp : Space} {s : Shape} {e : EltTy} (v : View sig .tc sp s e) :
    BI.Storable (upEmb : UEmb _ 𝕄) (any (F := F) c v) := by unfold any; infer_instance

theorem any_intro (c : Dev nD) {sp : Space} {s : Shape} {e : EltTy} (v : View sig .tc sp s e) (w : s.Idx → Elt F e) :
    holds c v fullShare w ⊢ (any c v : sProp 𝕄) := by
  unfold any; iintro H; iexists w; iexact H

section Steps

variable (c : Dev nD) {cs : CoreSpace} {s : Shape} {e : EltTy}

/-- A load through a rectangle of a memref held. -/
theorem ldW {m : Memref sig .tc cs s e} {r : Rect s} {hl : m.view.LoadsAt r.toLoadRect} {α : Type}
    {k : (r.shape.Idx → Elt F e) → Pr F α} {q : PosShare TreeShare} {w : s.Idx → Elt F e} {K : α → sProp 𝕄} :
    holds c m.view q w ⊢ iprop((holds c m.view q w -∗ run c (k fun j => w (r.emb j)) K)
      -∗ run c (.op (.load m r.toLoadRect hl) k) K) := by
  unfold holds
  iintro ⟨%f, Hf, %hf⟩ Hk
  iapply (wp_load_rect 𝒱₀ (c : Thread nD τ) none Set.univ (m := m) (r := r) (m.view.set_slice_subset r)) $$ Hf
  iintro Hf
  have e₁ : (m.access r).read (Elt F) f = fun j => w (r.emb j) := by
    funext j; rw [← hf]; rfl
  rw [e₁]
  iapply Hk
  iexists f
  isplitl [Hf]; · iexact Hf
  ipureintro; exact hf

/-- A store through a rectangle of a memref held whole. -/
theorem stW {m : Memref sig .tc cs s e} {r : Rect s} {u : r.shape.Idx → Elt F e} {hx : (m.access r).Stores Finset.univ}
    {hm : Finset.univ = Finset.univ ∨ ∀ a, r.stride a = 1} {α : Type}
    {k : PUnit → Pr F α} {w w' : s.Idx → Elt F e} {K : α → sProp 𝕄}
    (h₁ : ∀ j, w' (r.emb j) = u j) (h₂ : ∀ x, x ∉ r.set → w' x = w x) :
    holds c m.view fullShare w ⊢ iprop((holds c m.view fullShare w' -∗ run c (k ⟨⟩) K)
      -∗ run c (.op (.store m r u Finset.univ hx hm) k) K) := by
  unfold holds
  iintro ⟨%f, Hf, %hf⟩ Hk
  iapply (wp_store 𝒱₀ (c : Thread nD τ) none Set.univ (m := m) (r := r) (S := m.view.set) (m.view.set_slice_subset r)) $$ Hf
  iintro Hf
  iapply Hk
  iexists _
  isplitl [Hf]; · iexact Hf
  ipureintro
  funext x
  by_cases hx : x ∈ r.set
  · rw [← Rect.map_emb_univ] at hx
    obtain ⟨j, -, rfl⟩ := Finset.mem_map.mp hx
    rw [h₁]
    exact View.read_write_of_mem (v := m.access r) f u (Finset.mem_univ j)
  · rw [h₂ x hx, ← hf, View.read_apply, View.read_apply, View.write_of_not_mem]
    rw [View.setOn_univ, View.set_slice]
    intro h
    obtain ⟨y, hy, he⟩ := Finset.mem_map.mp h
    exact hx (m.view.emb.injective he ▸ hy)

/-- A load of a part of a slot: the slot is a rectangle of the memref with its unit axes dropped. -/
theorem ldQ {m : Memref sig .tc cs s e} {r r' : Rect s} {s' : Shape} {hn : s'.numel = r'.shape.numel} {hl : m.view.LoadsAt r.toLoadRect} {α : Type}
    {k : (r.shape.Idx → Elt F e) → Pr F α} {q : PosShare TreeShare} {w : s'.Idx → Elt F e} {K : α → sProp 𝕄}
    (g : r.shape.Idx → s'.Idx) (hg : ∀ j, r.emb j = r'.emb (Shape.reshapeEquiv hn (g j))) :
    holds c ((m.view.slice r').reshape s' hn) q w ⊢ iprop((holds c ((m.view.slice r').reshape s' hn) q w -∗ run c (k fun j => w (g j)) K)
      -∗ run c (.op (.load m r.toLoadRect hl) k) K) := by
  unfold holds
  iintro ⟨%f, Hf, %hf⟩ Hk
  iapply (wp_load_rect 𝒱₀ (c : Thread nD τ) none Set.univ (m := m) (r := r) (S := ((m.view.slice r').reshape s' hn).set) (by
    rw [View.set_reshape, View.set_slice, View.set_slice]
    refine Finset.map_subset_map.mpr fun x hx => ?_
    rw [← Rect.map_emb_univ] at hx
    obtain ⟨j, -, rfl⟩ := Finset.mem_map.mp hx
    rw [hg, ← Rect.map_emb_univ]; exact Finset.mem_map_of_mem _ (Finset.mem_univ _))) $$ Hf
  iintro Hf
  have e₁ : (m.access r).read (Elt F) f = fun j => w (g j) := by
    funext j; rw [← hf]
    show cast _ (f (m.view.emb (r.emb j))) = cast _ (f (m.view.emb (r'.emb (Shape.reshapeEquiv hn (g j)))))
    rw [hg]
  rw [e₁]
  iapply Hk
  iexists f
  isplitl [Hf]; · iexact Hf
  ipureintro; exact hf

/-- A store into a part of a slot. -/
theorem stQ {m : Memref sig .tc cs s e} {r r' : Rect s} {s' : Shape} {hn : s'.numel = r'.shape.numel}
    {u : r.shape.Idx → Elt F e} {hx : (m.access r).Stores Finset.univ}
    {hm : Finset.univ = Finset.univ ∨ ∀ a, r.stride a = 1} {α : Type}
    {k : PUnit → Pr F α} {w w' : s'.Idx → Elt F e} {K : α → sProp 𝕄}
    (g : r.shape.Idx → s'.Idx) (hg : ∀ j, r.emb j = r'.emb (Shape.reshapeEquiv hn (g j)))
    (h₁ : ∀ j, w' (g j) = u j) (h₂ : ∀ x, (∀ j, g j ≠ x) → w' x = w x) :
    holds c ((m.view.slice r').reshape s' hn) fullShare w ⊢ iprop((holds c ((m.view.slice r').reshape s' hn) fullShare w' -∗ run c (k ⟨⟩) K)
      -∗ run c (.op (.store m r u Finset.univ hx hm) k) K) := by
  unfold holds
  iintro ⟨%f, Hf, %hf⟩ Hk
  iapply (wp_store 𝒱₀ (c : Thread nD τ) none Set.univ (m := m) (r := r) (S := ((m.view.slice r').reshape s' hn).set) (by
    rw [View.set_reshape, View.setOn_univ, View.set_slice, View.set_slice]
    refine Finset.map_subset_map.mpr fun x hx => ?_
    rw [← Rect.map_emb_univ] at hx
    obtain ⟨j, -, rfl⟩ := Finset.mem_map.mp hx
    rw [hg, ← Rect.map_emb_univ]; exact Finset.mem_map_of_mem _ (Finset.mem_univ _))) $$ Hf
  iintro Hf
  iapply Hk
  iexists _
  isplitl [Hf]; · iexact Hf
  ipureintro
  funext x
  by_cases hx : ∃ j, g j = x
  · obtain ⟨j, rfl⟩ := hx
    rw [h₁, ← View.read_write_of_mem (v := m.access r) f u (Finset.mem_univ j)]
    show cast _ ((m.access r).write (Elt F) f u Finset.univ (m.view.emb (r'.emb (Shape.reshapeEquiv hn (g j)))))
      = cast _ ((m.access r).write (Elt F) f u Finset.univ (m.view.emb (r.emb j)))
    rw [hg]
  · rw [h₂ x (fun j hj => hx ⟨j, hj⟩), ← hf, View.read_apply, View.read_apply, View.write_of_not_mem]
    rw [View.setOn_univ, View.set_slice]
    intro h
    obtain ⟨y, hy, he⟩ := Finset.mem_map.mp h
    rw [← Rect.map_emb_univ] at hy
    obtain ⟨j, -, rfl⟩ := Finset.mem_map.mp hy
    refine hx ⟨j, ?_⟩
    have h3 : r.emb j = r'.emb (Shape.reshapeEquiv hn x) := m.view.emb.injective he
    rw [hg] at h3
    exact (Shape.reshapeEquiv hn).injective (r'.emb.injective h3)

end Steps

/-! ## Buffers of two batch rows -/

section Rows

variable {X : Type} {a k : ℕ}

/-- The contents made of two batch rows; and one row replaced. -/
def rows (u : Fin 2 → (⟨3, ![1, a, k]⟩ : Shape).Idx → X) : (⟨3, ![2, a, k]⟩ : Shape).Idx → X := fun i => u (i 0) (ix3 0 (i 1) (i 2))
def setRow (w : (⟨3, ![2, a, k]⟩ : Shape).Idx → X) (b : Fin 2) (u : (⟨3, ![1, a, k]⟩ : Shape).Idx → X) : (⟨3, ![2, a, k]⟩ : Shape).Idx → X :=
  fun i => if (i 0).val = b.val then u (ix3 0 (i 1) (i 2)) else w i
/-- The same of rows with two unit axes, as the slots of a buffer have them. -/
def rows4 (u : Fin 2 → (⟨4, ![1, 1, a, k]⟩ : Shape).Idx → X) : (⟨3, ![2, a, k]⟩ : Shape).Idx → X := fun i => u (i 0) (ix4 0 0 (i 1) (i 2))
def setRow4 (w : (⟨3, ![2, a, k]⟩ : Shape).Idx → X) (b : Fin 2) (u : (⟨4, ![1, 1, a, k]⟩ : Shape).Idx → X) : (⟨3, ![2, a, k]⟩ : Shape).Idx → X :=
  fun i => if (i 0).val = b.val then u (ix4 0 0 (i 1) (i 2)) else w i

theorem setRow_rows (w) (u : Fin 2 → (⟨3, ![1, a, k]⟩ : Shape).Idx → X) : setRow (setRow w 0 (u 0)) 1 (u 1) = rows u := by
  funext i
  unfold setRow rows
  by_cases h : (i 0).val = 1
  · exact (if_pos h).trans (congrArg (fun b : Fin 2 => u b _) (Fin.ext h.symm))
  · have h0 : (i 0).val = 0 := by have : (i 0).val < 2 := (i 0).isLt; omega
    exact (if_neg h).trans ((if_pos h0).trans (congrArg (fun b : Fin 2 => u b _) (Fin.ext h0.symm)))
theorem setRow4_rows (w) (u : Fin 2 → (⟨4, ![1, 1, a, k]⟩ : Shape).Idx → X) : setRow4 (setRow4 w 0 (u 0)) 1 (u 1) = rows4 u := by
  funext i
  unfold setRow4 rows4
  by_cases h : (i 0).val = 1
  · exact (if_pos h).trans (congrArg (fun b : Fin 2 => u b _) (Fin.ext h.symm))
  · have h0 : (i 0).val = 0 := by have : (i 0).val < 2 := (i 0).isLt; omega
    exact (if_neg h).trans ((if_pos h0).trans (congrArg (fun b : Fin 2 => u b _) (Fin.ext h0.symm)))

/-- A row's place in its buffer. -/
theorem row_emb {o : Fin 3 → ℕ} {b : Fin 2} {a' k' : ℕ} {h} (o₁ o₂ : ℕ) (ho : o = ![b.val, o₁, o₂]) (j : (⟨3, ![1, a', k']⟩ : Shape).Idx) (h1 : (j 1).val + o₁ < a) (h2 : (j 2).val + o₂ < k) :
    (Rect.unit (s := (⟨3, ![2, a, k]⟩ : Shape)) o (⟨3, ![1, a', k']⟩ : Shape).size h).emb j = ix3 b ⟨_, h1⟩ ⟨_, h2⟩ := by
  subst ho
  funext i
  apply Fin.ext
  match i with
  | ⟨0, _⟩ => rw [Rect.emb_apply]; have : (j 0).val < 1 := (j 0).isLt; simp [Rect.unit]; omega
  | ⟨1, _⟩ => rw [Rect.emb_apply]; simp [Rect.unit]; omega
  | ⟨2, _⟩ => rw [Rect.emb_apply]; simp [Rect.unit]; omega

/-- Reading a row of a buffer of two rows, in full or a part of its columns. -/
theorem rows_at {u : Fin 2 → (⟨3, ![1, a, k]⟩ : Shape).Idx → X} {o : Fin 3 → ℕ} {b : Fin 2} {h} (ho : o = ![b.val, 0, 0] := by rfl) :
    (fun j => rows u ((Rect.unit (s := (⟨3, ![2, a, k]⟩ : Shape)) o (⟨3, ![1, a, k]⟩ : Shape).size h).emb j)) = u b := by
  funext j
  refine (congrArg (rows u) (row_emb 0 0 ho j (j 1).isLt (j 2).isLt)).trans ?_
  show u b (ix3 0 ⟨(j 1).val + 0, _⟩ ⟨(j 2).val + 0, _⟩) = u b j
  refine congrArg (u b) ((eq_ix3 j).trans ?_).symm
  funext i
  match i with
  | ⟨0, _⟩ => exact Subsingleton.elim (α := Fin 1) _ _
  | ⟨1, _⟩ => rfl
  | ⟨2, _⟩ => rfl

/-- Columns `o₂` onwards of a row. -/
def cols {k' : ℕ} (o₂ : ℕ) (h : o₂ + k' ≤ k) (u : (⟨3, ![1, a, k]⟩ : Shape).Idx → X) : (⟨3, ![1, a, k']⟩ : Shape).Idx → X :=
  fun j => u (ix3 0 (j 1) ⟨(j 2).val + o₂, lt_of_lt_of_le (Nat.add_lt_add_right (j 2).isLt o₂) (by rw [Nat.add_comm]; exact h)⟩)
theorem rows_cols {k' : ℕ} (o₂ : ℕ) (hk : o₂ + k' ≤ k) {u : Fin 2 → (⟨3, ![1, a, k]⟩ : Shape).Idx → X} {o : Fin 3 → ℕ} {b : Fin 2} {h}
    (ho : o = ![b.val, 0, o₂] := by rfl) :
    (fun j => rows u ((Rect.unit (s := (⟨3, ![2, a, k]⟩ : Shape)) o (⟨3, ![1, a, k']⟩ : Shape).size h).emb j)) = cols o₂ hk (u b) := by
  funext j
  exact congrArg (rows u) (row_emb 0 o₂ ho j (j 1).isLt (lt_of_lt_of_le (Nat.add_lt_add_right (j 2).isLt o₂) (by rw [Nat.add_comm]; exact hk)))

/-- A row of a slot among the elements of its buffer. -/
theorem slot_emb {n : ℕ} {o o' : Fin 4 → ℕ} {h h'} {hn : (⟨3, ![2, a, k]⟩ : Shape).numel = _} (p : ℕ) (b : Fin 2) (ho : o = ![p, b.val, 0, 0]) (ho' : o' = ![p, 0, 0, 0])
    (j : (⟨4, ![1, 1, a, k]⟩ : Shape).Idx) :
    (Rect.unit (s := (⟨4, ![n, 2, a, k]⟩ : Shape)) o (⟨4, ![1, 1, a, k]⟩ : Shape).size h).emb j
      = (Rect.unit (s := (⟨4, ![n, 2, a, k]⟩ : Shape)) o' (⟨4, ![1, 2, a, k]⟩ : Shape).size h').emb (Shape.reshapeEquiv hn (ix3 b (j 2) (j 3))) := by
  subst ho ho'
  have e₁ : Shape.reshapeEquiv hn (ix3 b (j 2) (j 3)) = ix4 (⟨0, Nat.one_pos⟩ : Fin 1) b (j 2) (j 3) := reshapeEquiv_ix3_1abc _ _ _ _
  refine Eq.trans ?_ (congrArg (Rect.emb _) e₁).symm
  funext i
  apply Fin.ext
  refine (Rect.emb_apply _ _ _).trans (Eq.trans ?_ (Rect.emb_apply _ _ _).symm)
  match i with
  | ⟨0, _⟩ => have : (j 0).val < 1 := (j 0).isLt; simp [Rect.unit]; omega
  | ⟨1, _⟩ => have : (j 1).val < 1 := (j 1).isLt; simp [Rect.unit]; omega
  | ⟨2, _⟩ => simp [Rect.unit]
  | ⟨3, _⟩ => simp [Rect.unit]

theorem row4_eta (u : (⟨4, ![1, 1, a, k]⟩ : Shape).Idx → X) : (fun j => u (ix4 0 0 (j 2) (j 3))) = u := by
  funext j
  refine congrArg u ((eq_ix4 j).trans ?_).symm
  funext i
  match i with
  | ⟨0, _⟩ => exact Subsingleton.elim (α := Fin 1) _ _
  | ⟨1, _⟩ => exact Subsingleton.elim (α := Fin 1) _ _
  | ⟨2, _⟩ => rfl
  | ⟨3, _⟩ => rfl

end Rows

section RowSteps

variable (c : Dev nD) {cs : CoreSpace} {a k : ℕ} {e : EltTy}

/-- Replacing one row of a buffer of two. -/
theorem stRow {m : Memref sig .tc cs (⟨3, ![2, a, k]⟩ : Shape) e} {o : Fin 3 → ℕ} {h} (b : Fin 2) (ho : o = ![b.val, 0, 0])
    {u : (⟨3, ![1, a, k]⟩ : Shape).Idx → Elt F e} {hx : (m.access (Rect.unit o (⟨3, ![1, a, k]⟩ : Shape).size h)).Stores Finset.univ}
    {hm : Finset.univ = Finset.univ ∨ ∀ i, (Rect.unit (s := (⟨3, ![2, a, k]⟩ : Shape)) o (⟨3, ![1, a, k]⟩ : Shape).size h).stride i = 1} {α : Type}
    {p : PUnit → Pr F α} {w : (⟨3, ![2, a, k]⟩ : Shape).Idx → Elt F e} {K : α → sProp 𝕄} :
    holds c m.view fullShare w ⊢ iprop((holds c m.view fullShare (setRow w b u) -∗ run c (p ⟨⟩) K)
      -∗ run c (.op (.store m (Rect.unit o (⟨3, ![1, a, k]⟩ : Shape).size h) u Finset.univ hx hm) p) K) := by
  refine stW c (fun j => ?_) (fun x hx => ?_)
  · refine (congrArg (setRow w b u) (row_emb 0 0 ho j (j 1).isLt (j 2).isLt)).trans ?_
    unfold setRow
    refine (if_pos rfl).trans ?_
    refine congrArg u ((eq_ix3 j).trans ?_).symm
    funext i
    match i with
    | ⟨0, _⟩ => exact Subsingleton.elim (α := Fin 1) _ _
    | ⟨1, _⟩ => rfl
    | ⟨2, _⟩ => rfl
  · unfold setRow
    refine if_neg fun h0 => hx ?_
    subst ho
    refine Rect.mem_set_unit.mpr fun i => ?_
    match i with
    | ⟨0, _⟩ => have : (x 0).val = b.val := h0; exact ⟨by simp; omega, by simp; omega⟩
    | ⟨1, _⟩ => have : (x 1).val < a := (x 1).isLt; exact ⟨Nat.zero_le _, by simpa using this⟩
    | ⟨2, _⟩ => have : (x 2).val < k := (x 2).isLt; exact ⟨Nat.zero_le _, by simpa using this⟩

variable {n : ℕ} {m : Memref sig .tc cs (⟨4, ![n, 2, a, k]⟩ : Shape) e} {o o' : Fin 4 → ℕ} {h h'} {hn : (⟨3, ![2, a, k]⟩ : Shape).numel = _}

/-- Loading one row of a slot of two rows, and replacing one. -/
theorem ldSlot (p : ℕ) (b : Fin 2) (ho : o = ![p, b.val, 0, 0]) (ho' : o' = ![p, 0, 0, 0])
    {hl : m.view.LoadsAt (Rect.unit (s := (⟨4, ![n, 2, a, k]⟩ : Shape)) o (⟨4, ![1, 1, a, k]⟩ : Shape).size h).toLoadRect} {α : Type}
    {f : ((⟨4, ![1, 1, a, k]⟩ : Shape).Idx → Elt F e) → Pr F α} {q : PosShare TreeShare} {w} {K : α → sProp 𝕄} :
    holds c ((m.view.slice (Rect.unit o' (⟨4, ![1, 2, a, k]⟩ : Shape).size h')).reshape (⟨3, ![2, a, k]⟩ : Shape) hn) q w
      ⊢ iprop((holds c ((m.view.slice (Rect.unit o' (⟨4, ![1, 2, a, k]⟩ : Shape).size h')).reshape (⟨3, ![2, a, k]⟩ : Shape) hn) q w -∗ run c (f fun j => w (ix3 b (j 2) (j 3))) K)
      -∗ run c (.op (.load m (Rect.unit (s := (⟨4, ![n, 2, a, k]⟩ : Shape)) o (⟨4, ![1, 1, a, k]⟩ : Shape).size h).toLoadRect hl) f) K) :=
  ldQ c (m := m) (r := Rect.unit (s := (⟨4, ![n, 2, a, k]⟩ : Shape)) o (⟨4, ![1, 1, a, k]⟩ : Shape).size h)
    (r' := Rect.unit (s := (⟨4, ![n, 2, a, k]⟩ : Shape)) o' (⟨4, ![1, 2, a, k]⟩ : Shape).size h') (hn := hn) (hl := hl) (k := f) (q := q) (w := w)
    (fun j => ix3 b (j 2) (j 3)) (slot_emb p b ho ho')

theorem stSlot (p : ℕ) (b : Fin 2) (ho : o = ![p, b.val, 0, 0]) (ho' : o' = ![p, 0, 0, 0])
    {u : (⟨4, ![1, 1, a, k]⟩ : Shape).Idx → Elt F e} {hx : (m.access (Rect.unit o (⟨4, ![1, 1, a, k]⟩ : Shape).size h)).Stores Finset.univ}
    {hm : Finset.univ = Finset.univ ∨ ∀ i, (Rect.unit (s := (⟨4, ![n, 2, a, k]⟩ : Shape)) o (⟨4, ![1, 1, a, k]⟩ : Shape).size h).stride i = 1} {α : Type}
    {f : PUnit → Pr F α} {w} {K : α → sProp 𝕄} :
    holds c ((m.view.slice (Rect.unit o' (⟨4, ![1, 2, a, k]⟩ : Shape).size h')).reshape (⟨3, ![2, a, k]⟩ : Shape) hn) fullShare w
      ⊢ iprop((holds c ((m.view.slice (Rect.unit o' (⟨4, ![1, 2, a, k]⟩ : Shape).size h')).reshape (⟨3, ![2, a, k]⟩ : Shape) hn) fullShare (setRow4 w b u) -∗ run c (f ⟨⟩) K)
      -∗ run c (.op (.store m (Rect.unit o (⟨4, ![1, 1, a, k]⟩ : Shape).size h) u Finset.univ hx hm) f) K) := by
  refine stQ c (fun j => ix3 b (j 2) (j 3)) (slot_emb p b ho ho') (fun j => ?_) (fun x hx => ?_)
  · show (if b.val = b.val then u (ix4 0 0 (j 2) (j 3)) else _) = _
    exact (if_pos rfl).trans (congrFun (row4_eta u) j)
  · unfold setRow4
    refine if_neg fun h0 => hx (ix4 0 0 (x 1) (x 2)) ?_
    refine Eq.trans ?_ (eq_ix3 x).symm
    funext i
    match i with
    | ⟨0, _⟩ => exact Fin.ext h0.symm
    | ⟨1, _⟩ => rfl
    | ⟨2, _⟩ => rfl

end RowSteps

end Cert.KernelIdeal.Mla
-- ==== Proof.Vals.lean ====
/-
# What the kernel computes

Each value the body stores, as a function of the inputs of all eight devices: the partial sums going round the ring, the
attention outputs going round it, and the running projections. Nothing here is proved; the run is stated in these terms.
-/
module

public import proofs.«01_k».proof.Proof.Mem

@[expose] public section

noncomputable section

namespace Cert.KernelIdeal.Mla

open Cert.KernelIdeal Cert.KernelIdeal.Gen
open Idealize.ShloMosaic Idealize.ShloMosaic.TcCoe Idealize.ShloMosaic.ValueIdx

variable {F : FTy → Type} [FloatOps F]

/-- One device's operands of the call. -/
structure Inp (F : FTy → Type) [FloatOps F] where
  x : Vec F S2x512x2048 .f32
  wd : Vec F S2048x128 .f32
  wk : Vec F S128x2048 .f32
  wv : Vec F S128x2048 .f32
  wq : Vec F S2048x256 .bf16
  wqr : Vec F S2048x64 .bf16
  wkr : Vec F S2048x32 .bf16
  wo : Vec F S2048x2048 .bf16

variable (I : Dev nD → Inp F)

/-- The number of a step as one of the eight blocks. -/
abbrev blk (t : ℕ) : Fin 8 := ⟨t % 8, Nat.mod_lt _ (by decide)⟩

def xRow (d : Dev nD) (b : Fin 2) : Vec F S1x512x2048 .f32 := fun j => (I d).x ((rX b).emb j)
/-- The compressed activations. -/
def cW (d : Dev nD) (b : Fin 2) : Vec F S1x512x128 .f32 := k0_pay2 (xRow I d b) (fun j => (I d).wd (rWd.emb j))
/-- The partial keys and values of block `t`. -/
def kP (t : ℕ) (d : Dev nD) (b : Fin 2) : Vec F S1x512x256 .f32 := k0_pay4 (cW I d b) (fun j => (I d).wk ((rWt (blk t)).emb j))
def vP (t : ℕ) (d : Dev nD) (b : Fin 2) : Vec F S1x512x256 .f32 := k0_pay4 (cW I d b) (fun j => (I d).wv ((rWt (blk t)).emb j))
/-- What device `d` sends at reduce-scatter step `s`: the keys come from the left, the values from the right. -/
def KS : ℕ → Dev nD → Fin 2 → Vec F S1x1x512x256 .bf16
  | 0, d, b => k0_pay11 (kP I 0 d b)
  | s + 1, d, b => k0_pay35 (kP I (s + 1) d b) (KS s (lft d) b)
def VS : ℕ → Dev nD → Fin 2 → Vec F S1x1x512x256 .bf16
  | 0, d, b => k0_pay11 (vP I 0 d b)
  | s + 1, d, b => k0_pay35 (vP I (s + 1) d b) (VS s (rgt d) b)
/-- The whole sums: the keys and values of the device's two heads. -/
def KF (d : Dev nD) (b : Fin 2) : Vec F S1x512x256 .f32 := k0_pay93 (kP I 7 d b) (KS I 6 (lft d) b)
def VF (d : Dev nD) (b : Fin 2) : Vec F S1x512x256 .f32 := k0_pay93 (vP I 7 d b) (VS I 6 (rgt d) b)
/-- The narrowed activations, the queries, the rotary queries and keys. -/
def xbV (d : Dev nD) (b : Fin 2) : Vec F S1x512x2048 .bf16 := k0_pay14 (xRow I d b)
def qV (d : Dev nD) (b : Fin 2) : Vec F S1x512x256 .bf16 := k0_pay28 (xbV I d b) (fun j => (I d).wq (rWq.emb j))
def qrV (d : Dev nD) (b : Fin 2) : Vec F S1x512x64 .bf16 := k0_pay41 (xbV I d b) (fun j => (I d).wqr (rWqr.emb j))
def krV (d : Dev nD) (b : Fin 2) : Vec F S1x512x32 .bf16 := k0_pay42 (xbV I d b) (fun j => (I d).wkr (rWkr.emb j))
/-- The attention output of head `h` of the device's two. -/
def AO (h : Fin 2) (d : Dev nD) (b : Fin 2) : Vec F S1x1x512x128 .bf16 :=
  attnPay (cols (128 * h.val) (by omega) (qV I d b)) (cols (128 * h.val) (by omega) (KF I d b)) (cols (128 * h.val) (by omega) (VF I d b))
    (cols (32 * h.val) (by omega) (qrV I d b)) (krV I d b)
/-- What device `d` projects at step `t`: the output of the device `t` to its left, or to its right. -/
def HF : ℕ → Dev nD → Fin 2 → Vec F S1x1x512x128 .bf16
  | 0, d, b => AO I 0 d b
  | t + 1, d, b => HF t (lft d) b
def HB : ℕ → Dev nD → Fin 2 → Vec F S1x1x512x128 .bf16
  | 0, d, b => AO I 1 d b
  | t + 1, d, b => HB t (rgt d) b
/-- The output-projection rows fetched for step `t`. -/
def wF (d : Dev nD) (t : Fin 8) : Vec F S128x2048 .bf16 := fun i => (I d).wo ((Rect.unit (s := S2048x2048) (k0_off1 d (BitVec.ofNat 32 t.val)) S128x2048.size (k0_off1_inb d t)).emb i)
def wB (d : Dev nD) (t : Fin 8) : Vec F S128x2048 .bf16 := fun i => (I d).wo ((Rect.unit (s := S2048x2048) (k0_off2 d (BitVec.ofNat 32 t.val)) S128x2048.size (k0_off2_inb d t)).emb i)
/-- A slot of those rows, as it is loaded. -/
def lead {X : Type} {a k : ℕ} (w : (⟨2, ![a, k]⟩ : Shape).Idx → X) : (⟨3, ![1, a, k]⟩ : Shape).Idx → X := fun j => w (ix2 (j 1) (j 2))
/-- The running result after the first product of step `t`, and after the second. -/
def outV : ℕ → Dev nD → Fin 2 → Vec F S1x512x2048 .f32
  | 0, d, b => k0_pay1 (k0_pay112 (HF I 0 d b) (lead (wF I d 0))) (HB I 0 d b) (lead (wB I d 0))
  | t + 1, d, b => k0_pay1 (k0_pay1 (outV t d b) (HF I (t + 1) d b) (lead (wF I d (blk (t + 1))))) (HB I (t + 1) d b) (lead (wB I d (blk (t + 1))))
/-- The result. -/
def outR (d : Dev nD) : Vec F S2x512x2048 .f32 := rows (outV I 7 d)

end Cert.KernelIdeal.Mla
-- ==== Proof.Steps.lean ====
/-
# The steps that only touch memory

Each step of the body that neither copies nor signals, stated by what the buffers it names hold before and after.
-/
module

public import proofs.«01_k».proof.Proof.Vals

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots of the gathered outputs -/

/-- The slots device `d` works on at step `t`, of the outputs going right and of those going left. -/
def fsl (d : Dev nD) (t : ℕ) : Fin 8 := ⟨(d.val + 9 - t) % 8, Nat.mod_lt _ (by decide)⟩
def bsl (d : Dev nD) (t : ℕ) : Fin 8 := ⟨(d.val + 1 + t) % 8, Nat.mod_lt _ (by decide)⟩

abbrev oSl {m : Memref sig .tc .vmem S8x2x512x128 .bf16} (o : Fin 4 → ℕ) (h : ∀ a, o a + S1x2x512x128.size a ≤ S8x2x512x128.size a) : Memref sig .tc .vmem S2x512x128 .bf16 :=
  (m.slice (Rect.unit (s := S8x2x512x128) o S1x2x512x128.size h) (fun _ => rfl)).squeeze S2x512x128 squeezes_S1x2x512x128_S2x512x128
theorem oSl_congr (m : Memref sig .tc .vmem S8x2x512x128 .bf16) {o o' : Fin 4 → ℕ} (ho : o = o') (h h') : oSl (m := m) o h = oSl (m := m) o' h' := by
  subst ho; rfl
/-- One slot, by its number. -/
abbrev oF (p : Fin 8) : Memref sig .tc .vmem S2x512x128 .bf16 := oSl (m := ofM) ![p.val, 0, 0, 0] (inb4 p 0 2 (by decide))
abbrev oB (p : Fin 8) : Memref sig .tc .vmem S2x512x128 .bf16 := oSl (m := obM) ![p.val, 0, 0, 0] (inb4 p 0 2 (by decide))

theorem off5_eq : ∀ (d : Dev nD) (s : Fin 7), k0_off5 d (BitVec.ofNat 32 s.val) = ![(fsl d s.val).val, 0, 0, 0] := by decide
theorem off6_eq : ∀ (d : Dev nD) (s : Fin 7), k0_off6 d (BitVec.ofNat 32 s.val) = ![(bsl d s.val).val, 0, 0, 0] := by decide
theorem pfOff_eq : ∀ (d : Dev nD) (t : Fin 8) (b : Fin 2), pfOff d t b = ![(fsl d t.val).val, b.val, 0, 0] := by decide
theorem pbOff_eq : ∀ (d : Dev nD) (t : Fin 8) (b : Fin 2), pbOff d t b = ![(bsl d t.val).val, b.val, 0, 0] := by decide
theorem ownOff_eqF : ∀ (d : Dev nD) (b : Fin 2), ownOff d b = ![(fsl d 0).val, b.val, 0, 0] := by decide
theorem ownOff_eqB : ∀ (d : Dev nD) (b : Fin 2), ownOff d b = ![(bsl d 0).val, b.val, 0, 0] := by decide
theorem fsl_next : ∀ (d : Dev nD) (s : Fin 7), fsl (lft d) s.val = fsl d (s.val + 1) := by decide
theorem bsl_next : ∀ (d : Dev nD) (s : Fin 7), bsl (rgt d) s.val = bsl d (s.val + 1) := by decide
theorem rgt_lft : ∀ d : Dev nD, rgt (lft d) = d := by decide
theorem lft_rgt : ∀ d : Dev nD, lft (rgt d) = d := by decide

theorem ofS_eq (d : Dev nD) (s : Fin 7) : ofS d s = oF (fsl d s.val) := oSl_congr ofM (off5_eq d s) _ _
theorem obS_eq (d : Dev nD) (s : Fin 7) : obS d s = oB (bsl d s.val) := oSl_congr obM (off6_eq d s) _ _

variable (I : Dev nD → Inp F) (c : Dev nD)

/-! ## Loads of rows -/

section Loads

variable {α : Type} {cs : CoreSpace} {a k : ℕ} {e : EltTy} {q : PosShare TreeShare}

theorem ldRow {K : α → sProp 𝕄} {m : Memref sig .tc cs (⟨3, ![2, a, k]⟩ : Shape) e} {o : Fin 3 → ℕ} {h} (b : Fin 2) (ho : o = ![b.val, 0, 0])
    {hl : m.view.LoadsAt (Rect.unit (s := (⟨3, ![2, a, k]⟩ : Shape)) o (⟨3, ![1, a, k]⟩ : Shape).size h).toLoadRect}
    {f : ((⟨3, ![1, a, k]⟩ : Shape).Idx → Elt F e) → Pr F α} {u : Fin 2 → (⟨3, ![1, a, k]⟩ : Shape).Idx → Elt F e} :
    holds c m.view q (rows u) ⊢ iprop((holds c m.view q (rows u) -∗ run c (f (u b)) K)
      -∗ run c (.op (.load m (Rect.unit (s := (⟨3, ![2, a, k]⟩ : Shape)) o (⟨3, ![1, a, k]⟩ : Shape).size h).toLoadRect hl) f) K) := by
  rw [← rows_at (u := u) (h := h) ho]
  exact ldW c (m := m) (r := Rect.unit (s := (⟨3, ![2, a, k]⟩ : Shape)) o (⟨3, ![1, a, k]⟩ : Shape).size h) (hl := hl) (w := rows u) (k := f)
theorem ldCols {K : α → sProp 𝕄} {k' : ℕ} {m : Memref sig .tc cs (⟨3, ![2, a, k]⟩ : Shape) e} {o : Fin 3 → ℕ} {h} (b : Fin 2) (o₂ : ℕ) (hk : o₂ + k' ≤ k) (ho : o = ![b.val, 0, o₂])
    {hl : m.view.LoadsAt (Rect.unit (s := (⟨3, ![2, a, k]⟩ : Shape)) o (⟨3, ![1, a, k']⟩ : Shape).size h).toLoadRect}
    {f : ((⟨3, ![1, a, k']⟩ : Shape).Idx → Elt F e) → Pr F α} {u : Fin 2 → (⟨3, ![1, a, k]⟩ : Shape).Idx → Elt F e} :
    holds c m.view q (rows u) ⊢ iprop((holds c m.view q (rows u) -∗ run c (f (cols o₂ hk (u b))) K)
      -∗ run c (.op (.load m (Rect.unit (s := (⟨3, ![2, a, k]⟩ : Shape)) o (⟨3, ![1, a, k']⟩ : Shape).size h).toLoadRect hl) f) K) := by
  rw [← rows_cols (u := u) (h := h) o₂ hk ho]
  exact ldW c (m := m) (r := Rect.unit (s := (⟨3, ![2, a, k]⟩ : Shape)) o (⟨3, ![1, a, k']⟩ : Shape).size h) (hl := hl) (w := rows u) (k := f)
theorem ldLead {K : α → sProp 𝕄} {m : Memref sig .tc cs (⟨3, ![2, a, k]⟩ : Shape) e} {o : Fin 3 → ℕ} {h} {hn : (⟨2, ![a, k]⟩ : Shape).numel = _}
    {hl : m.view.LoadsAt (Rect.unit (s := (⟨3, ![2, a, k]⟩ : Shape)) o (⟨3, ![1, a, k]⟩ : Shape).size h).toLoadRect}
    {f : ((⟨3, ![1, a, k]⟩ : Shape).Idx → Elt F e) → Pr F α} {w : (⟨2, ![a, k]⟩ : Shape).Idx → Elt F e} :
    holds c ((m.view.slice (Rect.unit o (⟨3, ![1, a, k]⟩ : Shape).size h)).reshape (⟨2, ![a, k]⟩ : Shape) hn) q w
      ⊢ iprop((holds c ((m.view.slice (Rect.unit o (⟨3, ![1, a, k]⟩ : Shape).size h)).reshape (⟨2, ![a, k]⟩ : Shape) hn) q w -∗ run c (f (lead w)) K)
      -∗ run c (.op (.load m (Rect.unit (s := (⟨3, ![2, a, k]⟩ : Shape)) o (⟨3, ![1, a, k]⟩ : Shape).size h).toLoadRect hl) f) K) :=
  ldQ c (m := m) (r := Rect.unit (s := (⟨3, ![2, a, k]⟩ : Shape)) o (⟨3, ![1, a, k]⟩ : Shape).size h)
    (r' := Rect.unit (s := (⟨3, ![2, a, k]⟩ : Shape)) o (⟨3, ![1, a, k]⟩ : Shape).size h) (hn := hn) (hl := hl) (k := f) (q := q) (w := w)
    (fun j => ix2 (j 1) (j 2)) (fun j => by
      have e₁ : Shape.reshapeEquiv hn (ix2 (j 1) (j 2)) = j := by
        refine (reshapeEquiv_ix2_1ab _ _ _).trans ((eq_ix3 j).trans ?_).symm
        funext i
        match i with
        | ⟨0, _⟩ => exact Subsingleton.elim (α := Fin 1) _ _
        | ⟨1, _⟩ => rfl
        | ⟨2, _⟩ => rfl
      exact congrArg (Rect.emb _) e₁.symm)
theorem ldSlotRow {K : α → sProp 𝕄} {n : ℕ} {m : Memref sig .tc cs (⟨4, ![n, 2, a, k]⟩ : Shape) e} {o o' : Fin 4 → ℕ} {h h'} {hn : (⟨3, ![2, a, k]⟩ : Shape).numel = _}
    (p : ℕ) (b : Fin 2) (ho : o = ![p, b.val, 0, 0]) (ho' : o' = ![p, 0, 0, 0])
    {hl : m.view.LoadsAt (Rect.unit (s := (⟨4, ![n, 2, a, k]⟩ : Shape)) o (⟨4, ![1, 1, a, k]⟩ : Shape).size h).toLoadRect}
    {f : ((⟨4, ![1, 1, a, k]⟩ : Shape).Idx → Elt F e) → Pr F α} {u : Fin 2 → (⟨4, ![1, 1, a, k]⟩ : Shape).Idx → Elt F e} :
    holds c ((m.view.slice (Rect.unit o' (⟨4, ![1, 2, a, k]⟩ : Shape).size h')).reshape (⟨3, ![2, a, k]⟩ : Shape) hn) q (rows4 u)
      ⊢ iprop((holds c ((m.view.slice (Rect.unit o' (⟨4, ![1, 2, a, k]⟩ : Shape).size h')).reshape (⟨3, ![2, a, k]⟩ : Shape) hn) q (rows4 u) -∗ run c (f (u b)) K)
      -∗ run c (.op (.load m (Rect.unit (s := (⟨4, ![n, 2, a, k]⟩ : Shape)) o (⟨4, ![1, 1, a, k]⟩ : Shape).size h).toLoadRect hl) f) K) := by
  have e₁ : (fun j : (⟨4, ![1, 1, a, k]⟩ : Shape).Idx => rows4 u (ix3 b (j 2) (j 3))) = u b := row4_eta (u b)
  have := ldSlot c (m := m) (h := h) (h' := h') (hn := hn) p b ho ho' (hl := hl) (f := f) (q := q) (w := rows4 u) (K := K)
  rw [e₁] at this
  exact this

end Loads

/-! ## The steps -/

theorem run_ret {α : Type} {K : α → sProp 𝕄} {a : α} : K a ⊢ run c (Prog.ret a) K := by
  unfold run
  rw [wp_ret]
  iintro H
  imodintro
  iexact H

theorem cStep_spec {K : PUnit → sProp 𝕄} (b : Fin 2) (w) :
    iprop(holds c xM.view fullShare (I c).x ∗ holds c wdM.view fullShare (I c).wd ∗ holds c cM.view fullShare w)
      ⊢ iprop((holds c xM.view fullShare (I c).x ∗ holds c wdM.view fullShare (I c).wd ∗ holds c cM.view fullShare (setRow w b (cW I c b)) -∗ K ⟨⟩)
        -∗ run c (cStep b) K) := by
  simp only [cStep, Prog.lift, Prog.bind_op, Prog.bind_ret]
  iintro ⟨Hx, Hw, Hc⟩ Hk
  iapply (ldW c (m := xM)) $$ Hx; iintro Hx
  iapply (ldW c (m := wdM)) $$ Hw; iintro Hw
  iapply (ldW c (m := cM)) $$ Hc; iintro Hc
  iapply (stRow c (m := cM) b rfl) $$ Hc; iintro Hc
  iapply run_ret
  iapply Hk
  iframe
  iexact Hc

theorem kPart_spec {K : PUnit → sProp 𝕄} (t : Fin 8) (b : Fin 2) (w) :
    iprop(holds c cM.view fullShare (rows (cW I c)) ∗ holds c wkM.view fullShare (I c).wk ∗ holds c kfM.view fullShare w)
      ⊢ iprop((holds c cM.view fullShare (rows (cW I c)) ∗ holds c wkM.view fullShare (I c).wk ∗ holds c kfM.view fullShare (setRow w b (kP I t.val c b)) -∗ K ⟨⟩)
        -∗ run c (kPart t b) K) := by
  simp only [kPart, Prog.lift, Prog.bind_op, Prog.bind_ret]
  iintro ⟨Hc, Hw, Hd⟩ Hk
  iapply (ldRow c (m := cM) b rfl) $$ Hc; iintro Hc
  iapply (ldW c (m := wkM)) $$ Hw; iintro Hw
  iapply (ldW c (m := kfM)) $$ Hd; iintro Hd
  iapply (stRow c (m := kfM) b rfl) $$ Hd; iintro Hd
  iapply run_ret
  rw [show kP I t.val c b = k0_pay4 (cW I c b) (fun j => (I c).wk ((rWt t).emb j)) by unfold kP; rw [show blk t.val = t from Fin.ext (Nat.mod_eq_of_lt t.isLt)]]
  iapply Hk
  iframe
  iexact Hd

theorem vPart_spec {K : PUnit → sProp 𝕄} (t : Fin 8) (b : Fin 2) (w) :
    iprop(holds c cM.view fullShare (rows (cW I c)) ∗ holds c wvM.view fullShare (I c).wv ∗ holds c vfM.view fullShare w)
      ⊢ iprop((holds c cM.view fullShare (rows (cW I c)) ∗ holds c wvM.view fullShare (I c).wv ∗ holds c vfM.view fullShare (setRow w b (vP I t.val c b)) -∗ K ⟨⟩)
        -∗ run c (vPart t b) K) := by
  simp only [vPart, Prog.lift, Prog.bind_op, Prog.bind_ret]
  iintro ⟨Hc, Hw, Hd⟩ Hk
  iapply (ldRow c (m := cM) b rfl) $$ Hc; iintro Hc
  iapply (ldW c (m := wvM)) $$ Hw; iintro Hw
  iapply (ldW c (m := vfM)) $$ Hd; iintro Hd
  iapply (stRow c (m := vfM) b rfl) $$ Hd; iintro Hd
  iapply run_ret
  rw [show vP I t.val c b = k0_pay4 (cW I c b) (fun j => (I c).wv ((rWt t).emb j)) by unfold vP; rw [show blk t.val = t from Fin.ext (Nat.mod_eq_of_lt t.isLt)]]
  iapply Hk
  iframe
  iexact Hd

theorem narrow_spec {K : PUnit → sProp 𝕄} (b : Fin 2) (w w') :
    iprop(holds c kfM.view fullShare (rows (kP I 0 c)) ∗ holds c vfM.view fullShare (rows (vP I 0 c)) ∗ holds c (ksS 0).view fullShare w ∗ holds c (vsS 0).view fullShare w')
      ⊢ iprop((holds c kfM.view fullShare (rows (kP I 0 c)) ∗ holds c vfM.view fullShare (rows (vP I 0 c))
          ∗ holds c (ksS 0).view fullShare (setRow4 w b (KS I 0 c b)) ∗ holds c (vsS 0).view fullShare (setRow4 w' b (VS I 0 c b)) -∗ K ⟨⟩)
        -∗ run c (narrow b) K) := by
  simp only [narrow, Prog.lift, Prog.bind_op, Prog.bind_ret]
  iintro ⟨Hk, Hv, Hks, Hvs⟩ HK
  iapply (ldRow c (m := kfM) b rfl) $$ Hk; iintro Hk
  iapply (ldSlot c (m := ksM) (0 : Fin 2).val b rfl rfl) $$ Hks; iintro Hks
  iapply (stSlot c (m := ksM) (0 : Fin 2).val b rfl rfl) $$ Hks; iintro Hks
  iapply (ldRow c (m := vfM) b rfl) $$ Hv; iintro Hv
  iapply (ldSlot c (m := vsM) (0 : Fin 2).val b rfl rfl) $$ Hvs; iintro Hvs
  iapply (stSlot c (m := vsM) (0 : Fin 2).val b rfl rfl) $$ Hvs; iintro Hvs
  iapply run_ret
  iapply HK
  unfold KS VS
  iframe

theorem xbStep_spec {K : PUnit → sProp 𝕄} (b : Fin 2) (w) :
    iprop(holds c xM.view fullShare (I c).x ∗ holds c xbM.view fullShare w)
      ⊢ iprop((holds c xM.view fullShare (I c).x ∗ holds c xbM.view fullShare (setRow w b (xbV I c b)) -∗ K ⟨⟩) -∗ run c (xbStep b) K) := by
  simp only [xbStep, Prog.lift, Prog.bind_op, Prog.bind_ret]
  iintro ⟨Hx, Hd⟩ Hk
  iapply (ldW c (m := xM)) $$ Hx; iintro Hx
  iapply (ldW c (m := xbM)) $$ Hd; iintro Hd
  iapply (stRow c (m := xbM) b rfl) $$ Hd; iintro Hd
  iapply run_ret
  iapply Hk
  iframe
  iexact Hd

theorem qStep_spec {K : PUnit → sProp 𝕄} (b : Fin 2) (w) :
    iprop(holds c xbM.view fullShare (rows (xbV I c)) ∗ holds c wqM.view fullShare (I c).wq ∗ holds c qM.view fullShare w)
      ⊢ iprop((holds c xbM.view fullShare (rows (xbV I c)) ∗ holds c wqM.view fullShare (I c).wq ∗ holds c qM.view fullShare (setRow w b (qV I c b)) -∗ K ⟨⟩)
        -∗ run c (qStep b) K) := by
  simp only [qStep, Prog.lift, Prog.bind_op, Prog.bind_ret]
  iintro ⟨Hx, Hw, Hd⟩ Hk
  iapply (ldRow c (m := xbM) b rfl) $$ Hx; iintro Hx
  iapply (ldW c (m := wqM)) $$ Hw; iintro Hw
  iapply (ldW c (m := qM)) $$ Hd; iintro Hd
  iapply (stRow c (m := qM) b rfl) $$ Hd; iintro Hd
  iapply run_ret
  iapply Hk
  iframe
  iexact Hd

theorem rotStep_spec {K : PUnit → sProp 𝕄} (b : Fin 2) (w w') :
    iprop(holds c xbM.view fullShare (rows (xbV I c)) ∗ holds c wqrM.view fullShare (I c).wqr ∗ holds c wkrM.view fullShare (I c).wkr
        ∗ holds c qrM.view fullShare w ∗ holds c krM.view fullShare w')
      ⊢ iprop((holds c xbM.view fullShare (rows (xbV I c)) ∗ holds c wqrM.view fullShare (I c).wqr ∗ holds c wkrM.view fullShare (I c).wkr
          ∗ holds c qrM.view fullShare (setRow w b (qrV I c b)) ∗ holds c krM.view fullShare (setRow w' b (krV I c b)) -∗ K ⟨⟩)
        -∗ run c (rotStep b) K) := by
  simp only [rotStep, Prog.lift, Prog.bind_op, Prog.bind_ret]
  iintro ⟨Hx, Hw, Hw', Hd, Hd'⟩ Hk
  iapply (ldRow c (m := xbM) b rfl) $$ Hx; iintro Hx
  iapply (ldW c (m := wqrM)) $$ Hw; iintro Hw
  iapply (ldW c (m := qrM)) $$ Hd; iintro Hd
  iapply (stRow c (m := qrM) b rfl) $$ Hd; iintro Hd
  iapply (ldRow c (m := xbM) b rfl) $$ Hx; iintro Hx
  iapply (ldW c (m := wkrM)) $$ Hw'; iintro Hw'
  iapply (ldW c (m := krM)) $$ Hd'; iintro Hd'
  iapply (stRow c (m := krM) b rfl) $$ Hd'; iintro Hd'
  iapply run_ret
  iapply Hk
  iframe
  isplitl [Hd]; · iexact Hd
  iexact Hd'

theorem accStep_spec {K : PUnit → sProp 𝕄} (s : Fin 7) (p b : Fin 2) (w w') :
    iprop(holds c kfM.view fullShare (rows (kP I (s.val + 1) c)) ∗ holds c vfM.view fullShare (rows (vP I (s.val + 1) c))
        ∗ holds c (rkS s).view fullShare (rows4 (KS I s.val (lft c))) ∗ holds c (rvS s).view fullShare (rows4 (VS I s.val (rgt c)))
        ∗ holds c (ksS p).view fullShare w ∗ holds c (vsS p).view fullShare w')
      ⊢ iprop((holds c kfM.view fullShare (rows (kP I (s.val + 1) c)) ∗ holds c vfM.view fullShare (rows (vP I (s.val + 1) c))
        ∗ holds c (rkS s).view fullShare (rows4 (KS I s.val (lft c))) ∗ holds c (rvS s).view fullShare (rows4 (VS I s.val (rgt c)))
        ∗ holds c (ksS p).view fullShare (setRow4 w b (KS I (s.val + 1) c b)) ∗ holds c (vsS p).view fullShare (setRow4 w' b (VS I (s.val + 1) c b)) -∗ K ⟨⟩)
        -∗ run c (accStep s p b) K) := by
  simp only [accStep, Prog.lift, Prog.bind_op, Prog.bind_ret]
  iintro ⟨Hk, Hv, Hrk, Hrv, Hks, Hvs⟩ HK
  iapply (ldRow c (m := kfM) b rfl) $$ Hk; iintro Hk
  iapply (ldSlotRow c (m := rkM) s.val b rfl rfl) $$ Hrk; iintro Hrk
  iapply (ldRow c (m := vfM) b rfl) $$ Hv; iintro Hv
  iapply (ldSlotRow c (m := rvM) s.val b rfl rfl) $$ Hrv; iintro Hrv
  iapply (ldSlot c (m := ksM) p.val b rfl rfl) $$ Hks; iintro Hks
  iapply (stSlot c (m := ksM) p.val b rfl rfl) $$ Hks; iintro Hks
  iapply (ldSlot c (m := vsM) p.val b rfl rfl) $$ Hvs; iintro Hvs
  iapply (stSlot c (m := vsM) p.val b rfl rfl) $$ Hvs; iintro Hvs
  iapply run_ret
  iapply HK
  rw [KS, VS]
  iframe

/-- A row rewritten when only that row of the buffer is known to hold its old value. -/
theorem lastAcc_spec {K : PUnit → sProp 𝕄} (b : Fin 2) (w w') (hw : ∀ j, w ((rK b).emb j) = kP I 7 c b j) (hw' : ∀ j, w' ((rK b).emb j) = vP I 7 c b j) :
    iprop(holds c kfM.view fullShare w ∗ holds c vfM.view fullShare w'
        ∗ holds c (rkS 6).view fullShare (rows4 (KS I 6 (lft c))) ∗ holds c (rvS 6).view fullShare (rows4 (VS I 6 (rgt c))))
      ⊢ iprop((holds c kfM.view fullShare (setRow w b (KF I c b)) ∗ holds c vfM.view fullShare (setRow w' b (VF I c b))
        ∗ holds c (rkS 6).view fullShare (rows4 (KS I 6 (lft c))) ∗ holds c (rvS 6).view fullShare (rows4 (VS I 6 (rgt c))) -∗ K ⟨⟩)
        -∗ run c (lastAcc b) K) := by
  simp only [lastAcc, Prog.lift, Prog.bind_op, Prog.bind_ret]
  iintro ⟨Hk, Hv, Hrk, Hrv⟩ HK
  iapply (ldW c (m := kfM)) $$ Hk; iintro Hk
  iapply (ldSlotRow c (m := rkM) (6 : Fin 7).val b rfl rfl) $$ Hrk; iintro Hrk
  iapply (ldW c (m := vfM)) $$ Hv; iintro Hv
  iapply (ldSlotRow c (m := rvM) (6 : Fin 7).val b rfl rfl) $$ Hrv; iintro Hrv
  iapply (ldW c (m := kfM)) $$ Hk; iintro Hk
  iapply (stRow c (m := kfM) b rfl) $$ Hk; iintro Hk
  iapply (ldW c (m := vfM)) $$ Hv; iintro Hv
  iapply (stRow c (m := vfM) b rfl) $$ Hv; iintro Hv
  iapply run_ret
  iapply HK
  rw [show (fun j => w ((rK b).emb j)) = kP I 7 c b from funext hw, show (fun j => w' ((rK b).emb j)) = vP I 7 c b from funext hw']
  unfold KF VF
  iframe

/-- What the attention of both heads reads. -/
def qkv : sProp 𝕄 :=
  iprop(holds c qM.view fullShare (rows (qV I c)) ∗ holds c kfM.view fullShare (rows (KF I c)) ∗ holds c vfM.view fullShare (rows (VF I c))
    ∗ holds c qrM.view fullShare (rows (qrV I c)) ∗ holds c krM.view fullShare (rows (krV I c)))

theorem attnF_spec {K : PUnit → sProp 𝕄} (b : Fin 2) (w) :
    iprop(qkv I c ∗ holds c (oF (fsl c 0)).view fullShare w)
      ⊢ iprop((qkv I c ∗ holds c (oF (fsl c 0)).view fullShare (setRow4 w b (AO I 0 c b)) -∗ K ⟨⟩) -∗ run c (attnF c b) K) := by
  simp only [attnF, attnIn, Prog.lift, Prog.bind_op, Prog.bind_ret, Prog.pure_eq_ret]
  unfold qkv
  iintro ⟨⟨Hq, Hk, Hv, Hqr, Hkr⟩, Hd⟩ HK
  iapply (ldCols c (m := qM) b (128 * (0 : Fin 2).val) (by decide) rfl) $$ Hq; iintro Hq
  iapply (ldCols c (m := kfM) b (128 * (0 : Fin 2).val) (by decide) rfl) $$ Hk; iintro Hk
  iapply (ldCols c (m := vfM) b (128 * (0 : Fin 2).val) (by decide) rfl) $$ Hv; iintro Hv
  iapply (ldCols c (m := qrM) b (32 * (0 : Fin 2).val) (by decide) rfl) $$ Hqr; iintro Hqr
  iapply (ldRow c (m := krM) b rfl) $$ Hkr; iintro Hkr
  iapply (ldSlot c (m := ofM) (fsl c 0).val b (ownOff_eqF c b) rfl) $$ Hd; iintro Hd
  iapply (stSlot c (m := ofM) (fsl c 0).val b (ownOff_eqF c b) rfl) $$ Hd; iintro Hd
  iapply run_ret
  iapply HK
  unfold AO
  iframe

theorem attnB_spec {K : PUnit → sProp 𝕄} (b : Fin 2) (w) :
    iprop(qkv I c ∗ holds c (oB (bsl c 0)).view fullShare w)
      ⊢ iprop((qkv I c ∗ holds c (oB (bsl c 0)).view fullShare (setRow4 w b (AO I 1 c b)) -∗ K ⟨⟩) -∗ run c (attnB c b) K) := by
  simp only [attnB, attnIn, Prog.lift, Prog.bind_op, Prog.bind_ret, Prog.pure_eq_ret]
  unfold qkv
  iintro ⟨⟨Hq, Hk, Hv, Hqr, Hkr⟩, Hd⟩ HK
  iapply (ldCols c (m := qM) b (128 * (1 : Fin 2).val) (by decide) rfl) $$ Hq; iintro Hq
  iapply (ldCols c (m := kfM) b (128 * (1 : Fin 2).val) (by decide) rfl) $$ Hk; iintro Hk
  iapply (ldCols c (m := vfM) b (128 * (1 : Fin 2).val) (by decide) rfl) $$ Hv; iintro Hv
  iapply (ldCols c (m := qrM) b (32 * (1 : Fin 2).val) (by decide) rfl) $$ Hqr; iintro Hqr
  iapply (ldRow c (m := krM) b rfl) $$ Hkr; iintro Hkr
  iapply (ldSlot c (m := obM) (bsl c 0).val b (ownOff_eqB c b) rfl) $$ Hd; iintro Hd
  iapply (stSlot c (m := obM) (bsl c 0).val b (ownOff_eqB c b) rfl) $$ Hd; iintro Hd
  iapply run_ret
  iapply HK
  unfold AO
  iframe

theorem projF0_spec {K : PUnit → sProp 𝕄} (q : PosShare TreeShare) (b : Fin 2) (w) :
    iprop(holds c (oF (fsl c 0)).view q (rows4 (HF I 0 c)) ∗ holds c (wfS 0).view fullShare (wF I c 0) ∗ holds c outM.view fullShare w)
      ⊢ iprop((holds c (oF (fsl c 0)).view q (rows4 (HF I 0 c)) ∗ holds c (wfS 0).view fullShare (wF I c 0)
          ∗ holds c outM.view fullShare (setRow w b (k0_pay112 (HF I 0 c b) (lead (wF I c 0)))) -∗ K ⟨⟩)
        -∗ run c (projF0 c b) K) := by
  simp only [projF0, Prog.lift, Prog.bind_op, Prog.bind_ret]
  iintro ⟨Ho, Hw, Hd⟩ HK
  iapply (ldSlotRow c (m := ofM) (fsl c 0).val b (pfOff_eq c 0 b) rfl) $$ Ho; iintro Ho
  iapply (ldLead c (m := wfM)) $$ Hw; iintro Hw
  iapply (ldW c (m := outM)) $$ Hd; iintro Hd
  iapply (stRow c (m := outM) b rfl) $$ Hd; iintro Hd
  iapply run_ret
  iapply HK
  iframe

theorem projF_spec {K : PUnit → sProp 𝕄} (t : Fin 8) (q : PosShare TreeShare) (b : Fin 2) (u : Fin 2 → Vec F S1x1x512x128 .bf16) (wt : Vec F S128x2048 .bf16) (w) :
    iprop(holds c (oF (fsl c t.val)).view q (rows4 u) ∗ holds c (wfS (par t)).view fullShare wt ∗ holds c outM.view fullShare w)
      ⊢ iprop((holds c (oF (fsl c t.val)).view q (rows4 u) ∗ holds c (wfS (par t)).view fullShare wt
          ∗ holds c outM.view fullShare (setRow w b (k0_pay1 (fun j => w ((rX b).emb j)) (u b) (lead wt))) -∗ K ⟨⟩)
        -∗ run c (projF c t b) K) := by
  simp only [projF, Prog.lift, Prog.bind_op, Prog.bind_ret]
  iintro ⟨Ho, Hw, Hd⟩ HK
  iapply (ldSlotRow c (m := ofM) (fsl c t.val).val b (pfOff_eq c t b) rfl) $$ Ho; iintro Ho
  iapply (ldLead c (m := wfM)) $$ Hw; iintro Hw
  iapply (ldW c (m := outM)) $$ Hd; iintro Hd
  iapply (ldW c (m := outM)) $$ Hd; iintro Hd
  iapply (stRow c (m := outM) b rfl) $$ Hd; iintro Hd
  iapply run_ret
  iapply HK
  iframe
  iexact Hd

theorem projB_spec {K : PUnit → sProp 𝕄} (t : Fin 8) (q : PosShare TreeShare) (b : Fin 2) (u : Fin 2 → Vec F S1x1x512x128 .bf16) (wt : Vec F S128x2048 .bf16) (w) :
    iprop(holds c (oB (bsl c t.val)).view q (rows4 u) ∗ holds c (wbS (par t)).view fullShare wt ∗ holds c outM.view fullShare w)
      ⊢ iprop((holds c (oB (bsl c t.val)).view q (rows4 u) ∗ holds c (wbS (par t)).view fullShare wt
          ∗ holds c outM.view fullShare (setRow w b (k0_pay1 (fun j => w ((rX b).emb j)) (u b) (lead wt))) -∗ K ⟨⟩)
        -∗ run c (projB c t b) K) := by
  simp only [projB, Prog.lift, Prog.bind_op, Prog.bind_ret]
  iintro ⟨Ho, Hw, Hd⟩ HK
  iapply (ldW c (m := outM)) $$ Hd; iintro Hd
  iapply (ldSlotRow c (m := obM) (bsl c t.val).val b (pbOff_eq c t b) rfl) $$ Ho; iintro Ho
  iapply (ldLead c (m := wbM)) $$ Hw; iintro Hw
  iapply (ldW c (m := outM)) $$ Hd; iintro Hd
  iapply (stRow c (m := outM) b rfl) $$ Hd; iintro Hd
  iapply run_ret
  iapply HK
  iframe
  iexact Hd

end Cert.KernelIdeal.Mla
-- ==== Proof.Ring.lean ====
/-
# The protocol of the ring

Every copy of the kernel is announced on two counters: the sender's own, when the source may be reused, and the
receiver's, when the destination holds what was sent. Eight families of seven counters serve the copies between
neighbours (four of the reduce-scatter, four of the all-gather; in each four the sender's and the receiver's counter of
the copies to the right, then of those to the left), four counters serve the local fetches, and one counter the
handshake. Here it is said who adds to each counter, how much, and what the addition hands over; the contents handed
over are named.
-/
module

public import proofs.«01_k».proof.Proof.Steps

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline library's resources and the protocol's live. -/
abbrev EP : Emb (UR sig nD τ) (MT nD τ sig Unit (Elt F) ℕ UU ℕ) := embL
abbrev ER : Emb UB (MT nD τ sig Unit (Elt F) ℕ UU ℕ) := embR

variable (I : Dev nD → Inp F) (c : Dev nD)

/-! ## The counters -/

/-- Counter `s` of family `j`, and the counter of local channel `ch` (the two slots of the rows going with the outputs
    to the right, then the two of the others). -/
def fs (j : Fin 8) (s : Fin 7) : DmaSem sig := ⟨8 + 7 * j.val + s.val, by have := j.isLt; have := s.isLt; show _ < 68; omega⟩
def ls (ch : Fin 4) : DmaSem sig := ⟨64 + ch.val, by have := ch.isLt; show _ < 68; omega⟩
abbrev fc (j : Fin 8) (s : Fin 7) : GSem nD τ sig := ((c : Thread nD τ), .dma (fs j s))
abbrev lc (ch : Fin 4) : GSem nD τ sig := ((c : Thread nD τ), .dma (ls ch))
abbrev bc : GSem nD τ sig := ((c : Thread nD τ), .reg barM.sem)

theorem sem15 : ∀ s : Fin 7, sem7 cc0_scratch15 s = fs 0 s := by decide
theorem sem16 : ∀ s : Fin 7, sem7 cc0_scratch16 s = fs 1 s := by decide
theorem sem17 : ∀ s : Fin 7, sem7 cc0_scratch17 s = fs 2 s := by decide
theorem sem18 : ∀ s : Fin 7, sem7 cc0_scratch18 s = fs 3 s := by decide
theorem sem19 : ∀ s : Fin 7, sem7 cc0_scratch19 s = fs 4 s := by decide
theorem sem20 : ∀ s : Fin 7, sem7 cc0_scratch20 s = fs 5 s := by decide
theorem sem21 : ∀ s : Fin 7, sem7 cc0_scratch21 s = fs 6 s := by decide
theorem sem22 : ∀ s : Fin 7, sem7 cc0_scratch22 s = fs 7 s := by decide
/-- The local channel of step `t`. -/
def chF (t : ℕ) : Fin 4 := ⟨t % 2, by omega⟩
def chB (t : ℕ) : Fin 4 := ⟨2 + t % 2, by omega⟩
theorem sem23 : ∀ t : Fin 8, sem2 cc0_scratch23 (par t.val) = ls (chF t.val) := by decide
theorem sem24 : ∀ t : Fin 8, sem2 cc0_scratch24 (par t.val) = ls (chB t.val) := by decide

/-- What one copy adds to its counters. -/
def NK : ℕ := (ksS 0).view.dmaCredit
def NO : ℕ := (oF 0).view.dmaCredit
def NW : ℕ := (wfS 0).view.dmaCredit
def famN (j : Fin 8) : ℕ := if j.val < 4 then NK else NO
theorem NK_pos : 0 < NK := View.dmaCredit_pos _ (by decide)
theorem NO_pos : 0 < NO := View.dmaCredit_pos _ (by decide)
theorem NW_pos : 0 < NW := View.dmaCredit_pos _ (by decide)

/-! ## What each addition hands over -/

/-- Half of the elements of a slot are lent to the copy, half stay to be read. -/
abbrev lent : PosShare TreeShare := fullShare.left
abbrev kept : PosShare TreeShare := fullShare.right
/-- The weight rows are read by four channels at once. -/
def qtr (ch : Fin 4) : PosShare TreeShare :=
  match ch with
  | 0 => fullShare.left.left
  | 1 => fullShare.left.right
  | 2 => fullShare.right.left
  | 3 => fullShare.right.right

def famPay (j : Fin 8) (s : Fin 7) (c : Dev nD) : sProp 𝕄 :=
  match j with
  | 0 => holds c (ksS (par s.val)).view fullShare (rows4 (KS I s.val c))
  | 1 => holds c (rkS s).view fullShare (rows4 (KS I s.val (lft c)))
  | 2 => holds c (vsS (par s.val)).view fullShare (rows4 (VS I s.val c))
  | 3 => holds c (rvS s).view fullShare (rows4 (VS I s.val (rgt c)))
  | 4 => holds c (oF (fsl c s.val)).view lent (rows4 (HF I s.val c))
  | 5 => holds c (oF (fsl c (s.val + 1))).view fullShare (rows4 (HF I (s.val + 1) c))
  | 6 => holds c (oB (bsl c s.val)).view lent (rows4 (HB I s.val c))
  | 7 => holds c (oB (bsl c (s.val + 1))).view fullShare (rows4 (HB I (s.val + 1) c))

/-- The rows fetched at step `t`, lent by channel `ch`. -/
def srcF (c : Dev nD) (t : Fin 8) (q : PosShare TreeShare) : sProp 𝕄 :=
  ((woF c t).view.loc (c : Thread nD τ) ↦[(woF c t).view.set]{q} (show Buf (Elt F) ((woF c t).view.loc (c : Thread nD τ)) from (I c).wo))
def srcB (c : Dev nD) (t : Fin 8) (q : PosShare TreeShare) : sProp 𝕄 :=
  ((woB c t).view.loc (c : Thread nD τ) ↦[(woB c t).view.set]{q} (show Buf (Elt F) ((woB c t).view.loc (c : Thread nD τ)) from (I c).wo))

def locPay (ch : Fin 4) (r : ℕ) (c : Dev nD) : sProp 𝕄 :=
  if ch.val < 2 then
    iprop(holds c (wfS (par ch.val)).view fullShare (wF I c (blk (2 * r + ch.val % 2))) ∗ srcF I c (blk (2 * r + ch.val % 2)) (qtr ch))
  else
    iprop(holds c (wbS (par ch.val)).view fullShare (wB I c (blk (2 * r + ch.val % 2))) ∗ srcB I c (blk (2 * r + ch.val % 2)) (qtr ch))

/-- What device `d` opens to its left neighbour (who sends to the right): the landing places of every step; and to its
    right neighbour. -/
def giveF (d : Dev nD) : sProp 𝕄 :=
  bigSep Finset.univ fun s : Fin 7 => iprop(any d (rkS s).view ∗ any d (oF (fsl d (s.val + 1))).view ∗ reached ER (fc d 1 s) 0 ∗ reached ER (fc d 5 s) 0)
def giveB (d : Dev nD) : sProp 𝕄 :=
  bigSep Finset.univ fun s : Fin 7 => iprop(any d (rvS s).view ∗ any d (oB (bsl d (s.val + 1))).view ∗ reached ER (fc d 3 s) 0 ∗ reached ER (fc d 7 s) 0)

def barPay (d : Bool) (c : Dev nD) : sProp 𝕄 :=
  match d with
  | false => giveF (rgt c)
  | true => giveB (lft c)

/-- The schedule: the handshake's counter is added to once by each neighbour, the counters of the copies between
    neighbours once, those of the local fetches four times. -/
def ringRd : Rounds.Schedule (GSem nD τ sig) Bool 𝕄 where
  duties g r := match g.2 with
    | .reg _ => if r = 0 then Finset.univ else ∅
    | .dma i => if i.val < 8 then ∅ else if i.val < 64 then (if r = 0 then {false} else ∅) else (if r < 4 then {false} else ∅)
  unitless _ := False
  amount g _ _ := match g.2 with
    | .reg _ => 1
    | .dma i => if i.val < 36 then NK else if i.val < 64 then NO else NW
  payload g r d := match g.2 with
    | .reg _ => barPay d g.1.1
    | .dma i => if i.val < 8 then iprop(emp)
      else if i.val < 64 then famPay I ⟨(i.val - 8) / 7 % 8, Nat.mod_lt _ (by decide)⟩ ⟨(i.val - 8) % 7, Nat.mod_lt _ (by decide)⟩ g.1.1
      else locPay I ⟨(i.val - 64) % 4, Nat.mod_lt _ (by decide)⟩ r g.1.1
  amount_pos g _ _ _ := by
    rcases g.2 with i | i
    · exact Nat.one_pos
    · dsimp only
      split
      · exact NK_pos
      split
      · exact NO_pos
      · exact NW_pos

instance famPay_storable (j : Fin 8) (s : Fin 7) (c : Dev nD) : BI.Storable (upEmb : UEmb _ 𝕄) (famPay I j s c) := by
  unfold famPay
  split <;> infer_instance
instance locPay_storable (ch : Fin 4) (r : ℕ) (c : Dev nD) : BI.Storable (upEmb : UEmb _ 𝕄) (locPay I ch r c) := by
  unfold locPay srcF srcB
  split <;> infer_instance
instance barPay_storable (d : Bool) (c : Dev nD) : BI.Storable (upEmb : UEmb _ 𝕄) (barPay (F := F) d c) := by
  unfold barPay giveF giveB
  split <;> infer_instance
instance ringRd_payload_storable (g : GSem nD τ sig) (r : ℕ) (d : Bool) : BI.Storable (upEmb : UEmb _ 𝕄) ((ringRd I).payload g r d) := by
  rcases g with ⟨t, i | i⟩
  · show BI.Storable upEmb (barPay d _)
    infer_instance
  · show BI.Storable upEmb (if i.val < 8 then iprop(emp) else if i.val < 64 then _ else _)
    (repeat' split) <;> infer_instance

section Tables

variable (j : Fin 8) (s : Fin 7) (ch : Fin 4) (r : ℕ)

theorem fs_ge : ¬ (fs j s).val < 8 := by unfold fs; dsimp only; omega
theorem fs_lt : (fs j s).val < 64 := by have := j.isLt; have := s.isLt; unfold fs; dsimp only; omega
theorem ls_ge : ¬ (ls ch).val < 64 := by unfold ls; dsimp only; omega

theorem duties_bar : (ringRd I).duties (bc c) 0 = Finset.univ := rfl
theorem duties_fam : (ringRd I).duties (fc c j s) 0 = {false} := by
  show (if (fs j s).val < 8 then (∅ : Finset Bool) else if (fs j s).val < 64 then _ else _) = _
  rw [if_neg (fs_ge j s), if_pos (fs_lt j s), if_pos rfl]
theorem duties_loc (hr : r < 4) : (ringRd I).duties (lc c ch) r = {false} := by
  show (if (ls ch).val < 8 then (∅ : Finset Bool) else if (ls ch).val < 64 then _ else _) = _
  rw [if_neg (fun h => ls_ge ch (by omega)), if_neg (ls_ge ch), if_pos hr]
theorem duties_bar_later (hr : 1 ≤ r) : (ringRd I).duties (bc c) r = ∅ := if_neg (by omega)
theorem duties_fam_later (hr : 1 ≤ r) : (ringRd I).duties (fc c j s) r = ∅ := by
  show (if (fs j s).val < 8 then (∅ : Finset Bool) else if (fs j s).val < 64 then _ else _) = _
  rw [if_neg (fs_ge j s), if_pos (fs_lt j s), if_neg (by omega)]
theorem duties_loc_later (hr : 4 ≤ r) : (ringRd I).duties (lc c ch) r = ∅ := by
  show (if (ls ch).val < 8 then (∅ : Finset Bool) else if (ls ch).val < 64 then _ else _) = _
  rw [if_neg (fun h => ls_ge ch (by omega)), if_neg (ls_ge ch), if_neg (by omega)]

theorem amount_bar (d : Bool) : (ringRd I).amount (bc c) 0 d = 1 := rfl
theorem amount_fam (d : Bool) : (ringRd I).amount (fc c j s) 0 d = famN j := by
  show (if (fs j s).val < 36 then NK else if (fs j s).val < 64 then NO else NW) = _
  have hs := s.isLt
  have e : (fs j s).val < 36 ↔ j.val < 4 := by unfold fs; dsimp only; omega
  unfold famN
  by_cases h : j.val < 4
  · rw [if_pos (e.2 h), if_pos h]
  · rw [if_neg (fun h' => h (e.1 h')), if_pos (fs_lt j s), if_neg h]
theorem amount_loc (d : Bool) : (ringRd I).amount (lc c ch) r d = NW := by
  show (if (ls ch).val < 36 then NK else if (ls ch).val < 64 then NO else NW) = _
  rw [if_neg (fun h => ls_ge ch (by omega)), if_neg (ls_ge ch)]

theorem expect_bar : (ringRd I).expect (bc c) 0 = 2 := rfl
theorem expect_fam : (ringRd I).expect (fc c j s) 0 = famN j := by
  unfold Schedule.expect Schedule.amountOf; rw [duties_fam, Finset.sum_singleton, amount_fam]
theorem expect_loc (hr : r < 4) : (ringRd I).expect (lc c ch) r = NW := by
  unfold Schedule.expect Schedule.amountOf; rw [duties_loc I c ch r hr, Finset.sum_singleton, amount_loc]

theorem payload_bar (d : Bool) : (ringRd I).payload (bc c) 0 d = barPay d c := rfl
theorem payload_fam (d : Bool) : (ringRd I).payload (fc c j s) 0 d = famPay I j s c := by
  show (if (fs j s).val < 8 then iprop(emp) else if (fs j s).val < 64 then famPay I _ _ c else _) = _
  rw [if_neg (fs_ge j s), if_pos (fs_lt j s)]
  have hj := j.isLt; have hs := s.isLt
  congr 1
  · apply Fin.ext; unfold fs; dsimp only; omega
  · apply Fin.ext; unfold fs; dsimp only; omega
theorem payload_loc (d : Bool) : (ringRd I).payload (lc c ch) r d = locPay I ch r c := by
  show (if (ls ch).val < 8 then iprop(emp) else if (ls ch).val < 64 then _ else locPay I _ r c) = _
  rw [if_neg (fun h => ls_ge ch (by omega)), if_neg (ls_ge ch)]
  have hc := ch.isLt
  congr 1
  apply Fin.ext; unfold ls; dsimp only; omega

theorem rest_bar : bigSep ((ringRd I).duties (bc c) 0 \ ∅) (fun d => (ringRd I).payload (bc c) 0 d) = iprop(giveF (rgt c) ∗ giveB (lft c)) := by
  rw [Finset.sdiff_empty, duties_bar]
  show bigSep Finset.univ (fun d : Bool => barPay d c) = _
  rw [bigSep_univ_eq_bigSepL [false, true] (by decide) (by decide)]
  simp only [bigSepL, barPay]
  rfl
theorem rest_fam : bigSep ((ringRd I).duties (fc c j s) 0 \ ∅) (fun d => (ringRd I).payload (fc c j s) 0 d) = famPay I j s c := by
  rw [Finset.sdiff_empty, duties_fam, bigSep_singleton, payload_fam]
theorem rest_loc (hr : r < 4) : bigSep ((ringRd I).duties (lc c ch) r \ ∅) (fun d => (ringRd I).payload (lc c ch) r d) = locPay I ch r c := by
  rw [Finset.sdiff_empty, duties_loc I c ch r hr, bigSep_singleton, payload_loc]

end Tables

/-! ## The order of the waits -/

abbrev IsTc (g : GSem nD τ sig) : Prop := g.1.2 = .tc
def L (g : GSem nD τ sig) : Finset Unit := if g.1.2 = .tc then {()} else ∅
/-- The handshake first, then the receiving counters in the order of the steps; what a device adds to its own counters
    needs no order. -/
def lv (g : GSem nD τ sig) (_ : Unit) : ℕ := match g.2 with
  | .reg _ => 1
  | .dma i => if i.val < 8 ∨ 64 ≤ i.val then 0 else if (i.val - 8) / 7 % 2 = 0 then 0 else (if (i.val - 8) / 7 < 4 then 2 else 9) + (i.val - 8) % 7

theorem L_of_ne (g : GSem nD τ sig) (h : g.1.2 ≠ .tc) : L g = ∅ := if_neg h
theorem L_tc (c : Dev nD) (sm : SemLoc sig) : L ((c : Thread nD τ), sm) = {()} := if_pos rfl

theorem lv_fam (j : Fin 8) (s : Fin 7) (u : Unit) : lv (fc c j s) u = if j.val % 2 = 0 then 0 else (if j.val < 4 then 2 else 9) + s.val := by
  have hj := j.isLt; have hs := s.isLt
  show (if (fs j s).val < 8 ∨ 64 ≤ (fs j s).val then 0 else if ((fs j s).val - 8) / 7 % 2 = 0 then 0 else (if ((fs j s).val - 8) / 7 < 4 then 2 else 9) + ((fs j s).val - 8) % 7) = _
  have e₁ : ((fs j s).val - 8) / 7 = j.val := by unfold fs; dsimp only; omega
  have e₂ : ((fs j s).val - 8) % 7 = s.val := by unfold fs; dsimp only; omega
  rw [if_neg (by have := fs_ge j s; have := fs_lt j s; omega), e₁, e₂]
theorem lv_loc (ch : Fin 4) (u : Unit) : lv (lc c ch) u = 0 := if_pos (.inr (by unfold ls; dsimp only; omega))

/-- What a device still has to add to the others' counters, the next addition first. -/
def owedFrom : List (GSem nD τ sig × ℕ) → CellTallies nD τ sig Unit
  | [] => 0
  | x :: l => owedFrom l + tallyAt x.1 () x.2

theorem owedFrom_pos (l : List (GSem nD τ sig × ℕ)) (g : GSem nD τ sig) (u : Unit) (h : 0 < owedFrom l g u) : ∃ x ∈ l, x.1 = g := by
  induction l with
  | nil => exact absurd h (Nat.lt_irrefl 0)
  | cons x l ih =>
    by_cases e : x.1 = g
    · exact ⟨x, List.mem_cons_self, e⟩
    · have h' : 0 < owedFrom l g u := by
        have : (owedFrom l + tallyAt x.1 () x.2) g u = owedFrom l g u + tallyAt x.1 () x.2 g u := rfl
        have h0 : tallyAt x.1 () x.2 g u = 0 := by rw [tallyAt_apply, if_neg (fun hh => e hh.1.symm)]
        have h'' : 0 < (owedFrom l + tallyAt x.1 () x.2) g u := h
        omega
      obtain ⟨y, hy, e'⟩ := ih h'
      exact ⟨y, List.mem_cons_of_mem _ hy, e'⟩

/-- A wait on a counter before every counter still owed to. -/
theorem mayWait (l : List (GSem nD τ sig × ℕ)) (sm : SemLoc sig) (n : ℕ) (hn : lv ((c : Thread nD τ), sm) () ≤ n)
    (h : ∀ x ∈ l, x.1.1.2 = .tc ∧ n < lv x.1 ()) :
    (levAts L lv : sProp 𝕄) ⊢ MayWait (c : Thread nD τ) sm () (owedFrom l) :=
  MayOwe.of_cut (L := L) (lev := lv) n (fun p hp => by rw [Finset.mem_singleton.mp hp, L_tc]; exact Finset.mem_singleton_self _)
    (fun g u hg => by
      obtain ⟨x, hx, rfl⟩ := owedFrom_pos l g u hg
      unfold L; rw [if_pos (h x hx).1]; exact Finset.mem_singleton_self _)
    (fun p hp => by rw [Finset.mem_singleton.mp hp]; exact hn)
    (fun g u hg => by
      obtain ⟨x, hx, rfl⟩ := owedFrom_pos l g u hg
      exact (h x hx).2)

/-- The additions of the last `k` hops, and of the last `k` reduce-scatter steps and all the hops. -/
def last (k : ℕ) : Fin 7 := ⟨6 - k, by omega⟩
def agT : ℕ → List (GSem nD τ sig × ℕ)
  | 0 => []
  | k + 1 => (fc (rgt c) 5 (last k), NO) :: (fc (lft c) 7 (last k), NO) :: agT k
def rsT : ℕ → List (GSem nD τ sig × ℕ)
  | 0 => agT c 7
  | k + 1 => (fc (rgt c) 1 (last k), NK) :: (fc (lft c) 3 (last k), NK) :: rsT k
/-- Everything a device owes at the start. -/
def allT : List (GSem nD τ sig × ℕ) := (bc (lft c), 1) :: (bc (rgt c), 1) :: rsT c 7

theorem agT_lv : ∀ k, k ≤ 7 → ∀ x ∈ agT c k, x.1.1.2 = .tc ∧ 15 - k < lv x.1 ()
  | 0, _, x, hx => by cases hx
  | k + 1, hk, x, hx => by
    rcases List.mem_cons.1 hx with rfl | hx
    · refine ⟨rfl, ?_⟩
      show _ < lv (fc (rgt c) 5 (last k)) ()
      rw [lv_fam]; unfold last; simp; omega
    rcases List.mem_cons.1 hx with rfl | hx
    · refine ⟨rfl, ?_⟩
      show _ < lv (fc (lft c) 7 (last k)) ()
      rw [lv_fam]; unfold last; simp; omega
    · obtain ⟨h₁, h₂⟩ := agT_lv k (by omega) x hx
      exact ⟨h₁, by omega⟩
theorem rsT_lv : ∀ k, k ≤ 7 → ∀ x ∈ rsT c k, x.1.1.2 = .tc ∧ 8 - k < lv x.1 ()
  | 0, _, x, hx => by obtain ⟨h₁, h₂⟩ := agT_lv c 7 (le_refl _) x hx; exact ⟨h₁, by omega⟩
  | k + 1, hk, x, hx => by
    rcases List.mem_cons.1 hx with rfl | hx
    · refine ⟨rfl, ?_⟩
      show _ < lv (fc (rgt c) 1 (last k)) ()
      rw [lv_fam]; unfold last; simp; omega
    rcases List.mem_cons.1 hx with rfl | hx
    · refine ⟨rfl, ?_⟩
      show _ < lv (fc (lft c) 3 (last k)) ()
      rw [lv_fam]; unfold last; simp; omega
    · obtain ⟨h₁, h₂⟩ := rsT_lv k (by omega) x hx
      exact ⟨h₁, by omega⟩

/-- What is still owed, with the waits made so far. -/
def ow (l : List (GSem nD τ sig × ℕ)) : sProp 𝕄 := iprop(∃ W : Waits sig Unit, owes (c : Thread nD τ) (owedFrom l) W)

/-! ## The invariants -/

def barCells : Finset (GSem nD τ sig) := Finset.univ.image fun d : Dev nD => bc d
def famCells : Finset (GSem nD τ sig) := Finset.univ.image fun x : Dev nD × Fin 8 × Fin 7 => fc x.1 x.2.1 x.2.2
def locCells : Finset (GSem nD τ sig) := Finset.univ.image fun x : Dev nD × Fin 4 => lc x.1 x.2
def cells : Finset (GSem nD τ sig) := barCells ∪ (famCells ∪ locCells)

theorem bc_mem (d : Dev nD) : bc d ∈ cells := Finset.mem_union_left _ (Finset.mem_image_of_mem _ (Finset.mem_univ d))
theorem fc_mem (d : Dev nD) (j : Fin 8) (s : Fin 7) : fc d j s ∈ cells :=
  Finset.mem_union_right _ (Finset.mem_union_left _ (Finset.mem_image.2 ⟨(d, j, s), Finset.mem_univ _, rfl⟩))
theorem lc_mem (d : Dev nD) (ch : Fin 4) : lc d ch ∈ cells :=
  Finset.mem_union_right _ (Finset.mem_union_right _ (Finset.mem_image.2 ⟨(d, ch), Finset.mem_univ _, rfl⟩))

/-- The invariants of all counters, at the names the launch gave them, and the order of the waits. -/
def know (κ : GSem nD τ sig → ℕ) : sProp 𝕄 :=
  iprop((bigSep cells fun g => cellInv ER (ringRd I) (κ g) g) ∗ levAts L lv)
instance know_persistent (κ : GSem nD τ sig → ℕ) : BI.Persistent (know I κ) := by unfold know; infer_instance
theorem invs_elim (κ : GSem nD τ sig → ℕ) {g : GSem nD τ sig} {S : Finset (GSem nD τ sig)} (hg : g ∈ S) :
    (bigSep S fun g => (cellInv ER (ringRd I) (κ g) g : sProp 𝕄)) ⊢ cellInv ER (ringRd I) (κ g) g := bigSep_elim hg
theorem know_inv (κ : GSem nD τ sig → ℕ) {g : GSem nD τ sig} (hg : g ∈ cells) : know I κ ⊢ cellInv ER (ringRd I) (κ g) g := by
  unfold know
  iintro ⟨H, -⟩
  iapply (invs_elim I κ hg) $$ H
theorem know_lev (κ : GSem nD τ sig → ℕ) : know I κ ⊢ (levAts L lv : sProp 𝕄) := by
  unfold know
  iintro ⟨-, H⟩
  iexact H

end Cert.KernelIdeal.Mla
-- ==== Proof.Comm.lean ====
/-
# The steps that copy, signal and wait

Each is stated once at a symbolic device and step number: what it needs of the protocol's tokens and of the memory, and
what it leaves.
-/
module

public import proofs.«01_k».proof.Proof.Ring
public import Idealize.SL.BI.BigOpNat

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ) (c : Dev nD)

/-- What a finished copy leaves reads as what was sent. -/
theorem landed {sp : Space} {s : Shape} {e : EltTy} (d : Dev nD) (v : View sig .tc sp s e) (fd : Buf (Elt F) (v.loc (d : Thread nD τ))) (u : s.Idx → Elt F e) :
    (v.loc (d : Thread nD τ) ↦[v.set]{fullShare} v.write (Elt F) fd u Finset.univ) ⊢ (holds d v fullShare u : sProp 𝕄) := by
  unfold holds
  iintro H
  iexists _
  isplitl [H]; · iexact H
  ipureintro
  exact View.read_write_univ _ _

/-! ## One wait, one send -/

theorem famWait {K : PUnit → sProp 𝕄} (j : Fin 8) (s : Fin 7) {a : DmaSem sig} (ha : a = fs j s) {sp sp' : Space} {sh : Shape} {e : EltTy}
    {src : Memref sig .tc sp' sh e} {dst : Memref sig .tc sp sh e} {h₁ : src.view.WordExact} {h₂ : dst.view.WordExact} {k : PUnit → Pr F PUnit}
    (hN : dst.view.dmaCredit = famN j) (l : List (GSem nD τ sig × ℕ)) (hl : ∀ x ∈ l, x.1.1.2 = .tc ∧ lv (fc c j s) () < lv x.1 ()) :
    iprop(know I κ ∗ cred (tallyAt (fc c j s) () (famN j)) ∗ ow c l ∗ atPos ER (fc c j s) 0 ∅ 0)
      ⊢ iprop((ow c l ∗ atPos ER (fc c j s) 1 ∅ 0 ∗ famPay I j s c -∗ run c (k ⟨⟩) K)
        -∗ run c (.op (.waitDma2 a src dst h₁ h₂) k) K) := by
  subst ha
  unfold ow
  iintro ⟨#Hkn, Hc, ⟨%W, HO⟩, Hat⟩ Hk
  iapply (Rounds.wp_wait_rest_token 𝒱₀ ER (ringRd I) (c : Thread nD τ) none (κ := κ (fc c j s))
      (wpE_waitDma2_eq (src := src) (dst := dst) 𝒱₀ (c : Thread nD τ) none Set.univ) (Set.mem_univ _) () (O := owedFrom l) (W := W) (R := 0) (m := 0) (T := ∅)
      ((Nat.zero_add _).trans (hN.trans (expect_fam I c j s).symm))) $$ [Hc HO Hat]
  · isplitr; · iapply (know_inv I κ (fc_mem c j s)); iexact Hkn
    isplitl [Hc]; · rw [hN]; iexact Hc
    isplitl [HO]; · iexact HO
    isplitr; · iapply (mayWait c l (.dma (fs j s)) _ (le_refl _) hl); iapply (know_lev I κ); iexact Hkn
    iexact Hat
  iintro ⟨HO, Hat, -, Hpay⟩
  ihave Hp := (Entails.of_eq (rest_fam I c j s)) $$ Hpay
  iapply Hk
  isplitl [HO]; · iexists _; iexact HO
  isplitl [Hat]; · iexact Hat
  iexact Hp

theorem famSend {K : PUnit → sProp 𝕄} (j j' : Fin 8) (s : Fin 7) (c' : Dev nD) {a b : DmaSem sig} (ha : a = fs j s) (hb : b = fs j' s)
    {sh : Shape} {e : EltTy} {src dst : Memref sig .tc .vmem sh e} {h₁ : src.view.WordExact} {h₂ : dst.view.WordExact}
    {hsc : dst.view.ref.isScScratch = false}
    {h₃ : DmaTarget.Typed (p := .tc) .vmem (SemLoc.dma b) (.remote (Dev.tc c') dst (SemLoc.dma a) hsc)}
    {k : PUnit → Pr F PUnit} (q : PosShare TreeShare) (w : sh.Idx → Elt F e) (hN : dst.view.dmaCredit = famN j) (hj : famN j' = famN j)
    (l : List (GSem nD τ sig × ℕ)) (hp₁ : holds c src.view q w ⊢ famPay I j s c) (hp₂ : holds c' dst.view fullShare w ⊢ famPay I j' s c') :
    iprop(know I κ ∗ holds c src.view q w ∗ any c' dst.view ∗ ow c ((fc c' j' s, famN j) :: l)
        ∗ dutyTok ER (fc c j s) 0 false ∗ reached ER (fc c j s) 0 ∗ dutyTok ER (fc c' j' s) 0 false ∗ reached ER (fc c' j' s) 0)
      ⊢ iprop((cred (tallyAt (fc c j s) () (famN j)) ∗ ow c l -∗ run c (k ⟨⟩) K)
        -∗ run c (.op (.enqueueDma src (.remote (Dev.tc c') dst (.dma a) hsc) (.dma b) h₁ h₂ h₃) k) K) := by
  subst ha hb
  unfold ow any
  unfold holds
  iintro ⟨#Hkn, ⟨%f, Hs, %hf⟩, ⟨%w₀, ⟨%f₀, Hd, -⟩⟩, ⟨%W, HO⟩, Ht, Hr, Ht', Hr'⟩ Hk
  iapply (Rounds.wp_send_pointsTo 𝒱₀ ER (ringRd I) (c : Thread nD τ) none (c' := (c' : Thread nD τ)) (src := src) (dst := dst)
      (sS := .dma (fs j s)) (sem := .dma (fs j' s)) (q := q) (fs := f) (κ₁ := κ (fc c j s)) (κ₂ := κ (fc c' j' s))
      (r₁ := 0) (r₂ := 0) (d₁ := false) (d₂ := false) (fd := f₀)
      (by rw [duties_fam]; exact Finset.mem_singleton_self _) (by rw [duties_fam]; exact Finset.mem_singleton_self _)
      () () (famN j) hN (amount_fam I c j s _) ((amount_fam I c' j' s _).trans hj) (owedFrom l) rfl (W := W)
      (by rw [payload_fam]
          refine BIBase.Entails.trans ?_ hp₁
          unfold holds
          iintro H; iexists _; isplitl [H]; · iexact H
          ipureintro; exact hf)
      (by rw [payload_fam]
          refine BIBase.Entails.trans ?_ hp₂
          rw [hf]
          exact landed c' dst.view f₀ w)) $$ [Hs Hd HO Ht Hr Ht' Hr']
  · isplitr; · iapply (know_inv I κ (fc_mem c j s)); iexact Hkn
    isplitr; · iapply (know_inv I κ (fc_mem c' j' s)); iexact Hkn
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W
  iexact HO

/-! ## The handshake -/

theorem shake_spec {K : PUnit → sProp 𝕄} :
    iprop(know I κ ∗ ow c (allT c) ∗ giveF c ∗ giveB c ∗ dutyTok ER (bc (lft c)) 0 false ∗ dutyTok ER (bc (rgt c)) 0 true
        ∗ reached ER (bc (lft c)) 0 ∗ reached ER (bc (rgt c)) 0 ∗ cred (tallyAt (bc c) () 2) ∗ atPos ER (bc c) 0 ∅ 0)
      ⊢ iprop((ow c (rsT c 7) ∗ giveF (rgt c) ∗ giveB (lft c) ∗ atPos ER (bc c) 1 ∅ 0 -∗ K ⟨⟩) -∗ run c (shake c) K) := by
  simp only [shake, semSignalWord, semWaitWord, Prog.lift, Prog.bind_op, Prog.bind_ret, Prog.pure_eq_ret]
  unfold ow
  iintro ⟨#Hkn, ⟨%W, HO⟩, HF, HB, HtL, HtR, HrL, HrR, Hc, Hat⟩ Hk
  iapply (Rounds.wp_signal 𝒱₀ ER (ringRd I) (c : Thread nD τ) none (dst := (lft c : Thread nD τ)) (sem := barM.sem) (r := 0) (d := false) (κ := κ (bc (lft c)))
      (by rw [duties_bar]; exact Finset.mem_univ _) (amount_bar I (lft c) false) () (owedFrom ((bc (rgt c), 1) :: rsT c 7)) rfl) $$ [HO HtL HF HrL]
  · isplitr; · iapply (know_inv I κ (bc_mem (lft c))); iexact Hkn
    isplitl [HO]; · iexact HO
    isplitl [HtL]; · iexact HtL
    isplitl [HF]
    · rw [payload_bar]; unfold barPay; dsimp only; rw [rgt_lft]; iexact HF
    iexact HrL
  iintro HO
  iapply (Rounds.wp_signal 𝒱₀ ER (ringRd I) (c : Thread nD τ) none (dst := (rgt c : Thread nD τ)) (sem := barM.sem) (r := 0) (d := true) (κ := κ (bc (rgt c)))
      (by rw [duties_bar]; exact Finset.mem_univ _) (amount_bar I (rgt c) true) () (owedFrom (rsT c 7)) rfl) $$ [HO HtR HB HrR]
  · isplitr; · iapply (know_inv I κ (bc_mem (rgt c))); iexact Hkn
    isplitl [HO]; · iexact HO
    isplitl [HtR]; · iexact HtR
    isplitl [HB]
    · rw [payload_bar]; unfold barPay; dsimp only; rw [lft_rgt]; iexact HB
    iexact HrR
  iintro HO
  iapply (Rounds.wp_wait_rest_token 𝒱₀ ER (ringRd I) (c : Thread nD τ) none (κ := κ (bc c))
      (wpE_semWait_eq 𝒱₀ (c : Thread nD τ) none Set.univ) (Set.mem_univ _) () (O := owedFrom (rsT c 7)) (W := W) (R := 0) (m := 0) (T := ∅)
      ((Nat.zero_add 2).trans (expect_bar I c).symm)) $$ [Hc HO Hat]
  · isplitr; · iapply (know_inv I κ (bc_mem c)); iexact Hkn
    isplitl [Hc]; · iexact Hc
    isplitl [HO]; · iexact HO
    isplitr
    · iapply (mayWait c (rsT c 7) (.reg barM.sem) 1 (le_refl _) (fun x hx => (rsT_lv c 7 (le_refl _) x hx)))
      iapply (know_lev I κ); iexact Hkn
    iexact Hat
  iintro ⟨HO, Hat, -, Hpay⟩
  ihave Hp := (Entails.of_eq (rest_bar I c)) $$ Hpay
  icases Hp with ⟨HF, HB⟩
  iapply run_ret
  iapply Hk
  isplitl [HO]; · iexists _; iexact HO
  isplitl [HF]; · iexact HF
  isplitl [HB]; · iexact HB
  iexact Hat

/-! ## A reduce-scatter step's copies and waits -/

/-- What a device brings to step `s`: the tokens of the four additions its two copies make, its places at its own four
    counters, the credit of what it receives. -/
def rs0 (s : Fin 7) : sProp 𝕄 :=
  iprop(dutyTok ER (fc c 0 s) 0 false ∗ dutyTok ER (fc (rgt c) 1 s) 0 false ∗ dutyTok ER (fc c 2 s) 0 false ∗ dutyTok ER (fc (lft c) 3 s) 0 false
    ∗ reached ER (fc c 0 s) 0 ∗ reached ER (fc c 2 s) 0
    ∗ atPos ER (fc c 0 s) 0 ∅ 0 ∗ atPos ER (fc c 1 s) 0 ∅ 0 ∗ atPos ER (fc c 2 s) 0 ∅ 0 ∗ atPos ER (fc c 3 s) 0 ∅ 0
    ∗ cred (tallyAt (fc c 1 s) () NK) ∗ cred (tallyAt (fc c 3 s) () NK))
def ag0 (s : Fin 7) : sProp 𝕄 :=
  iprop(dutyTok ER (fc c 4 s) 0 false ∗ dutyTok ER (fc (rgt c) 5 s) 0 false ∗ dutyTok ER (fc c 6 s) 0 false ∗ dutyTok ER (fc (lft c) 7 s) 0 false
    ∗ reached ER (fc c 4 s) 0 ∗ reached ER (fc c 6 s) 0
    ∗ atPos ER (fc c 4 s) 0 ∅ 0 ∗ atPos ER (fc c 5 s) 0 ∅ 0 ∗ atPos ER (fc c 6 s) 0 ∅ 0 ∗ atPos ER (fc c 7 s) 0 ∅ 0
    ∗ cred (tallyAt (fc c 5 s) () NO) ∗ cred (tallyAt (fc c 7 s) () NO))
/-- The landing places the neighbours opened for step `s`. -/
def land (s : Fin 7) : sProp 𝕄 :=
  iprop((any (rgt c) (rkS s).view ∗ reached ER (fc (rgt c) 1 s) 0) ∗ (any (lft c) (rvS s).view ∗ reached ER (fc (lft c) 3 s) 0)
    ∗ (any (rgt c) (oF (fsl c s.val)).view ∗ reached ER (fc (rgt c) 5 s) 0) ∗ (any (lft c) (oB (bsl c s.val)).view ∗ reached ER (fc (lft c) 7 s) 0))
/-- Its places after the step. -/
def rsEnd (s : Fin 7) : sProp 𝕄 :=
  iprop(atPos ER (fc c 0 s) 1 ∅ 0 ∗ atPos ER (fc c 1 s) 1 ∅ 0 ∗ atPos ER (fc c 2 s) 1 ∅ 0 ∗ atPos ER (fc c 3 s) 1 ∅ 0)
def agEnd (s : Fin 7) : sProp 𝕄 :=
  iprop(atPos ER (fc c 4 s) 1 ∅ 0 ∗ atPos ER (fc c 5 s) 1 ∅ 0 ∗ atPos ER (fc c 6 s) 1 ∅ 0 ∗ atPos ER (fc c 7 s) 1 ∅ 0)
/-- Between the copies and the waits. -/
def rsMid (s : Fin 7) : sProp 𝕄 :=
  iprop(cred (tallyAt (fc c 0 s) () NK) ∗ cred (tallyAt (fc c 1 s) () NK) ∗ cred (tallyAt (fc c 2 s) () NK) ∗ cred (tallyAt (fc c 3 s) () NK)
    ∗ atPos ER (fc c 0 s) 0 ∅ 0 ∗ atPos ER (fc c 1 s) 0 ∅ 0 ∗ atPos ER (fc c 2 s) 0 ∅ 0 ∗ atPos ER (fc c 3 s) 0 ∅ 0)
def agMidF (s : Fin 7) : sProp 𝕄 :=
  iprop(cred (tallyAt (fc c 4 s) () NO) ∗ cred (tallyAt (fc c 5 s) () NO) ∗ atPos ER (fc c 4 s) 0 ∅ 0 ∗ atPos ER (fc c 5 s) 0 ∅ 0)
def agMidB (s : Fin 7) : sProp 𝕄 :=
  iprop(cred (tallyAt (fc c 6 s) () NO) ∗ cred (tallyAt (fc c 7 s) () NO) ∗ atPos ER (fc c 6 s) 0 ∅ 0 ∗ atPos ER (fc c 7 s) 0 ∅ 0)

theorem rsT_at (s : Fin 7) : rsT c (7 - s.val) = (fc (rgt c) 1 s, NK) :: (fc (lft c) 3 s, NK) :: rsT c (6 - s.val) := by
  fin_cases s <;> rfl
theorem agT_at (s : Fin 7) : agT c (7 - s.val) = (fc (rgt c) 5 s, NO) :: (fc (lft c) 7 s, NO) :: agT c (6 - s.val) := by
  fin_cases s <;> rfl

theorem rsSend_spec {K : PUnit → sProp 𝕄} (s : Fin 7) :
    iprop(know I κ ∗ rs0 c s ∗ (any (rgt c) (rkS s).view ∗ reached ER (fc (rgt c) 1 s) 0) ∗ (any (lft c) (rvS s).view ∗ reached ER (fc (lft c) 3 s) 0)
        ∗ holds c (ksS (par s.val)).view fullShare (rows4 (KS I s.val c)) ∗ holds c (vsS (par s.val)).view fullShare (rows4 (VS I s.val c)) ∗ ow c (rsT c (7 - s.val)))
      ⊢ iprop((rsMid c s ∗ ow c (rsT c (6 - s.val)) -∗ K ⟨⟩) -∗ run c (rsSend c s) K) := by
  simp only [rsSend, Prog.lift, Prog.bind_op, Prog.bind_ret]
  rw [rsT_at]
  unfold rs0 rsMid
  iintro ⟨#Hkn, ⟨Ht0, Ht1, Ht2, Ht3, Hr0, Hr2, Ha0, Ha1, Ha2, Ha3, Hc1, Hc3⟩, ⟨Hd1, Hr1⟩, ⟨Hd3, Hr3⟩, Hk, Hv, HO⟩ HK
  iapply (famSend I κ c 0 1 s (rgt c) (sem15 s) (sem16 s) (src := ksS (par s.val)) (dst := rkS s) fullShare (rows4 (KS I s.val c)) rfl rfl _
      (BIBase.Entails.refl) (by show _ ⊢ holds _ _ _ (rows4 (KS I s.val (lft (rgt c)))); rw [lft_rgt])) $$ [Hk Hd1 HO Ht0 Hr0 Ht1 Hr1]
  · isplitr; · iexact Hkn
    isplitl [Hk]; · iexact Hk
    isplitl [Hd1]; · iexact Hd1
    isplitl [HO]; · iexact HO
    isplitl [Ht0]; · iexact Ht0
    isplitl [Hr0]; · iexact Hr0
    isplitl [Ht1]; · iexact Ht1
    iexact Hr1
  iintro ⟨Hc0, HO⟩
  iapply (famSend I κ c 2 3 s (lft c) (sem17 s) (sem18 s) (src := vsS (par s.val)) (dst := rvS s) fullShare (rows4 (VS I s.val c)) rfl rfl _
      (BIBase.Entails.refl) (by show _ ⊢ holds _ _ _ (rows4 (VS I s.val (rgt (lft c)))); rw [rgt_lft])) $$ [Hv Hd3 HO Ht2 Hr2 Ht3 Hr3]
  · isplitr; · iexact Hkn
    isplitl [Hv]; · iexact Hv
    isplitl [Hd3]; · iexact Hd3
    isplitl [HO]; · iexact HO
    isplitl [Ht2]; · iexact Ht2
    isplitl [Hr2]; · iexact Hr2
    isplitl [Ht3]; · iexact Ht3
    iexact Hr3
  iintro ⟨Hc2, HO⟩
  iapply run_ret
  iapply HK
  isplitr [HO]
  · isplitl [Hc0]; · iexact Hc0
    isplitl [Hc1]; · iexact Hc1
    isplitl [Hc2]; · iexact Hc2
    isplitl [Hc3]; · iexact Hc3
    iframe
  · iexact HO

/-- What is owed after step `s` is awaited later than every counter of the step. -/
theorem rs_before (s : Fin 7) (j : Fin 8) (hj : j.val < 4) : ∀ x ∈ rsT c (6 - s.val), x.1.1.2 = .tc ∧ lv (fc c j s) () < lv x.1 () := fun x hx => by
  obtain ⟨h₁, h₂⟩ := rsT_lv c (6 - s.val) (by omega) x hx
  refine ⟨h₁, ?_⟩
  rw [lv_fam, if_pos hj]
  have := s.isLt
  split <;> omega
theorem ag_before (s : Fin 7) (j : Fin 8) : ∀ x ∈ agT c (6 - s.val), x.1.1.2 = .tc ∧ lv (fc c j s) () < lv x.1 () := fun x hx => by
  obtain ⟨h₁, h₂⟩ := agT_lv c (6 - s.val) (by omega) x hx
  refine ⟨h₁, ?_⟩
  rw [lv_fam]
  have := s.isLt
  split
  · omega
  split <;> omega

theorem rsWait_spec {K : PUnit → sProp 𝕄} (s : Fin 7) :
    iprop(know I κ ∗ rsMid c s ∗ ow c (rsT c (6 - s.val)))
      ⊢ iprop((rsEnd c s ∗ ow c (rsT c (6 - s.val)) ∗ holds c (ksS (par s.val)).view fullShare (rows4 (KS I s.val c)) ∗ holds c (vsS (par s.val)).view fullShare (rows4 (VS I s.val c))
          ∗ holds c (rkS s).view fullShare (rows4 (KS I s.val (lft c))) ∗ holds c (rvS s).view fullShare (rows4 (VS I s.val (rgt c))) -∗ K ⟨⟩)
        -∗ run c (rsWait s) K) := by
  simp only [rsWait, Prog.lift, Prog.bind_op, Prog.bind_ret]
  unfold rsMid rsEnd
  iintro ⟨#Hkn, ⟨Hc0, Hc1, Hc2, Hc3, Ha0, Ha1, Ha2, Ha3⟩, HO⟩ HK
  iapply (famWait I κ c 0 s (sem15 s) (dst := ksS (par s.val)) rfl (rsT c (6 - s.val)) (rs_before c s 0 (by decide))) $$ [Hc0 HO Ha0]
  · isplitr; · iexact Hkn
    isplitl [Hc0]; · iexact Hc0
    isplitl [HO]; · iexact HO
    iexact Ha0
  iintro ⟨HO, Ha0, Hp0⟩
  iapply (famWait I κ c 1 s (sem16 s) (dst := rkS s) rfl (rsT c (6 - s.val)) (rs_before c s 1 (by decide))) $$ [Hc1 HO Ha1]
  · isplitr; · iexact Hkn
    isplitl [Hc1]; · iexact Hc1
    isplitl [HO]; · iexact HO
    iexact Ha1
  iintro ⟨HO, Ha1, Hp1⟩
  iapply (famWait I κ c 2 s (sem17 s) (dst := vsS (par s.val)) rfl (rsT c (6 - s.val)) (rs_before c s 2 (by decide))) $$ [Hc2 HO Ha2]
  · isplitr; · iexact Hkn
    isplitl [Hc2]; · iexact Hc2
    isplitl [HO]; · iexact HO
    iexact Ha2
  iintro ⟨HO, Ha2, Hp2⟩
  iapply (famWait I κ c 3 s (sem18 s) (dst := rvS s) rfl (rsT c (6 - s.val)) (rs_before c s 3 (by decide))) $$ [Hc3 HO Ha3]
  · isplitr; · iexact Hkn
    isplitl [Hc3]; · iexact Hc3
    isplitl [HO]; · iexact HO
    iexact Ha3
  iintro ⟨HO, Ha3, Hp3⟩
  simp only [famPay]
  iapply run_ret
  iapply HK
  isplitl [Ha0 Ha1 Ha2 Ha3]; · iframe
  isplitl [HO]; · iexact HO
  isplitl [Hp0]; · iexact Hp0
  isplitl [Hp2]; · iexact Hp2
  isplitl [Hp1]; · iexact Hp1
  iexact Hp3

/-! ## A hop's copies and waits -/

theorem HF_succ (t : ℕ) : HF I (t + 1) c = HF I t (lft c) := rfl
theorem HB_succ (t : ℕ) : HB I (t + 1) c = HB I t (rgt c) := rfl
/-- What lands at a neighbour is what it sends on at the next hop. -/
theorem hofF (s : Fin 7) : holds (rgt c) (ofS c s).view fullShare (rows4 (HF I s.val c)) ⊢ famPay I 5 s (rgt c) := by
  rw [ofS_eq]
  simp only [famPay]
  rw [HF_succ, lft_rgt, ← fsl_next, lft_rgt]
theorem hofB (s : Fin 7) : holds (lft c) (obS c s).view fullShare (rows4 (HB I s.val c)) ⊢ famPay I 7 s (lft c) := by
  rw [obS_eq]
  simp only [famPay]
  rw [HB_succ, rgt_lft, ← bsl_next, rgt_lft]
theorem agSendF_spec {K : PUnit → sProp 𝕄} (s : Fin 7) (l : List (GSem nD τ sig × ℕ)) :
    iprop(know I κ ∗ (dutyTok ER (fc c 4 s) 0 false ∗ reached ER (fc c 4 s) 0 ∗ dutyTok ER (fc (rgt c) 5 s) 0 false)
        ∗ (any (rgt c) (oF (fsl c s.val)).view ∗ reached ER (fc (rgt c) 5 s) 0)
        ∗ holds c (oF (fsl c s.val)).view lent (rows4 (HF I s.val c)) ∗ ow c ((fc (rgt c) 5 s, NO) :: l))
      ⊢ iprop((cred (tallyAt (fc c 4 s) () NO) ∗ ow c l -∗ K ⟨⟩) -∗ run c (agSendF c s) K) := by
  simp only [agSendF, Prog.lift]
  iintro ⟨#Hkn, ⟨Ht, Hr, Ht'⟩, ⟨Hd, Hr'⟩, Hs, HO⟩ HK
  iapply (famSend I κ c 4 5 s (rgt c) (sem19 s) (sem20 s) (src := ofS c s) (dst := ofS c s) lent (rows4 (HF I s.val c)) rfl rfl l
      (by rw [ofS_eq]; exact BIBase.Entails.refl)
      (hofF I c s)) $$ [Hs Hd HO Ht Hr Ht' Hr']
  · rw [ofS_eq]
    isplitr; · iexact Hkn
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply run_ret
  iapply HK
  isplitl [Hc]; · iexact Hc
  iexact HO
theorem agSendB_spec {K : PUnit → sProp 𝕄} (s : Fin 7) (l : List (GSem nD τ sig × ℕ)) :
    iprop(know I κ ∗ (dutyTok ER (fc c 6 s) 0 false ∗ reached ER (fc c 6 s) 0 ∗ dutyTok ER (fc (lft c) 7 s) 0 false)
        ∗ (any (lft c) (oB (bsl c s.val)).view ∗ reached ER (fc (lft c) 7 s) 0)
        ∗ holds c (oB (bsl c s.val)).view lent (rows4 (HB I s.val c)) ∗ ow c ((fc (lft c) 7 s, NO) :: l))
      ⊢ iprop((cred (tallyAt (fc c 6 s) () NO) ∗ ow c l -∗ K ⟨⟩) -∗ run c (agSendB c s) K) := by
  simp only [agSendB, Prog.lift]
  iintro ⟨#Hkn, ⟨Ht, Hr, Ht'⟩, ⟨Hd, Hr'⟩, Hs, HO⟩ HK
  iapply (famSend I κ c 6 7 s (lft c) (sem21 s) (sem22 s) (src := obS c s) (dst := obS c s) lent (rows4 (HB I s.val c)) rfl rfl l
      (by rw [obS_eq]; exact BIBase.Entails.refl)
      (hofB I c s)) $$ [Hs Hd HO Ht Hr Ht' Hr']
  · rw [obS_eq]
    isplitr; · iexact Hkn
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply run_ret
  iapply HK
  isplitl [Hc]; · iexact Hc
  iexact HO

theorem agWait_spec {K : PUnit → sProp 𝕄} (s : Fin 7) :
    iprop(know I κ ∗ agMidF c s ∗ agMidB c s ∗ ow c (agT c (6 - s.val)))
      ⊢ iprop((agEnd c s ∗ ow c (agT c (6 - s.val)) ∗ holds c (oF (fsl c s.val)).view lent (rows4 (HF I s.val c)) ∗ holds c (oB (bsl c s.val)).view lent (rows4 (HB I s.val c))
          ∗ holds c (oF (fsl c (s.val + 1))).view fullShare (rows4 (HF I (s.val + 1) c)) ∗ holds c (oB (bsl c (s.val + 1))).view fullShare (rows4 (HB I (s.val + 1) c)) -∗ K ⟨⟩)
        -∗ run c (agWait c s) K) := by
  simp only [agWait, Prog.lift, Prog.bind_op, Prog.bind_ret]
  unfold agMidF agMidB agEnd
  iintro ⟨#Hkn, ⟨Hc0, Hc1, Ha0, Ha1⟩, ⟨Hc2, Hc3, Ha2, Ha3⟩, HO⟩ HK
  iapply (famWait I κ c 4 s (sem19 s) (dst := ofS c s) rfl (agT c (6 - s.val)) (ag_before c s 4)) $$ [Hc0 HO Ha0]
  · isplitr; · iexact Hkn
    isplitl [Hc0]; · iexact Hc0
    isplitl [HO]; · iexact HO
    iexact Ha0
  iintro ⟨HO, Ha0, Hp0⟩
  iapply (famWait I κ c 5 s (sem20 s) (dst := ofS c s) rfl (agT c (6 - s.val)) (ag_before c s 5)) $$ [Hc1 HO Ha1]
  · isplitr; · iexact Hkn
    isplitl [Hc1]; · iexact Hc1
    isplitl [HO]; · iexact HO
    iexact Ha1
  iintro ⟨HO, Ha1, Hp1⟩
  iapply (famWait I κ c 6 s (sem21 s) (dst := obS c s) rfl (agT c (6 - s.val)) (ag_before c s 6)) $$ [Hc2 HO Ha2]
  · isplitr; · iexact Hkn
    isplitl [Hc2]; · iexact Hc2
    isplitl [HO]; · iexact HO
    iexact Ha2
  iintro ⟨HO, Ha2, Hp2⟩
  iapply (famWait I κ c 7 s (sem22 s) (dst := obS c s) rfl (agT c (6 - s.val)) (ag_before c s 7)) $$ [Hc3 HO Ha3]
  · isplitr; · iexact Hkn
    isplitl [Hc3]; · iexact Hc3
    isplitl [HO]; · iexact HO
    iexact Ha3
  iintro ⟨HO, Ha3, Hp3⟩
  simp only [famPay]
  iapply run_ret
  iapply HK
  isplitl [Ha0 Ha1 Ha2 Ha3]; · iframe
  isplitl [HO]; · iexact HO
  isplitl [Hp0]; · iexact Hp0
  isplitl [Hp2]; · iexact Hp2
  isplitl [Hp1]; · iexact Hp1
  iexact Hp3

/-! ## The fetches of the weight rows -/

def toks (ch : Fin 4) (r : ℕ) : sProp 𝕄 := bigSep (Finset.Ico r 4) fun r' => dutyTok ER (lc c ch) r' false
/-- All the weight rows, at one share. -/
def woPts (q : PosShare TreeShare) : sProp 𝕄 :=
  (woM.view.loc (c : Thread nD τ) ↦{q} (show Buf (Elt F) (woM.view.loc (c : Thread nD τ)) from (I c).wo))
/-- Channel `ch` with nothing on its way, its next fetch the one of round `r`. -/
def idle (ch : Fin 4) (r : ℕ) : sProp 𝕄 :=
  iprop(atPos ER (lc c ch) r ∅ 0 ∗ reached ER (lc c ch) r ∗ toks c ch r ∗ woPts I c (qtr ch))
/-- Channel of step `t` with the rows of step `t` on their way. -/
def busyF (t : Fin 8) : sProp 𝕄 :=
  iprop(atPos ER (lc c (chF t.val)) (t.val / 2) ∅ 0 ∗ toks c (chF t.val) (t.val / 2 + 1) ∗ cred (tallyAt (lc c (chF t.val)) () NW)
    ∗ (srcF I c t (qtr (chF t.val)) -∗ woPts I c (qtr (chF t.val))))
def busyB (t : Fin 8) : sProp 𝕄 :=
  iprop(atPos ER (lc c (chB t.val)) (t.val / 2) ∅ 0 ∗ toks c (chB t.val) (t.val / 2 + 1) ∗ cred (tallyAt (lc c (chB t.val)) () NW)
    ∗ (srcB I c t (qtr (chB t.val)) -∗ woPts I c (qtr (chB t.val))))

theorem locPay_F (t : Fin 8) : locPay I (chF t.val) (t.val / 2) c = iprop(holds c (wfS (par t.val)).view fullShare (wF I c t) ∗ srcF I c t (qtr (chF t.val))) := by
  have e₁ : blk (2 * (t.val / 2) + (chF t.val).val % 2) = t := by revert t; decide
  have e₂ : par (chF t.val).val = par t.val := by revert t; decide
  unfold locPay
  rw [if_pos (by revert t; decide), e₁, e₂]
theorem locPay_B (t : Fin 8) : locPay I (chB t.val) (t.val / 2) c = iprop(holds c (wbS (par t.val)).view fullShare (wB I c t) ∗ srcB I c t (qtr (chB t.val))) := by
  have e₁ : blk (2 * (t.val / 2) + (chB t.val).val % 2) = t := by revert t; decide
  have e₂ : par (chB t.val).val = par t.val := by revert t; decide
  unfold locPay
  rw [if_neg (by revert t; decide), e₁, e₂]

theorem carveF (t : Fin 8) (q : PosShare TreeShare) : woPts I c q ⊢ iprop(srcF I c t q ∗ (srcF I c t q -∗ woPts I c q)) := by
  unfold woPts srcF
  iintro H
  ihave H' := (pointsTo_split_subset (Finset.subset_univ (woF c t).view.set)).1 $$ H
  icases H' with ⟨H₁, H₂⟩
  isplitl [H₁]; · iexact H₁
  iintro H₁
  iapply (pointsTo_split_subset (Finset.subset_univ (woF c t).view.set)).2
  isplitl [H₁]; · iexact H₁
  iexact H₂
theorem carveB (t : Fin 8) (q : PosShare TreeShare) : woPts I c q ⊢ iprop(srcB I c t q ∗ (srcB I c t q -∗ woPts I c q)) := by
  unfold woPts srcB
  iintro H
  ihave H' := (pointsTo_split_subset (Finset.subset_univ (woB c t).view.set)).1 $$ H
  icases H' with ⟨H₁, H₂⟩
  isplitl [H₁]; · iexact H₁
  iintro H₁
  iapply (pointsTo_split_subset (Finset.subset_univ (woB c t).view.set)).2
  isplitl [H₁]; · iexact H₁
  iexact H₂

theorem toks_peel (ch : Fin 4) (r : ℕ) (hr : r < 4) : (toks c ch r : sProp 𝕄) = iprop(dutyTok ER (lc c ch) r false ∗ toks c ch (r + 1)) := by
  unfold toks
  exact bigSep_Ico_succ_bot hr _

theorem fetchF_spec {K : PUnit → sProp 𝕄} (t : Fin 8) :
    iprop(know I κ ∗ idle I c (chF t.val) (t.val / 2) ∗ any c (wfS (par t.val)).view)
      ⊢ iprop((busyF I c t -∗ K ⟨⟩) -∗ run c (fetchF c t) K) := by
  have ht : t.val / 2 < 4 := by have := t.isLt; omega
  simp only [fetchF, Prog.lift]
  unfold idle busyF
  rw [toks_peel c (chF t.val) _ ht]
  unfold any
  unfold holds
  iintro ⟨#Hkn, ⟨Ha, Hr, ⟨Ht, Hts⟩, Hw⟩, ⟨%w₀, ⟨%f₀, Hd, -⟩⟩⟩ HK
  ihave Hw' := (carveF I c t (qtr (chF t.val))) $$ Hw
  icases Hw' with ⟨Hs, Hback⟩
  unfold srcF
  simp only [show sem2 cc0_scratch23 (par t.val) = ls (chF t.val) from sem23 t]
  iapply (Rounds.wp_copy_pointsTo 𝒱₀ ER (ringRd I) (c : Thread nD τ) none (src := woF c t) (dst := wfS (par t.val)) (sem := .dma (ls (chF t.val))) (q := qtr (chF t.val))
      (fs := (show Buf (Elt F) ((woF c t).view.loc (c : Thread nD τ)) from (I c).wo)) (fd := f₀) (r := t.val / 2) (d := false) (κ := κ (lc c (chF t.val)))
      (by rw [duties_loc I c _ _ ht]; exact Finset.mem_singleton_self _) () NW rfl (amount_loc I c _ _ _)
      (by rw [payload_loc, locPay_F]
          exact Laws.sep_mono (landed c (wfS (par t.val)).view f₀ (wF I c t)) BIBase.Entails.refl)) $$ [Hs Hd Ht Hr]
  · isplitr; · iapply (know_inv I κ (lc_mem c _)); iexact Hkn
    isplitl [Hs]; · iexact Hs
    isplitl [Hd]; · iexact Hd
    isplitl [Ht]; · iexact Ht
    iexact Hr
  iintro Hc
  iapply run_ret
  iapply HK
  isplitl [Ha]; · iexact Ha
  isplitl [Hts]; · iexact Hts
  isplitl [Hc]; · iexact Hc
  iexact Hback
theorem fetchB_spec {K : PUnit → sProp 𝕄} (t : Fin 8) :
    iprop(know I κ ∗ idle I c (chB t.val) (t.val / 2) ∗ any c (wbS (par t.val)).view)
      ⊢ iprop((busyB I c t -∗ K ⟨⟩) -∗ run c (fetchB c t) K) := by
  have ht : t.val / 2 < 4 := by have := t.isLt; omega
  simp only [fetchB, Prog.lift]
  unfold idle busyB
  rw [toks_peel c (chB t.val) _ ht]
  unfold any
  unfold holds
  iintro ⟨#Hkn, ⟨Ha, Hr, ⟨Ht, Hts⟩, Hw⟩, ⟨%w₀, ⟨%f₀, Hd, -⟩⟩⟩ HK
  ihave Hw' := (carveB I c t (qtr (chB t.val))) $$ Hw
  icases Hw' with ⟨Hs, Hback⟩
  unfold srcB
  simp only [show sem2 cc0_scratch24 (par t.val) = ls (chB t.val) from sem24 t]
  iapply (Rounds.wp_copy_pointsTo 𝒱₀ ER (ringRd I) (c : Thread nD τ) none (src := woB c t) (dst := wbS (par t.val)) (sem := .dma (ls (chB t.val))) (q := qtr (chB t.val))
      (fs := (show Buf (Elt F) ((woB c t).view.loc (c : Thread nD τ)) from (I c).wo)) (fd := f₀) (r := t.val / 2) (d := false) (κ := κ (lc c (chB t.val)))
      (by rw [duties_loc I c _ _ ht]; exact Finset.mem_singleton_self _) () NW rfl (amount_loc I c _ _ _)
      (by rw [payload_loc, locPay_B]
          exact Laws.sep_mono (landed c (wbS (par t.val)).view f₀ (wB I c t)) BIBase.Entails.refl)) $$ [Hs Hd Ht Hr]
  · isplitr; · iapply (know_inv I κ (lc_mem c _)); iexact Hkn
    isplitl [Hs]; · iexact Hs
    isplitl [Hd]; · iexact Hd
    isplitl [Ht]; · iexact Ht
    iexact Hr
  iintro Hc
  iapply run_ret
  iapply HK
  isplitl [Ha]; · iexact Ha
  isplitl [Hts]; · iexact Hts
  isplitl [Hc]; · iexact Hc
  iexact Hback

/-- The counters of the local fetches come before every one owed to. -/
theorem loc_before (ch : Fin 4) (k : ℕ) (hk : k ≤ 7) : ∀ x ∈ agT c k, x.1.1.2 = .tc ∧ lv (lc c ch) () < lv x.1 () := fun x hx => by
  obtain ⟨h₁, h₂⟩ := agT_lv c k hk x hx
  exact ⟨h₁, by rw [lv_loc]; omega⟩

theorem gotF_spec {K : PUnit → sProp 𝕄} (t : Fin 8) (k : ℕ) (hk : k ≤ 7) :
    iprop(know I κ ∗ busyF I c t ∗ ow c (agT c k))
      ⊢ iprop((idle I c (chF t.val) (t.val / 2 + 1) ∗ ow c (agT c k) ∗ holds c (wfS (par t.val)).view fullShare (wF I c t) -∗ K ⟨⟩) -∗ run c (gotF c t) K) := by
  have ht : t.val / 2 < 4 := by have := t.isLt; omega
  simp only [gotF, Prog.lift]
  unfold idle busyF ow
  simp only [show sem2 cc0_scratch23 (par t.val) = ls (chF t.val) from sem23 t]
  iintro ⟨#Hkn, ⟨Ha, Hts, Hc, Hback⟩, ⟨%W, HO⟩⟩ HK
  iapply (Rounds.wp_wait_rest_token 𝒱₀ ER (ringRd I) (c : Thread nD τ) none (κ := κ (lc c (chF t.val)))
      (wpE_waitDma2_eq (src := woF c t) (dst := wfS (par t.val)) 𝒱₀ (c : Thread nD τ) none Set.univ) (Set.mem_univ _) () (O := owedFrom (agT c k)) (W := W) (R := t.val / 2) (m := 0) (T := ∅)
      ((Nat.zero_add NW).trans (expect_loc I c (chF t.val) _ ht).symm)) $$ [Hc HO Ha]
  · isplitr; · iapply (know_inv I κ (lc_mem c _)); iexact Hkn
    isplitl [Hc]; · iexact Hc
    isplitl [HO]; · iexact HO
    isplitr; · iapply (mayWait c (agT c k) (.dma (ls (chF t.val))) _ (le_refl _) (loc_before c _ k hk)); iapply (know_lev I κ); iexact Hkn
    iexact Ha
  iintro ⟨HO, Ha, Hr, Hpay⟩
  ihave Hp := (Entails.of_eq ((rest_loc I c (chF t.val) _ ht).trans (locPay_F I c t))) $$ Hpay
  icases Hp with ⟨Hd, Hs⟩
  iapply run_ret
  iapply HK
  isplitl [Ha Hr Hts Hback Hs]
  · isplitl [Ha]; · iexact Ha
    isplitl [Hr]; · iexact Hr
    isplitl [Hts]; · iexact Hts
    iapply Hback
    iexact Hs
  isplitl [HO]; · iexists _; iexact HO
  iexact Hd
theorem gotB_spec {K : PUnit → sProp 𝕄} (t : Fin 8) (k : ℕ) (hk : k ≤ 7) :
    iprop(know I κ ∗ busyB I c t ∗ ow c (agT c k))
      ⊢ iprop((idle I c (chB t.val) (t.val / 2 + 1) ∗ ow c (agT c k) ∗ holds c (wbS (par t.val)).view fullShare (wB I c t) -∗ K ⟨⟩) -∗ run c (gotB c t) K) := by
  have ht : t.val / 2 < 4 := by have := t.isLt; omega
  simp only [gotB, Prog.lift]
  unfold idle busyB ow
  simp only [show sem2 cc0_scratch24 (par t.val) = ls (chB t.val) from sem24 t]
  iintro ⟨#Hkn, ⟨Ha, Hts, Hc, Hback⟩, ⟨%W, HO⟩⟩ HK
  iapply (Rounds.wp_wait_rest_token 𝒱₀ ER (ringRd I) (c : Thread nD τ) none (κ := κ (lc c (chB t.val)))
      (wpE_waitDma2_eq (src := woB c t) (dst := wbS (par t.val)) 𝒱₀ (c : Thread nD τ) none Set.univ) (Set.mem_univ _) () (O := owedFrom (agT c k)) (W := W) (R := t.val / 2) (m := 0) (T := ∅)
      ((Nat.zero_add NW).trans (expect_loc I c (chB t.val) _ ht).symm)) $$ [Hc HO Ha]
  · isplitr; · iapply (know_inv I κ (lc_mem c _)); iexact Hkn
    isplitl [Hc]; · iexact Hc
    isplitl [HO]; · iexact HO
    isplitr; · iapply (mayWait c (agT c k) (.dma (ls (chB t.val))) _ (le_refl _) (loc_before c _ k hk)); iapply (know_lev I κ); iexact Hkn
    iexact Ha
  iintro ⟨HO, Ha, Hr, Hpay⟩
  ihave Hp := (Entails.of_eq ((rest_loc I c (chB t.val) _ ht).trans (locPay_B I c t))) $$ Hpay
  icases Hp with ⟨Hd, Hs⟩
  iapply run_ret
  iapply HK
  isplitl [Ha Hr Hts Hback Hs]
  · isplitl [Ha]; · iexact Ha
    isplitl [Hr]; · iexact Hr
    isplitl [Hts]; · iexact Hts
    iapply Hback
    iexact Hs
  isplitl [HO]; · iexists _; iexact HO
  iexact Hd

end Cert.KernelIdeal.Mla
-- ==== Proof.Body.lean ====
/-
# The body of one device

The steps put together: the setting up, a reduce-scatter step with the additions after it, a hop with its projections,
and the whole body of the device `c`, from its operands, empty scratch buffers and its part of the protocol to the result.
-/
module

public import proofs.«01_k».proof.Proof.Comm

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (κ : GSem nD τ sig → ℕ) (c : Dev nD)

theorem any_elim {sp : Space} {s : Shape} {e : EltTy} (v : View sig .tc sp s e) : (any c v : sProp 𝕄) ⊢ iprop(∃ w : s.Idx → Elt F e, holds c v fullShare w) :=
  BIBase.Entails.refl

/-! ## Two rows at a time -/

section TwoRows

variable {X : Type} {a k : ℕ}

theorem setRow_other (w : (⟨3, ![2, a, k]⟩ : Shape).Idx → X) (v : (⟨3, ![1, a, k]⟩ : Shape).Idx → X) {h} :
    (fun j => setRow w 0 v ((Rect.unit (s := (⟨3, ![2, a, k]⟩ : Shape)) ![(1 : Fin 2).val, 0, 0] (⟨3, ![1, a, k]⟩ : Shape).size h).emb j))
      = fun j => w ((Rect.unit (s := (⟨3, ![2, a, k]⟩ : Shape)) ![(1 : Fin 2).val, 0, 0] (⟨3, ![1, a, k]⟩ : Shape).size h).emb j) := by
  funext j
  have e := row_emb (a := a) (k := k) (b := 1) (h := h) 0 0 rfl j (j 1).isLt (j 2).isLt
  exact (congrArg (setRow w 0 v) e).trans ((if_neg (show ¬ (1 : Fin 2).val = (0 : Fin 2).val by decide)).trans (congrArg w e).symm)

/-- Both rows replaced, each by a function of what it was. -/
theorem setRow_both (u : Fin 2 → (⟨3, ![1, a, k]⟩ : Shape).Idx → X) (f : Fin 2 → ((⟨3, ![1, a, k]⟩ : Shape).Idx → X) → (⟨3, ![1, a, k]⟩ : Shape).Idx → X) {h h'} :
    setRow (setRow (rows u) 0 (f 0 (fun j => rows u ((Rect.unit (s := (⟨3, ![2, a, k]⟩ : Shape)) ![(0 : Fin 2).val, 0, 0] (⟨3, ![1, a, k]⟩ : Shape).size h).emb j)))) 1
        (f 1 (fun j => setRow (rows u) 0 (f 0 (fun j => rows u ((Rect.unit (s := (⟨3, ![2, a, k]⟩ : Shape)) ![(0 : Fin 2).val, 0, 0] (⟨3, ![1, a, k]⟩ : Shape).size h).emb j)))
          ((Rect.unit (s := (⟨3, ![2, a, k]⟩ : Shape)) ![(1 : Fin 2).val, 0, 0] (⟨3, ![1, a, k]⟩ : Shape).size h').emb j)))
      = rows fun b => f b (u b) := by
  exact (congrArg₂ (fun x y => setRow (setRow (rows u) 0 (f 0 x)) 1 (f 1 y)) (rows_at (u := u) (b := 0)) ((setRow_other (rows u) _).trans (rows_at (u := u) (b := 1)))).trans
    (setRow_rows (rows u) (fun b => f b (u b)))

end TwoRows

/-! ## The partial sums of a block, and the setting up -/

theorem kv_spec {K : PUnit → sProp 𝕄} (t : Fin 8) :
    iprop((holds c cM.view fullShare (rows (cW I c)) ∗ holds c wkM.view fullShare (I c).wk ∗ holds c wvM.view fullShare (I c).wv) ∗ any c kfM.view ∗ any c vfM.view)
      ⊢ iprop(((holds c cM.view fullShare (rows (cW I c)) ∗ holds c wkM.view fullShare (I c).wk ∗ holds c wvM.view fullShare (I c).wv)
          ∗ holds c kfM.view fullShare (rows (kP I t.val c)) ∗ holds c vfM.view fullShare (rows (vP I t.val c)) -∗ K ⟨⟩)
        -∗ run c (kPart t 0) fun _ => run c (kPart t 1) fun _ => run c (vPart t 0) fun _ => run c (vPart t 1) K) := by
  unfold any
  iintro ⟨⟨Hc, Hwk, Hwv⟩, ⟨%w, Hk⟩, ⟨%w', Hv⟩⟩ HK
  iapply (kPart_spec I c t 0 _) $$ [Hc Hwk Hk]
  · isplitl [Hc]; · iexact Hc
    isplitl [Hwk]; · iexact Hwk
    iexact Hk
  iintro ⟨Hc, Hwk, Hk⟩
  iapply (kPart_spec I c t 1 _) $$ [Hc Hwk Hk]
  · isplitl [Hc]; · iexact Hc
    isplitl [Hwk]; · iexact Hwk
    iexact Hk
  iintro ⟨Hc, Hwk, Hk⟩
  rw [setRow_rows]
  iapply (vPart_spec I c t 0 _) $$ [Hc Hwv Hv]
  · isplitl [Hc]; · iexact Hc
    isplitl [Hwv]; · iexact Hwv
    iexact Hv
  iintro ⟨Hc, Hwv, Hv⟩
  iapply (vPart_spec I c t 1 _) $$ [Hc Hwv Hv]
  · isplitl [Hc]; · iexact Hc
    isplitl [Hwv]; · iexact Hwv
    iexact Hv
  iintro ⟨Hc, Hwv, Hv⟩
  rw [setRow_rows]
  iapply HK
  isplitl [Hc Hwk Hwv]
  · isplitl [Hc]; · iexact Hc
    isplitl [Hwk]; · iexact Hwk
    iexact Hwv
  isplitl [Hk]; · iexact Hk
  iexact Hv

/-- What the handshake takes. -/
def shake0 : sProp 𝕄 :=
  iprop(ow c (allT c) ∗ giveF c ∗ giveB c ∗ dutyTok ER (bc (lft c)) 0 false ∗ dutyTok ER (bc (rgt c)) 0 true
        ∗ reached ER (bc (lft c)) 0 ∗ reached ER (bc (rgt c)) 0 ∗ cred (tallyAt (bc c) () 2) ∗ atPos ER (bc c) 0 ∅ 0)
/-- The compressed activations and the weights the partial sums are made of. -/
def cwv : sProp 𝕄 :=
  iprop(holds c cM.view fullShare (rows (cW I c)) ∗ holds c wkM.view fullShare (I c).wk ∗ holds c wvM.view fullShare (I c).wv)
/-- The fetches before the first hop. -/
def fetch0 : sProp 𝕄 :=
  iprop((idle I c (chF (0 : Fin 8).val) ((0 : Fin 8).val / 2) ∗ any c (wfS (par (0 : Fin 8).val)).view)
    ∗ (idle I c (chB (0 : Fin 8).val) ((0 : Fin 8).val / 2) ∗ any c (wbS (par (0 : Fin 8).val)).view)
    ∗ (idle I c (chF (1 : Fin 8).val) ((1 : Fin 8).val / 2) ∗ any c (wfS (par (1 : Fin 8).val)).view)
    ∗ (idle I c (chB (1 : Fin 8).val) ((1 : Fin 8).val / 2) ∗ any c (wbS (par (1 : Fin 8).val)).view))
def busy01 : sProp 𝕄 := iprop(busyF I c 0 ∗ busyB I c 0 ∗ busyF I c 1 ∗ busyB I c 1)

theorem setUp_spec {K : PUnit → sProp 𝕄} :
    iprop(know I κ ∗ fetch0 I c ∗ holds c xM.view fullShare (I c).x ∗ holds c wdM.view fullShare (I c).wd ∗ holds c wkM.view fullShare (I c).wk
        ∗ holds c wvM.view fullShare (I c).wv ∗ any c cM.view ∗ any c kfM.view ∗ any c vfM.view ∗ any c (ksS 0).view ∗ any c (vsS 0).view ∗ shake0 c)
      ⊢ iprop((busy01 I c ∗ holds c xM.view fullShare (I c).x ∗ holds c wdM.view fullShare (I c).wd ∗ cwv I c
          ∗ holds c kfM.view fullShare (rows (kP I 0 c)) ∗ holds c vfM.view fullShare (rows (vP I 0 c))
          ∗ holds c (ksS 0).view fullShare (rows4 (KS I 0 c)) ∗ holds c (vsS 0).view fullShare (rows4 (VS I 0 c))
          ∗ ow c (rsT c 7) ∗ giveF (rgt c) ∗ giveB (lft c) ∗ atPos ER (bc c) 1 ∅ 0 -∗ K ⟨⟩)
        -∗ run c (setUp c) K) := by
  simp only [setUp, wp_bind]
  unfold fetch0 busy01 cwv
  iintro ⟨#Hkn, ⟨⟨Hi0, Hw0⟩, ⟨Hi1, Hw1⟩, ⟨Hi2, Hw2⟩, ⟨Hi3, Hw3⟩⟩, Hx, Hwd, Hwk, Hwv, Hc, Hk, Hv, Hks, Hvs, Hsh⟩ HK
  iapply (fetchF_spec I κ c 0) $$ [Hi0 Hw0]
  · isplitr; · iexact Hkn
    isplitl [Hi0]; · iexact Hi0
    iexact Hw0
  iintro Hb0
  iapply (fetchB_spec I κ c 0) $$ [Hi1 Hw1]
  · isplitr; · iexact Hkn
    isplitl [Hi1]; · iexact Hi1
    iexact Hw1
  iintro Hb1
  iapply (fetchF_spec I κ c 1) $$ [Hi2 Hw2]
  · isplitr; · iexact Hkn
    isplitl [Hi2]; · iexact Hi2
    iexact Hw2
  iintro Hb2
  iapply (fetchB_spec I κ c 1) $$ [Hi3 Hw3]
  · isplitr; · iexact Hkn
    isplitl [Hi3]; · iexact Hi3
    iexact Hw3
  iintro Hb3
  ihave Hc' := (any_elim c cM.view) $$ Hc
  icases Hc' with ⟨%w, Hc⟩
  iapply (cStep_spec I c 0 _) $$ [Hx Hwd Hc]
  · isplitl [Hx]; · iexact Hx
    isplitl [Hwd]; · iexact Hwd
    iexact Hc
  iintro ⟨Hx, Hwd, Hc⟩
  iapply (cStep_spec I c 1 _) $$ [Hx Hwd Hc]
  · isplitl [Hx]; · iexact Hx
    isplitl [Hwd]; · iexact Hwd
    iexact Hc
  iintro ⟨Hx, Hwd, Hc⟩
  rw [setRow_rows]
  iapply (kv_spec I c 0) $$ [Hc Hwk Hwv Hk Hv]
  · isplitl [Hc Hwk Hwv]
    · isplitl [Hc]; · iexact Hc
      isplitl [Hwk]; · iexact Hwk
      iexact Hwv
    isplitl [Hk]; · iexact Hk
    iexact Hv
  iintro ⟨⟨Hc, Hwk, Hwv⟩, Hk, Hv⟩
  ihave Hks' := (any_elim c (ksS 0).view) $$ Hks
  icases Hks' with ⟨%w₁, Hks⟩
  ihave Hvs' := (any_elim c (vsS 0).view) $$ Hvs
  icases Hvs' with ⟨%w₂, Hvs⟩
  iapply (narrow_spec I c 0 _ _) $$ [Hk Hv Hks Hvs]
  · isplitl [Hk]; · iexact Hk
    isplitl [Hv]; · iexact Hv
    isplitl [Hks]; · iexact Hks
    iexact Hvs
  iintro ⟨Hk, Hv, Hks, Hvs⟩
  iapply (narrow_spec I c 1 _ _) $$ [Hk Hv Hks Hvs]
  · isplitl [Hk]; · iexact Hk
    isplitl [Hv]; · iexact Hv
    isplitl [Hks]; · iexact Hks
    iexact Hvs
  iintro ⟨Hk, Hv, Hks, Hvs⟩
  rw [setRow4_rows, setRow4_rows]
  iapply (shake_spec I κ c) $$ [Hsh]
  · isplitr; · iexact Hkn
    unfold shake0
    iexact Hsh
  iintro ⟨HO, HF, HB, Hat⟩
  iapply HK
  isplitl [Hb0 Hb1 Hb2 Hb3]
  · isplitl [Hb0]; · iexact Hb0
    isplitl [Hb1]; · iexact Hb1
    isplitl [Hb2]; · iexact Hb2
    iexact Hb3
  isplitl [Hx]; · iexact Hx
  isplitl [Hwd]; · iexact Hwd
  isplitl [Hc Hwk Hwv]
  · isplitl [Hc]; · iexact Hc
    isplitl [Hwk]; · iexact Hwk
    iexact Hwv
  isplitl [Hk]; · iexact Hk
  isplitl [Hv]; · iexact Hv
  isplitl [Hks]; · iexact Hks
  isplitl [Hvs]; · iexact Hvs
  isplitl [HO]; · iexact HO
  isplitl [HF]; · iexact HF
  isplitl [HB]; · iexact HB
  iexact Hat

/-! ## A reduce-scatter step -/

/-- What the step's landing places are at the neighbours. -/
def landRs (s : Fin 7) : sProp 𝕄 :=
  iprop((any (rgt c) (rkS s).view ∗ reached ER (fc (rgt c) 1 s) 0) ∗ (any (lft c) (rvS s).view ∗ reached ER (fc (lft c) 3 s) 0))
def landF (s : Fin 7) : sProp 𝕄 := iprop(any (rgt c) (oF (fsl c s.val)).view ∗ reached ER (fc (rgt c) 5 s) 0)
def landB (s : Fin 7) : sProp 𝕄 := iprop(any (lft c) (oB (bsl c s.val)).view ∗ reached ER (fc (lft c) 7 s) 0)
/-- The places after the step and what landed. -/
def rsOut (s : Fin 7) : sProp 𝕄 :=
  iprop(rsEnd c s ∗ holds c (rkS s).view fullShare (rows4 (KS I s.val (lft c))) ∗ holds c (rvS s).view fullShare (rows4 (VS I s.val (rgt c))))

theorem rsStep_spec {K : PUnit → sProp 𝕄} (s : Fin 7) (D D' : sProp 𝕄) (hD : ∀ K : PUnit → sProp 𝕄, D ⊢ iprop((D' -∗ K ⟨⟩) -∗ run c (during s) K)) :
    iprop(know I κ ∗ D ∗ rs0 c s ∗ landRs c s ∗ holds c (ksS (par s.val)).view fullShare (rows4 (KS I s.val c)) ∗ holds c (vsS (par s.val)).view fullShare (rows4 (VS I s.val c))
        ∗ ow c (rsT c (7 - s.val)) ∗ cwv I c ∗ any c kfM.view ∗ any c vfM.view)
      ⊢ iprop((D' ∗ rsOut I c s ∗ holds c (ksS (par s.val)).view fullShare (rows4 (KS I s.val c)) ∗ holds c (vsS (par s.val)).view fullShare (rows4 (VS I s.val c))
          ∗ ow c (rsT c (6 - s.val)) ∗ cwv I c ∗ holds c kfM.view fullShare (rows (kP I (s.val + 1) c)) ∗ holds c vfM.view fullShare (rows (vP I (s.val + 1) c)) -∗ K ⟨⟩)
        -∗ run c (rsStep c s) K) := by
  simp only [rsStep, wp_bind]
  unfold landRs cwv rsOut
  iintro ⟨#Hkn, HD, Hrs, ⟨Hl, Hl'⟩, Hks, Hvs, HO, Hcwv, Hk, Hv⟩ HK
  iapply (rsSend_spec I κ c s) $$ [Hrs Hl Hl' Hks Hvs HO]
  · isplitr; · iexact Hkn
    isplitl [Hrs]; · iexact Hrs
    isplitl [Hl]; · iexact Hl
    isplitl [Hl']; · iexact Hl'
    isplitl [Hks]; · iexact Hks
    isplitl [Hvs]; · iexact Hvs
    iexact HO
  iintro ⟨Hmid, HO⟩
  iapply (hD _) $$ HD
  iintro HD
  iapply (kv_spec I c s.succ) $$ [Hcwv Hk Hv]
  · isplitl [Hcwv]; · iexact Hcwv
    isplitl [Hk]; · iexact Hk
    iexact Hv
  iintro ⟨Hcwv, Hk, Hv⟩
  iapply (rsWait_spec I κ c s) $$ [Hmid HO]
  · isplitr; · iexact Hkn
    isplitl [Hmid]; · iexact Hmid
    iexact HO
  iintro ⟨Hend, HO, Hks, Hvs, Hrk, Hrv⟩
  iapply HK
  isplitl [HD]; · iexact HD
  isplitl [Hend Hrk Hrv]
  · isplitl [Hend]; · iexact Hend
    isplitl [Hrk]; · iexact Hrk
    iexact Hrv
  isplitl [Hks]; · iexact Hks
  isplitl [Hvs]; · iexact Hvs
  isplitl [HO]; · iexact HO
  isplitl [Hcwv]; · iexact Hcwv
  isplitl [Hk]; · iexact Hk
  iexact Hv

/-- A step and the additions after it. -/
theorem round_spec {K : PUnit → sProp 𝕄} (s : Fin 7) (p : Fin 2) (hp : p = par (s.val + 1)) (D D' : sProp 𝕄) (hD : ∀ K : PUnit → sProp 𝕄, D ⊢ iprop((D' -∗ K ⟨⟩) -∗ run c (during s) K)) :
    iprop(know I κ ∗ D ∗ rs0 c s ∗ landRs c s ∗ (holds c (ksS (par s.val)).view fullShare (rows4 (KS I s.val c)) ∗ holds c (vsS (par s.val)).view fullShare (rows4 (VS I s.val c))
        ∗ any c (ksS (par (s.val + 1))).view ∗ any c (vsS (par (s.val + 1))).view)
        ∗ ow c (rsT c (7 - s.val)) ∗ cwv I c ∗ any c kfM.view ∗ any c vfM.view)
      ⊢ iprop((D' ∗ rsOut I c s ∗ (holds c (ksS (par (s.val + 1))).view fullShare (rows4 (KS I (s.val + 1) c)) ∗ holds c (vsS (par (s.val + 1))).view fullShare (rows4 (VS I (s.val + 1) c))
          ∗ any c (ksS (par (s.val + 1 + 1))).view ∗ any c (vsS (par (s.val + 1 + 1))).view)
          ∗ ow c (rsT c (6 - s.val)) ∗ cwv I c ∗ any c kfM.view ∗ any c vfM.view -∗ K ⟨⟩)
        -∗ run c (rsStep c s) fun _ => run c (accStep s p 0) fun _ => run c (accStep s p 1) K) := by
  subst hp
  have e2 : par (s.val + 1 + 1) = par s.val := Fin.ext (show (s.val + 1 + 1) % 2 = s.val % 2 by omega)
  rw [e2]
  iintro ⟨#Hkn, HD, Hrs, Hl, ⟨Hks, Hvs, Hks', Hvs'⟩, HO, Hcwv, Hk, Hv⟩ HK
  iapply (rsStep_spec I κ c s D D' hD) $$ [HD Hrs Hl Hks Hvs HO Hcwv Hk Hv]
  · isplitr; · iexact Hkn
    isplitl [HD]; · iexact HD
    isplitl [Hrs]; · iexact Hrs
    isplitl [Hl]; · iexact Hl
    isplitl [Hks]; · iexact Hks
    isplitl [Hvs]; · iexact Hvs
    isplitl [HO]; · iexact HO
    isplitl [Hcwv]; · iexact Hcwv
    isplitl [Hk]; · iexact Hk
    iexact Hv
  unfold rsOut
  iintro ⟨HD, ⟨Hend, Hrk, Hrv⟩, Hks, Hvs, HO, Hcwv, Hk, Hv⟩
  ihave Hn := (any_elim c (ksS (par (s.val + 1))).view) $$ Hks'
  icases Hn with ⟨%w₁, Hks'⟩
  ihave Hn := (any_elim c (vsS (par (s.val + 1))).view) $$ Hvs'
  icases Hn with ⟨%w₂, Hvs'⟩
  iapply (accStep_spec I c s (par (s.val + 1)) 0 _ _) $$ [Hk Hv Hrk Hrv Hks' Hvs']
  · isplitl [Hk]; · iexact Hk
    isplitl [Hv]; · iexact Hv
    isplitl [Hrk]; · iexact Hrk
    isplitl [Hrv]; · iexact Hrv
    isplitl [Hks']; · iexact Hks'
    iexact Hvs'
  iintro ⟨Hk, Hv, Hrk, Hrv, Hks', Hvs'⟩
  iapply (accStep_spec I c s (par (s.val + 1)) 1 _ _) $$ [Hk Hv Hrk Hrv Hks' Hvs']
  · isplitl [Hk]; · iexact Hk
    isplitl [Hv]; · iexact Hv
    isplitl [Hrk]; · iexact Hrk
    isplitl [Hrv]; · iexact Hrv
    isplitl [Hks']; · iexact Hks'
    iexact Hvs'
  iintro ⟨Hk, Hv, Hrk, Hrv, Hks', Hvs'⟩
  rw [setRow4_rows, setRow4_rows]
  iapply HK
  isplitl [HD]; · iexact HD
  isplitl [Hend Hrk Hrv]
  · isplitl [Hend]; · iexact Hend
    isplitl [Hrk]; · iexact Hrk
    iexact Hrv
  isplitl [Hks Hvs Hks' Hvs']
  · isplitl [Hks']; · iexact Hks'
    isplitl [Hvs']; · iexact Hvs'
    isplitl [Hks]; · iapply (any_intro c (ksS (par s.val)).view _) $$ Hks
    iapply (any_intro c (vsS (par s.val)).view _) $$ Hvs
  isplitl [HO]; · iexact HO
  isplitl [Hcwv]; · iexact Hcwv
  isplitl [Hk]; · iapply (any_intro c kfM.view _) $$ Hk
  iapply (any_intro c vfM.view _) $$ Hv

/-- The last step. -/
theorem lastRound_spec {K : PUnit → sProp 𝕄} :
    iprop(know I κ ∗ rs0 c 6 ∗ landRs c 6 ∗ (holds c (ksS (par (6 : Fin 7).val)).view fullShare (rows4 (KS I (6 : Fin 7).val c)) ∗ holds c (vsS (par (6 : Fin 7).val)).view fullShare (rows4 (VS I (6 : Fin 7).val c)))
        ∗ ow c (rsT c (7 - (6 : Fin 7).val)) ∗ cwv I c ∗ any c kfM.view ∗ any c vfM.view)
      ⊢ iprop((rsOut I c 6 ∗ any c (ksS (par (6 : Fin 7).val)).view ∗ any c (vsS (par (6 : Fin 7).val)).view ∗ ow c (agT c 7) ∗ cwv I c
          ∗ holds c kfM.view fullShare (rows (KF I c)) ∗ holds c vfM.view fullShare (rows (VF I c)) -∗ K ⟨⟩)
        -∗ run c (rsStep c 6) fun _ => run c (lastAcc 0) fun _ => run c (lastAcc 1) K) := by
  iintro ⟨#Hkn, Hrs, Hl, ⟨Hks, Hvs⟩, HO, Hcwv, Hk, Hv⟩ HK
  iapply (rsStep_spec I κ c 6 iprop(emp) iprop(emp) (fun K => by
      iintro - H
      iapply run_ret
      iapply H
      iempintro)) $$ [Hrs Hl Hks Hvs HO Hcwv Hk Hv]
  · isplitr; · iexact Hkn
    isplitr; · iempintro
    isplitl [Hrs]; · iexact Hrs
    isplitl [Hl]; · iexact Hl
    isplitl [Hks]; · iexact Hks
    isplitl [Hvs]; · iexact Hvs
    isplitl [HO]; · iexact HO
    isplitl [Hcwv]; · iexact Hcwv
    isplitl [Hk]; · iexact Hk
    iexact Hv
  unfold rsOut
  iintro ⟨-, ⟨Hend, Hrk, Hrv⟩, Hks, Hvs, HO, Hcwv, Hk, Hv⟩
  iapply (lastAcc_spec I c 0 _ _ (fun j => congrFun (rows_at (u := kP I 7 c) (b := 0)) j) (fun j => congrFun (rows_at (u := vP I 7 c) (b := 0)) j)) $$ [Hk Hv Hrk Hrv]
  · isplitl [Hk]; · iexact Hk
    isplitl [Hv]; · iexact Hv
    isplitl [Hrk]; · iexact Hrk
    iexact Hrv
  iintro ⟨Hk, Hv, Hrk, Hrv⟩
  iapply (lastAcc_spec I c 1 _ _ (fun j => (congrFun (setRow_other (rows (kP I 7 c)) (KF I c 0)) j).trans (congrFun (rows_at (u := kP I 7 c) (b := 1)) j)) (fun j => (congrFun (setRow_other (rows (vP I 7 c)) (VF I c 0)) j).trans (congrFun (rows_at (u := vP I 7 c) (b := 1)) j))) $$ [Hk Hv Hrk Hrv]
  · isplitl [Hk]; · iexact Hk
    isplitl [Hv]; · iexact Hv
    isplitl [Hrk]; · iexact Hrk
    iexact Hrv
  iintro ⟨Hk, Hv, Hrk, Hrv⟩
  rw [setRow_rows, setRow_rows]
  iapply HK
  isplitl [Hend Hrk Hrv]
  · isplitl [Hend]; · iexact Hend
    isplitl [Hrk]; · iexact Hrk
    iexact Hrv
  isplitl [Hks]
  · iapply (any_intro c (ksS (par (6 : Fin 7).val)).view _) $$ Hks
  isplitl [Hvs]; · iapply (any_intro c (vsS (par (6 : Fin 7).val)).view _) $$ Hvs
  isplitl [HO]; · iexact HO
  isplitl [Hcwv]; · iexact Hcwv
  isplitl [Hk]; · iexact Hk
  iexact Hv

/-! ## Half a slot lent -/

theorem holds_lend {sp : Space} {s : Shape} {e : EltTy} (v : View sig .tc sp s e) (w : s.Idx → Elt F e) :
    holds c v fullShare w ⊢ (iprop(holds c v lent w ∗ holds c v kept w) : sProp 𝕄) := by
  unfold holds
  iintro ⟨%f, H, %hf⟩
  ihave H' := (pointsTo_share (I := v.set) (f := f) (Part.eq_some_iff.mp fullShare.left_op_right)).1 $$ H
  icases H' with ⟨H₁, H₂⟩
  isplitl [H₁]
  · iexists f; isplitl [H₁]; · iexact H₁
    ipureintro; exact hf
  · iexists f; isplitl [H₂]; · iexact H₂
    ipureintro; exact hf
theorem holds_back {sp : Space} {s : Shape} {e : EltTy} (v : View sig .tc sp s e) (w : s.Idx → Elt F e) :
    iprop(holds c v lent w ∗ holds c v kept w) ⊢ (holds c v fullShare w : sProp 𝕄) := by
  unfold holds
  iintro ⟨⟨%f, H₁, %hf⟩, ⟨%f', H₂, %hf'⟩⟩
  have e : ∀ i ∈ v.set, f' i = f i := fun i hi => by
    obtain ⟨x, -, rfl⟩ := Finset.mem_map.mp hi
    exact (cast_inj (congrArg (Elt F) v.elt_eq)).mp ((congrFun hf' x).trans (congrFun hf x).symm)
  iexists f
  isplitl [H₁ H₂]
  · iapply (pointsTo_share (I := v.set) (f := f) (Part.eq_some_iff.mp fullShare.left_op_right)).2
    isplitl [H₁]; · iexact H₁
    iapply (Entails.of_eq (pointsTo_congr e)) $$ H₂
  ipureintro; exact hf

/-! ## The projections of a step -/

theorem outV_at (t : Fin 8) (n : ℕ) (ht : t.val = n + 1) :
    outV I t.val c = fun b => k0_pay1 (k0_pay1 (outV I n c b) (HF I t.val c b) (lead (wF I c t))) (HB I t.val c b) (lead (wB I c t)) := by
  have e : t = blk (n + 1) := Fin.ext (by show t.val = (n + 1) % 8; have := t.isLt; omega)
  rw [ht, e]
  rfl

theorem proj_spec {K : PUnit → sProp 𝕄} (t : Fin 8) (n : ℕ) (ht : t.val = n + 1) (q : PosShare TreeShare) (k : ℕ) (hk : k ≤ 7) :
    iprop(know I κ ∗ busyF I c t ∗ busyB I c t ∗ ow c (agT c k) ∗ holds c (oF (fsl c t.val)).view q (rows4 (HF I t.val c)) ∗ holds c (oB (bsl c t.val)).view q (rows4 (HB I t.val c))
        ∗ holds c outM.view fullShare (rows (outV I n c)))
      ⊢ iprop(((idle I c (chF t.val) (t.val / 2 + 1) ∗ any c (wfS (par t.val)).view) ∗ (idle I c (chB t.val) (t.val / 2 + 1) ∗ any c (wbS (par t.val)).view)
          ∗ ow c (agT c k) ∗ holds c (oF (fsl c t.val)).view q (rows4 (HF I t.val c)) ∗ holds c (oB (bsl c t.val)).view q (rows4 (HB I t.val c))
          ∗ holds c outM.view fullShare (rows (outV I t.val c)) -∗ K ⟨⟩)
        -∗ run c (proj c t) K) := by
  simp only [proj, wp_bind]
  rw [outV_at I c t n ht]
  iintro ⟨#Hkn, Hbf, Hbb, HO, Hf, Hb, Ho⟩ HK
  iapply (gotF_spec I κ c t k hk) $$ [Hbf HO]
  · isplitr; · iexact Hkn
    isplitl [Hbf]; · iexact Hbf
    iexact HO
  iintro ⟨Hif, HO, Hwf⟩
  iapply (projF_spec c t q 0 (HF I t.val c) (wF I c t) _) $$ [Hf Hwf Ho]
  · isplitl [Hf]; · iexact Hf
    isplitl [Hwf]; · iexact Hwf
    iexact Ho
  iintro ⟨Hf, Hwf, Ho⟩
  iapply (projF_spec c t q 1 (HF I t.val c) (wF I c t) _) $$ [Hf Hwf Ho]
  · isplitl [Hf]; · iexact Hf
    isplitl [Hwf]; · iexact Hwf
    iexact Ho
  iintro ⟨Hf, Hwf, Ho⟩
  ihave Ho := (Entails.of_eq (congrArg (holds c outM.view fullShare) (setRow_both (outV I n c) (fun b x => k0_pay1 x (HF I t.val c b) (lead (wF I c t)))))) $$ Ho
  iapply (gotB_spec I κ c t k hk) $$ [Hbb HO]
  · isplitr; · iexact Hkn
    isplitl [Hbb]; · iexact Hbb
    iexact HO
  iintro ⟨Hib, HO, Hwb⟩
  iapply (projB_spec c t q 0 (HB I t.val c) (wB I c t) _) $$ [Hb Hwb Ho]
  · isplitl [Hb]; · iexact Hb
    isplitl [Hwb]; · iexact Hwb
    iexact Ho
  iintro ⟨Hb, Hwb, Ho⟩
  iapply (projB_spec c t q 1 (HB I t.val c) (wB I c t) _) $$ [Hb Hwb Ho]
  · isplitl [Hb]; · iexact Hb
    isplitl [Hwb]; · iexact Hwb
    iexact Ho
  iintro ⟨Hb, Hwb, Ho⟩
  ihave Ho := (Entails.of_eq (congrArg (holds c outM.view fullShare) (setRow_both (fun b => k0_pay1 (outV I n c b) (HF I t.val c b) (lead (wF I c t))) (fun b x => k0_pay1 x (HB I t.val c b) (lead (wB I c t)))))) $$ Ho
  iapply HK
  isplitl [Hif Hwf]
  · isplitl [Hif]; · iexact Hif
    iapply (any_intro c (wfS (par t.val)).view _) $$ Hwf
  isplitl [Hib Hwb]
  · isplitl [Hib]; · iexact Hib
    iapply (any_intro c (wbS (par t.val)).view _) $$ Hwb
  isplitl [HO]; · iexact HO
  isplitl [Hf]; · iexact Hf
  isplitl [Hb]; · iexact Hb
  iexact Ho

theorem idle_F (t t2 : Fin 8) (h : t2.val = t.val + 2) :
    iprop(idle I c (chF t.val) (t.val / 2 + 1) ∗ any c (wfS (par t.val)).view) = iprop(idle I c (chF t2.val) (t2.val / 2) ∗ any c (wfS (par t2.val)).view) := by
  rw [h, show chF (t.val + 2) = chF t.val from Fin.ext (show (t.val + 2) % 2 = t.val % 2 by omega), show (t.val + 2) / 2 = t.val / 2 + 1 by omega,
    show par (t.val + 2) = par t.val from Fin.ext (show (t.val + 2) % 2 = t.val % 2 by omega)]
theorem idle_B (t t2 : Fin 8) (h : t2.val = t.val + 2) :
    iprop(idle I c (chB t.val) (t.val / 2 + 1) ∗ any c (wbS (par t.val)).view) = iprop(idle I c (chB t2.val) (t2.val / 2) ∗ any c (wbS (par t2.val)).view) := by
  rw [h, show chB (t.val + 2) = chB t.val from Fin.ext (show 2 + (t.val + 2) % 2 = 2 + t.val % 2 by omega), show (t.val + 2) / 2 = t.val / 2 + 1 by omega,
    show par (t.val + 2) = par t.val from Fin.ext (show (t.val + 2) % 2 = t.val % 2 by omega)]

/-! ## The hops -/

/-- The two slots projected at step `n`, with what they hold. -/
def slots (n : ℕ) : sProp 𝕄 :=
  iprop(holds c (oF (fsl c n)).view fullShare (rows4 (HF I n c)) ∗ holds c (oB (bsl c n)).view fullShare (rows4 (HB I n c)))
def slotsDone (n : ℕ) : sProp 𝕄 := iprop(any c (oF (fsl c n)).view ∗ any c (oB (bsl c n)).view)

/-- The waits of a hop, and the slots lent got back. -/
theorem agBack_spec {K : PUnit → sProp 𝕄} (s : Fin 7) :
    iprop(know I κ ∗ agMidF c s ∗ agMidB c s ∗ ow c (agT c (6 - s.val)) ∗ holds c (oF (fsl c s.val)).view kept (rows4 (HF I s.val c)) ∗ holds c (oB (bsl c s.val)).view kept (rows4 (HB I s.val c)))
      ⊢ iprop((agEnd c s ∗ slotsDone c s.val ∗ ow c (agT c (6 - s.val)) ∗ slots I c (s.val + 1) -∗ K ⟨⟩) -∗ run c (agWait c s) K) := by
  unfold slotsDone slots
  iintro ⟨#Hkn, HF, HB, HO, Hf, Hb⟩ HK
  iapply (agWait_spec I κ c s) $$ [HF HB HO]
  · isplitr; · iexact Hkn
    isplitl [HF]; · iexact HF
    isplitl [HB]; · iexact HB
    iexact HO
  iintro ⟨He, HO, Hf', Hb', Hf2, Hb2⟩
  iapply HK
  isplitl [He]; · iexact He
  isplitl [Hf Hb Hf' Hb']
  · isplitl [Hf Hf']
    · iapply (any_intro c (oF (fsl c s.val)).view (rows4 (HF I s.val c)))
      iapply (holds_back c (oF (fsl c s.val)).view (rows4 (HF I s.val c)))
      isplitl [Hf']; · iexact Hf'
      iexact Hf
    · iapply (any_intro c (oB (bsl c s.val)).view (rows4 (HB I s.val c)))
      iapply (holds_back c (oB (bsl c s.val)).view (rows4 (HB I s.val c)))
      isplitl [Hb']; · iexact Hb'
      iexact Hb
  isplitl [HO]; · iexact HO
  isplitl [Hf2]; · iexact Hf2
  iexact Hb2

/-- The copies of a hop, half of the slots lent. -/
theorem agSend_spec {K : PUnit → sProp 𝕄} (s : Fin 7) :
    iprop(know I κ ∗ ag0 c s ∗ landF c s ∗ landB c s ∗ ow c (agT c (7 - s.val)) ∗ slots I c s.val)
      ⊢ iprop((agMidF c s ∗ agMidB c s ∗ ow c (agT c (6 - s.val)) ∗ holds c (oF (fsl c s.val)).view kept (rows4 (HF I s.val c))
          ∗ holds c (oB (bsl c s.val)).view kept (rows4 (HB I s.val c)) -∗ K ⟨⟩) -∗ run c (agSendF c s) fun _ => run c (agSendB c s) K) := by
  rw [agT_at]
  unfold slots ag0 landF landB agMidF agMidB
  iintro ⟨#Hkn, ⟨Ht4, Ht5, Ht6, Ht7, Hr4, Hr6, Ha4, Ha5, Ha6, Ha7, Hc5, Hc7⟩, HlF, HlB, HO, Hf, Hb⟩ HK
  ihave Hh := (holds_lend c (oF (fsl c s.val)).view (rows4 (HF I s.val c))) $$ Hf
  icases Hh with ⟨Hf, Hf'⟩
  ihave Hh := (holds_lend c (oB (bsl c s.val)).view (rows4 (HB I s.val c))) $$ Hb
  icases Hh with ⟨Hb, Hb'⟩
  iapply (agSendF_spec I κ c s ((fc (lft c) 7 s, NO) :: agT c (6 - s.val))) $$ [Ht4 Hr4 Ht5 HlF Hf HO]
  · isplitr; · iexact Hkn
    isplitl [Ht4 Hr4 Ht5]
    · isplitl [Ht4]; · iexact Ht4
      isplitl [Hr4]; · iexact Hr4
      iexact Ht5
    isplitl [HlF]; · iexact HlF
    isplitl [Hf]; · iexact Hf
    iexact HO
  iintro ⟨Hc4, HO⟩
  iapply (agSendB_spec I κ c s (agT c (6 - s.val))) $$ [Ht6 Hr6 Ht7 HlB Hb HO]
  · isplitr; · iexact Hkn
    isplitl [Ht6 Hr6 Ht7]
    · isplitl [Ht6]; · iexact Ht6
      isplitl [Hr6]; · iexact Hr6
      iexact Ht7
    isplitl [HlB]; · iexact HlB
    isplitl [Hb]; · iexact Hb
    iexact HO
  iintro ⟨Hc6, HO⟩
  iapply HK
  isplitl [Hc4 Hc5 Ha4 Ha5]
  · isplitl [Hc4]; · iexact Hc4
    isplitl [Hc5]; · iexact Hc5
    isplitl [Ha4]; · iexact Ha4
    iexact Ha5
  isplitl [Hc6 Hc7 Ha6 Ha7]
  · isplitl [Hc6]; · iexact Hc6
    isplitl [Hc7]; · iexact Hc7
    isplitl [Ha6]; · iexact Ha6
    iexact Ha7
  isplitl [HO]; · iexact HO
  isplitl [Hf']; · iexact Hf'
  iexact Hb'

theorem hopM_spec {K : PUnit → sProp 𝕄} (s : Fin 7) (n : ℕ) (hs : s.val = n + 1) (t2 : Fin 8) (h2 : t2.val = s.val + 2) :
    iprop(know I κ ∗ ag0 c s ∗ landF c s ∗ landB c s ∗ ow c (agT c (7 - s.val)) ∗ slots I c s.val ∗ busyF I c s.castSucc ∗ busyB I c s.castSucc ∗ holds c outM.view fullShare (rows (outV I n c)))
      ⊢ iprop((agEnd c s ∗ slotsDone c s.val ∗ ow c (agT c (6 - s.val)) ∗ slots I c (s.val + 1) ∗ busyF I c t2 ∗ busyB I c t2 ∗ holds c outM.view fullShare (rows (outV I s.val c)) -∗ K ⟨⟩)
        -∗ run c (hopM c s t2) K) := by
  simp only [hopM, wp_bind]
  have hp := fun K : PUnit → sProp 𝕄 => proj_spec I κ c (K := K) s.castSucc n hs kept (6 - s.val) (by omega)
  simp only [idle_F I c s.castSucc t2 h2, idle_B I c s.castSucc t2 h2] at hp
  simp only [Fin.val_castSucc] at hp
  iintro ⟨#Hkn, Hag, HlF, HlB, HO, Hsl, Hbf, Hbb, Ho⟩ HK
  iapply (agSend_spec I κ c s) $$ [Hag HlF HlB HO Hsl]
  · isplitr; · iexact Hkn
    isplitl [Hag]; · iexact Hag
    isplitl [HlF]; · iexact HlF
    isplitl [HlB]; · iexact HlB
    isplitl [HO]; · iexact HO
    iexact Hsl
  iintro ⟨HmF, HmB, HO, Hf, Hb⟩
  iapply (hp _) $$ [Hbf Hbb HO Hf Hb Ho]
  · isplitr; · iexact Hkn
    isplitl [Hbf]; · iexact Hbf
    isplitl [Hbb]; · iexact Hbb
    isplitl [HO]; · iexact HO
    isplitl [Hf]; · iexact Hf
    isplitl [Hb]; · iexact Hb
    iexact Ho
  iintro ⟨⟨Hif, Hwf⟩, ⟨Hib, Hwb⟩, HO, Hf, Hb, Ho⟩
  iapply (fetchF_spec I κ c t2) $$ [Hif Hwf]
  · isplitr; · iexact Hkn
    isplitl [Hif]; · iexact Hif
    iexact Hwf
  iintro Hbf
  iapply (fetchB_spec I κ c t2) $$ [Hib Hwb]
  · isplitr; · iexact Hkn
    isplitl [Hib]; · iexact Hib
    iexact Hwb
  iintro Hbb
  iapply (agBack_spec I κ c s) $$ [HmF HmB HO Hf Hb]
  · isplitr; · iexact Hkn
    isplitl [HmF]; · iexact HmF
    isplitl [HmB]; · iexact HmB
    isplitl [HO]; · iexact HO
    isplitl [Hf]; · iexact Hf
    iexact Hb
  iintro ⟨He, Hsd, HO, Hsl⟩
  iapply HK
  isplitl [He]; · iexact He
  isplitl [Hsd]; · iexact Hsd
  isplitl [HO]; · iexact HO
  isplitl [Hsl]; · iexact Hsl
  isplitl [Hbf]; · iexact Hbf
  isplitl [Hbb]; · iexact Hbb
  iexact Ho

/-- A weight channel after its last fetch. -/
def spent (t : Fin 8) : sProp 𝕄 :=
  iprop((idle I c (chF t.val) (t.val / 2 + 1) ∗ any c (wfS (par t.val)).view) ∗ (idle I c (chB t.val) (t.val / 2 + 1) ∗ any c (wbS (par t.val)).view))

theorem hopL_spec {K : PUnit → sProp 𝕄} :
    iprop(know I κ ∗ ag0 c 6 ∗ landF c 6 ∗ landB c 6 ∗ ow c (agT c 1) ∗ slots I c 6 ∗ busyF I c 6 ∗ busyB I c 6 ∗ holds c outM.view fullShare (rows (outV I 5 c)))
      ⊢ iprop((agEnd c 6 ∗ slotsDone c 6 ∗ ow c (agT c 0) ∗ slots I c 7 ∗ spent I c 6 ∗ holds c outM.view fullShare (rows (outV I 6 c)) -∗ K ⟨⟩)
        -∗ run c (hopL c) K) := by
  simp only [hopL, wp_bind]
  unfold spent
  iintro ⟨#Hkn, Hag, HlF, HlB, HO, Hsl, Hbf, Hbb, Ho⟩ HK
  iapply (agSend_spec I κ c 6) $$ [Hag HlF HlB HO Hsl]
  · isplitr; · iexact Hkn
    isplitl [Hag]; · iexact Hag
    isplitl [HlF]; · iexact HlF
    isplitl [HlB]; · iexact HlB
    isplitl [HO]; · iexact HO
    iexact Hsl
  iintro ⟨HmF, HmB, HO, Hf, Hb⟩
  iapply (proj_spec I κ c 6 5 rfl kept 0 (by omega)) $$ [Hbf Hbb HO Hf Hb Ho]
  · isplitr; · iexact Hkn
    isplitl [Hbf]; · iexact Hbf
    isplitl [Hbb]; · iexact Hbb
    isplitl [HO]; · iexact HO
    isplitl [Hf]; · iexact Hf
    isplitl [Hb]; · iexact Hb
    iexact Ho
  iintro ⟨⟨Hif, Hwf⟩, ⟨Hib, Hwb⟩, HO, Hf, Hb, Ho⟩
  iapply (agBack_spec I κ c 6) $$ [HmF HmB HO Hf Hb]
  · isplitr; · iexact Hkn
    isplitl [HmF]; · iexact HmF
    isplitl [HmB]; · iexact HmB
    isplitl [HO]; · iexact HO
    isplitl [Hf]; · iexact Hf
    iexact Hb
  iintro ⟨He, Hsd, HO, Hsl⟩
  iapply HK
  isplitl [He]; · iexact He
  isplitl [Hsd]; · iexact Hsd
  isplitl [HO]; · iexact HO
  isplitl [Hsl]; · iexact Hsl
  isplitl [Hif Hwf Hib Hwb]
  · isplitl [Hif Hwf]
    · isplitl [Hif]; · iexact Hif
      iexact Hwf
    · isplitl [Hib]; · iexact Hib
      iexact Hwb
  iexact Ho

theorem projL_spec {K : PUnit → sProp 𝕄} :
    iprop(know I κ ∗ ow c (agT c 0) ∗ slots I c 7 ∗ busyF I c 7 ∗ busyB I c 7 ∗ holds c outM.view fullShare (rows (outV I 6 c)))
      ⊢ iprop((ow c (agT c 0) ∗ slotsDone c 7 ∗ spent I c 7 ∗ holds c outM.view fullShare (outR I c) -∗ K ⟨⟩)
        -∗ run c (proj c 7) K) := by
  unfold spent slots slotsDone
  iintro ⟨#Hkn, HO, ⟨Hf, Hb⟩, Hbf, Hbb, Ho⟩ HK
  iapply (proj_spec I κ c 7 6 rfl fullShare 0 (by omega)) $$ [Hbf Hbb HO Hf Hb Ho]
  · isplitr; · iexact Hkn
    isplitl [Hbf]; · iexact Hbf
    isplitl [Hbb]; · iexact Hbb
    isplitl [HO]; · iexact HO
    isplitl [Hf]; · iexact Hf
    isplitl [Hb]; · iexact Hb
    iexact Ho
  iintro ⟨⟨Hif, Hwf⟩, ⟨Hib, Hwb⟩, HO, Hf, Hb, Ho⟩
  iapply HK
  isplitl [HO]; · iexact HO
  isplitl [Hf Hb]
  · isplitl [Hf]
    · iapply (any_intro c (oF (fsl c (7 : Fin 8).val)).view (rows4 (HF I (7 : Fin 8).val c))) $$ Hf
    · iapply (any_intro c (oB (bsl c (7 : Fin 8).val)).view (rows4 (HB I (7 : Fin 8).val c))) $$ Hb
  isplitl [Hif Hwf Hib Hwb]
  · isplitl [Hif Hwf]
    · isplitl [Hif]; · iexact Hif
      iexact Hwf
    · isplitl [Hib]; · iexact Hib
      iexact Hwb
  iexact Ho

theorem hop0_spec {K : PUnit → sProp 𝕄} :
    iprop(know I κ ∗ ag0 c 0 ∗ landF c 0 ∗ landB c 0 ∗ ow c (agT c 7) ∗ qkv I c ∗ slotsDone c 0 ∗ busyF I c 0 ∗ busyB I c 0 ∗ any c outM.view)
      ⊢ iprop((agEnd c 0 ∗ slotsDone c 0 ∗ ow c (agT c 6) ∗ slots I c 1 ∗ busyF I c 2 ∗ busyB I c 2 ∗ qkv I c ∗ holds c outM.view fullShare (rows (outV I 0 c)) -∗ K ⟨⟩)
        -∗ run c (hop0 c) K) := by
  simp only [hop0, wp_bind]
  have e₁ := idle_F I c 0 2 rfl
  have e₂ := idle_B I c 0 2 rfl
  iintro ⟨#Hkn, Hag, HlF, HlB, HO, Hq, Hsl, Hbf, Hbb, Ho⟩ HK
  unfold slotsDone ag0 landF landB any
  icases Hsl with ⟨⟨%w₁, Hf⟩, ⟨%w₂, Hb⟩⟩
  icases Ho with ⟨%w₃, Ho⟩
  icases Hag with ⟨Ht4, Ht5, Ht6, Ht7, Hr4, Hr6, Ha4, Ha5, Ha6, Ha7, Hc5, Hc7⟩
  iapply (attnF_spec I c 0 _) $$ [Hq Hf]
  · isplitl [Hq]; · iexact Hq
    iexact Hf
  iintro ⟨Hq, Hf⟩
  iapply (attnF_spec I c 1 _) $$ [Hq Hf]
  · isplitl [Hq]; · iexact Hq
    iexact Hf
  iintro ⟨Hq, Hf⟩
  rw [setRow4_rows]
  ihave Hh := (holds_lend c (oF (fsl c 0)).view (rows4 (AO I 0 c))) $$ Hf
  icases Hh with ⟨Hf, Hf'⟩
  iapply (agSendF_spec I κ c 0 ((fc (lft c) 7 0, NO) :: agT c 6)) $$ [Ht4 Hr4 Ht5 HlF Hf HO]
  · isplitr; · iexact Hkn
    isplitl [Ht4 Hr4 Ht5]
    · isplitl [Ht4]; · iexact Ht4
      isplitl [Hr4]; · iexact Hr4
      iexact Ht5
    isplitl [HlF]; · iexact HlF
    isplitl [Hf]; · iexact Hf
    iexact HO
  iintro ⟨Hc4, HO⟩
  iapply (attnB_spec I c 0 _) $$ [Hq Hb]
  · isplitl [Hq]; · iexact Hq
    iexact Hb
  iintro ⟨Hq, Hb⟩
  iapply (attnB_spec I c 1 _) $$ [Hq Hb]
  · isplitl [Hq]; · iexact Hq
    iexact Hb
  iintro ⟨Hq, Hb⟩
  rw [setRow4_rows]
  ihave Hh := (holds_lend c (oB (bsl c 0)).view (rows4 (AO I 1 c))) $$ Hb
  icases Hh with ⟨Hb, Hb'⟩
  iapply (agSendB_spec I κ c 0 (agT c 6)) $$ [Ht6 Hr6 Ht7 HlB Hb HO]
  · isplitr; · iexact Hkn
    isplitl [Ht6 Hr6 Ht7]
    · isplitl [Ht6]; · iexact Ht6
      isplitl [Hr6]; · iexact Hr6
      iexact Ht7
    isplitl [HlB]; · iexact HlB
    isplitl [Hb]; · iexact Hb
    iexact HO
  iintro ⟨Hc6, HO⟩
  iapply (gotF_spec I κ c 0 6 (by omega)) $$ [Hbf HO]
  · isplitr; · iexact Hkn
    isplitl [Hbf]; · iexact Hbf
    iexact HO
  iintro ⟨Hif, HO, Hwf⟩
  iapply (projF0_spec I c kept 0 _) $$ [Hf' Hwf Ho]
  · isplitl [Hf']; · iexact Hf'
    isplitl [Hwf]; · iexact Hwf
    iexact Ho
  iintro ⟨Hf', Hwf, Ho⟩
  iapply (projF0_spec I c kept 1 _) $$ [Hf' Hwf Ho]
  · isplitl [Hf']; · iexact Hf'
    isplitl [Hwf]; · iexact Hwf
    iexact Ho
  iintro ⟨Hf', Hwf, Ho⟩
  ihave Ho := (Entails.of_eq (congrArg (holds c outM.view fullShare) (setRow_rows w₃ (fun b => k0_pay112 (HF I 0 c b) (lead (wF I c 0)))))) $$ Ho
  iapply (gotB_spec I κ c 0 6 (by omega)) $$ [Hbb HO]
  · isplitr; · iexact Hkn
    isplitl [Hbb]; · iexact Hbb
    iexact HO
  iintro ⟨Hib, HO, Hwb⟩
  iapply (projB_spec c 0 kept 0 (HB I 0 c) (wB I c 0) _) $$ [Hb' Hwb Ho]
  · isplitl [Hb']; · iexact Hb'
    isplitl [Hwb]; · iexact Hwb
    iexact Ho
  iintro ⟨Hb', Hwb, Ho⟩
  iapply (projB_spec c 0 kept 1 (HB I 0 c) (wB I c 0) _) $$ [Hb' Hwb Ho]
  · isplitl [Hb']; · iexact Hb'
    isplitl [Hwb]; · iexact Hwb
    iexact Ho
  iintro ⟨Hb', Hwb, Ho⟩
  ihave Ho := (Entails.of_eq (congrArg (holds c outM.view fullShare) (setRow_both (fun b => k0_pay112 (HF I 0 c b) (lead (wF I c 0))) (fun b x => k0_pay1 x (HB I 0 c b) (lead (wB I c 0)))))) $$ Ho
  ihave Hif := (Entails.of_eq e₁) $$ [Hif Hwf]
  · isplitl [Hif]; · iexact Hif
    iapply (show holds c (wfS 0).view fullShare (wF I c 0) ⊢ any c (wfS (par (0 : Fin 8).val)).view from any_intro c (wfS 0).view _) $$ Hwf
  ihave Hib := (Entails.of_eq e₂) $$ [Hib Hwb]
  · isplitl [Hib]; · iexact Hib
    iapply (show holds c (wbS (par (0 : Fin 8).val)).view fullShare (wB I c 0) ⊢ any c (wbS (par (0 : Fin 8).val)).view from any_intro c (wbS (par (0 : Fin 8).val)).view _) $$ Hwb
  icases Hif with ⟨Hif, Hwf⟩
  icases Hib with ⟨Hib, Hwb⟩
  iapply (fetchF_spec I κ c 2) $$ [Hif Hwf]
  · isplitr; · iexact Hkn
    isplitl [Hif]; · iexact Hif
    iexact Hwf
  iintro Hbf
  iapply (fetchB_spec I κ c 2) $$ [Hib Hwb]
  · isplitr; · iexact Hkn
    isplitl [Hib]; · iexact Hib
    iexact Hwb
  iintro Hbb
  iapply (agBack_spec I κ c 0) $$ [Hc4 Hc5 Ha4 Ha5 Hc6 Hc7 Ha6 Ha7 HO Hf' Hb']
  · isplitr; · iexact Hkn
    unfold agMidF agMidB
    isplitl [Hc4 Hc5 Ha4 Ha5]
    · isplitl [Hc4]; · iexact Hc4
      isplitl [Hc5]; · iexact Hc5
      isplitl [Ha4]; · iexact Ha4
      iexact Ha5
    isplitl [Hc6 Hc7 Ha6 Ha7]
    · isplitl [Hc6]; · iexact Hc6
      isplitl [Hc7]; · iexact Hc7
      isplitl [Ha6]; · iexact Ha6
      iexact Ha7
    isplitl [HO]; · iexact HO
    isplitl [Hf']; · iexact Hf'
    iexact Hb'
  unfold slotsDone any
  iintro ⟨He, Hsd, HO, Hsl⟩
  iapply HK
  isplitl [He]; · iexact He
  isplitl [Hsd]; · iexact Hsd
  isplitl [HO]; · iexact HO
  isplitl [Hsl]; · iexact Hsl
  isplitl [Hbf]; · iexact Hbf
  isplitl [Hbb]; · iexact Hbb
  isplitl [Hq]; · iexact Hq
  iexact Ho

/-! ## The whole body -/

theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
theorem each {J : Type} {S : Finset J} {Φ Ψ : J → sProp 𝕄} (h : ∀ i, Φ i ⊢ Ψ i) : bigSep S Φ ⊢ bigSep S Ψ := BI.bigSep_mono fun i _ => h i

/-- What the neighbours opened, step by step. -/
theorem land_intro : iprop(giveF (rgt c) ∗ giveB (lft c)) ⊢ (bigSep Finset.univ fun s : Fin 7 => iprop(landRs c s ∗ landF c s ∗ landB c s) : sProp 𝕄) := by
  unfold giveF giveB
  refine (Entails.of_eq (BI.bigSep_sep Finset.univ _ _).symm).trans (each fun s => ?_)
  have e₁ : fsl (rgt c) (s.val + 1) = fsl c s.val := by rw [← fsl_next, lft_rgt]
  have e₂ : bsl (lft c) (s.val + 1) = bsl c s.val := by rw [← bsl_next, rgt_lft]
  rw [e₁, e₂]
  show iprop((any (rgt c) (rkS s).view ∗ any (rgt c) (oF (fsl c s.val)).view ∗ reached ER (fc (rgt c) 1 s) 0 ∗ reached ER (fc (rgt c) 5 s) 0)
    ∗ (any (lft c) (rvS s).view ∗ any (lft c) (oB (bsl c s.val)).view ∗ reached ER (fc (lft c) 3 s) 0 ∗ reached ER (fc (lft c) 7 s) 0)) ⊢ _
  unfold landRs landF landB
  iintro ⟨⟨Ha, Hb, Hr, Hr'⟩, ⟨Ha2, Hb2, Hr2, Hr2'⟩⟩
  isplitl [Ha Hr Ha2 Hr2]
  · isplitl [Ha Hr]
    · isplitl [Ha]; · iexact Ha
      iexact Hr
    · isplitl [Ha2]; · iexact Ha2
      iexact Hr2
  isplitl [Hb Hr']
  · isplitl [Hb]; · iexact Hb
    iexact Hr'
  · isplitl [Hb2]; · iexact Hb2
    iexact Hr2'

/-- The operands in VMEM. -/
def ins : sProp 𝕄 :=
  iprop(holds c xM.view fullShare (I c).x ∗ holds c wdM.view fullShare (I c).wd ∗ holds c wkM.view fullShare (I c).wk ∗ holds c wvM.view fullShare (I c).wv
    ∗ holds c wqM.view fullShare (I c).wq ∗ holds c wqrM.view fullShare (I c).wqr ∗ holds c wkrM.view fullShare (I c).wkr)
/-- The scratch buffers only this device uses, and the staging slots. -/
def locals : sProp 𝕄 :=
  iprop((any c cM.view ∗ any c xbM.view ∗ any c kfM.view ∗ any c vfM.view ∗ any c qM.view ∗ any c qrM.view ∗ any c krM.view)
    ∗ any c (ksS 0).view ∗ any c (ksS 1).view ∗ any c (vsS 0).view ∗ any c (vsS 1).view)

/-- What the body starts from, and what it leaves. -/
def bodyPre : sProp 𝕄 :=
  iprop(ins I c ∗ any c outM.view ∗ locals c ∗ slotsDone c 0 ∗ fetch0 I c ∗ shake0 c ∗ (bigSep Finset.univ fun s => rs0 c s) ∗ bigSep Finset.univ fun s => ag0 c s)
def bodyPost : sProp 𝕄 :=
  iprop(ins I c ∗ holds c outM.view fullShare (outR I c) ∗ locals c ∗ (bigSep Finset.univ fun s => rsOut I c s) ∗ (bigSep Finset.univ fun s => agEnd c s)
    ∗ (bigSep Finset.univ fun n : Fin 8 => slotsDone c n.val) ∗ atPos ER (bc c) 1 ∅ 0 ∗ spent I c 6 ∗ spent I c 7 ∗ ow c (agT c 0))

theorem during0 (K : PUnit → sProp 𝕄) : iprop(holds c xM.view fullShare (I c).x ∗ any c xbM.view)
    ⊢ iprop((holds c xM.view fullShare (I c).x ∗ holds c xbM.view fullShare (rows (xbV I c)) -∗ K ⟨⟩) -∗ run c (during 0) K) := by
  simp only [during, wp_bind]
  unfold any
  iintro ⟨Hx, ⟨%w, Hb⟩⟩ HK
  iapply (xbStep_spec I c 0 _) $$ [Hx Hb]
  · isplitl [Hx]; · iexact Hx
    iexact Hb
  iintro ⟨Hx, Hb⟩
  iapply (xbStep_spec I c 1 _) $$ [Hx Hb]
  · isplitl [Hx]; · iexact Hx
    iexact Hb
  iintro ⟨Hx, Hb⟩
  rw [setRow_rows]
  iapply HK
  isplitl [Hx]; · iexact Hx
  iexact Hb
theorem during1 (K : PUnit → sProp 𝕄) : iprop(holds c xbM.view fullShare (rows (xbV I c)) ∗ holds c wqM.view fullShare (I c).wq ∗ any c qM.view)
    ⊢ iprop((holds c xbM.view fullShare (rows (xbV I c)) ∗ holds c wqM.view fullShare (I c).wq ∗ holds c qM.view fullShare (rows (qV I c)) -∗ K ⟨⟩) -∗ run c (during 1) K) := by
  simp only [during, wp_bind]
  unfold any
  iintro ⟨Hx, Hw, ⟨%w, Hb⟩⟩ HK
  iapply (qStep_spec I c 0 _) $$ [Hx Hw Hb]
  · isplitl [Hx]; · iexact Hx
    isplitl [Hw]; · iexact Hw
    iexact Hb
  iintro ⟨Hx, Hw, Hb⟩
  iapply (qStep_spec I c 1 _) $$ [Hx Hw Hb]
  · isplitl [Hx]; · iexact Hx
    isplitl [Hw]; · iexact Hw
    iexact Hb
  iintro ⟨Hx, Hw, Hb⟩
  rw [setRow_rows]
  iapply HK
  isplitl [Hx]; · iexact Hx
  isplitl [Hw]; · iexact Hw
  iexact Hb
theorem during2 (K : PUnit → sProp 𝕄) : iprop(holds c xbM.view fullShare (rows (xbV I c)) ∗ holds c wqrM.view fullShare (I c).wqr ∗ holds c wkrM.view fullShare (I c).wkr ∗ any c qrM.view ∗ any c krM.view)
    ⊢ iprop((holds c xbM.view fullShare (rows (xbV I c)) ∗ holds c wqrM.view fullShare (I c).wqr ∗ holds c wkrM.view fullShare (I c).wkr
      ∗ holds c qrM.view fullShare (rows (qrV I c)) ∗ holds c krM.view fullShare (rows (krV I c)) -∗ K ⟨⟩) -∗ run c (during 2) K) := by
  simp only [during, wp_bind]
  unfold any
  iintro ⟨Hx, Hw, Hw', ⟨%w, Hb⟩, ⟨%w', Hb'⟩⟩ HK
  iapply (rotStep_spec I c 0 _ _) $$ [Hx Hw Hw' Hb Hb']
  · isplitl [Hx]; · iexact Hx
    isplitl [Hw]; · iexact Hw
    isplitl [Hw']; · iexact Hw'
    isplitl [Hb]; · iexact Hb
    iexact Hb'
  iintro ⟨Hx, Hw, Hw', Hb, Hb'⟩
  iapply (rotStep_spec I c 1 _ _) $$ [Hx Hw Hw' Hb Hb']
  · isplitl [Hx]; · iexact Hx
    isplitl [Hw]; · iexact Hw
    isplitl [Hw']; · iexact Hw'
    isplitl [Hb]; · iexact Hb
    iexact Hb'
  iintro ⟨Hx, Hw, Hw', Hb, Hb'⟩
  rw [setRow_rows, setRow_rows]
  iapply HK
  isplitl [Hx]; · iexact Hx
  isplitl [Hw]; · iexact Hw
  isplitl [Hw']; · iexact Hw'
  isplitl [Hb]; · iexact Hb
  iexact Hb'
theorem during_none (p : Pr F PUnit) (hp : p = pure ⟨⟩) (K : PUnit → sProp 𝕄) : iprop(emp) ⊢ iprop((iprop(emp) -∗ K ⟨⟩) -∗ run c p K) := by
  subst hp
  iintro - H
  iapply run_ret
  iapply H
  iempintro

/-- The body once the device's number is known. -/
def ringAt (d : Dev nD) : Pr F PUnit := do
  setUp d
  rsStep d 0; accStep 0 1 0; accStep 0 1 1
  rsStep d 1; accStep 1 0 0; accStep 1 0 1
  rsStep d 2; accStep 2 1 0; accStep 2 1 1
  rsStep d 3; accStep 3 0 0; accStep 3 0 1
  rsStep d 4; accStep 4 1 0; accStep 4 1 1
  rsStep d 5; accStep 5 0 0; accStep 5 0 1
  rsStep d 6; lastAcc 0; lastAcc 1
  hop0 d
  hopM d 1 3; hopM d 2 4; hopM d 3 5; hopM d 4 6; hopM d 5 7
  hopL d
  proj d 7
theorem ringBody_eq : ringBody (F := F) = .op .deviceId ringAt := rfl

set_option maxHeartbeats 1000000 in
theorem body_spec {K : PUnit → sProp 𝕄} : iprop(know I κ ∗ bodyPre I c) ⊢ iprop((bodyPost I c -∗ K ⟨⟩) -∗ run c ringBody K) := by
  have hid : (run c ringBody K : sProp 𝕄) = run c (ringAt c) K := by
    rw [ringBody_eq]
    simp only [wp_deviceId]
  rw [hid]
  simp only [ringAt, wp_bind]
  unfold bodyPre bodyPost ins locals
  rw [seven, seven, seven, seven, eight]
  iintro ⟨#Hkn, ⟨Hx, Hwd, Hwk, Hwv, Hwq, Hwqr, Hwkr⟩, Hout, ⟨⟨Hc, Hxb, Hkf, Hvf, Hq, Hqr, Hkr⟩, Hks0, Hks1, Hvs0, Hvs1⟩, Hsl, Hfet, Hsh,
    ⟨Hr0, Hr1, Hr2, Hr3, Hr4, Hr5, Hr6⟩, ⟨Ha0, Ha1, Ha2, Ha3, Ha4, Ha5, Ha6⟩⟩ HK
  iapply (setUp_spec I κ c) $$ [Hfet Hx Hwd Hwk Hwv Hc Hkf Hvf Hks0 Hvs0 Hsh]
  · isplitr; · iexact Hkn
    isplitl [Hfet]; · iexact Hfet
    isplitl [Hx]; · iexact Hx
    isplitl [Hwd]; · iexact Hwd
    isplitl [Hwk]; · iexact Hwk
    isplitl [Hwv]; · iexact Hwv
    isplitl [Hc]; · iexact Hc
    isplitl [Hkf]; · iexact Hkf
    isplitl [Hvf]; · iexact Hvf
    isplitl [Hks0]; · iexact Hks0
    isplitl [Hvs0]; · iexact Hvs0
    iexact Hsh
  iintro ⟨Hbusy, Hx, Hwd, Hcwv, Hkf, Hvf, Hks, Hvs, HO, HgF, HgB, Hbar⟩
  ihave Hl := (land_intro c) $$ [HgF HgB]
  · isplitl [HgF]; · iexact HgF
    iexact HgB
  ihave Hl := (Entails.of_eq (seven _)) $$ Hl
  icases Hl with ⟨⟨Hl0, HF0, HB0⟩, ⟨Hl1, HF1, HB1⟩, ⟨Hl2, HF2, HB2⟩, ⟨Hl3, HF3, HB3⟩, ⟨Hl4, HF4, HB4⟩, ⟨Hl5, HF5, HB5⟩, ⟨Hl6, HF6, HB6⟩⟩
  ihave Hkf := (any_intro c kfM.view (rows (kP I 0 c))) $$ Hkf
  ihave Hvf := (any_intro c vfM.view (rows (vP I 0 c))) $$ Hvf
  iapply (round_spec I κ c 0 1 rfl _ _ (during0 I c)) $$ [Hx Hxb Hr0 Hl0 Hks Hvs Hks1 Hvs1 HO Hcwv Hkf Hvf]
  · isplitr; · iexact Hkn
    isplitl [Hx Hxb]
    · isplitl [Hx]; · iexact Hx
      iexact Hxb
    isplitl [Hr0]; · iexact Hr0
    isplitl [Hl0]; · iexact Hl0
    isplitl [Hks Hvs Hks1 Hvs1]
    · isplitl [Hks]; · iexact Hks
      isplitl [Hvs]; · iexact Hvs
      isplitl [Hks1]; · iexact Hks1
      iexact Hvs1
    isplitl [HO]; · iexact HO
    isplitl [Hcwv]; · iexact Hcwv
    isplitl [Hkf]; · iexact Hkf
    iexact Hvf
  iintro ⟨⟨Hx, Hxb⟩, Hr0, Hst, HO, Hcwv, Hkf, Hvf⟩
  iapply (round_spec I κ c 1 0 rfl _ _ (during1 I c)) $$ [Hxb Hwq Hq Hr1 Hl1 Hst HO Hcwv Hkf Hvf]
  · isplitr; · iexact Hkn
    isplitl [Hxb Hwq Hq]
    · isplitl [Hxb]; · iexact Hxb
      isplitl [Hwq]; · iexact Hwq
      iexact Hq
    isplitl [Hr1]; · iexact Hr1
    isplitl [Hl1]; · iexact Hl1
    isplitl [Hst]; · iexact Hst
    isplitl [HO]; · iexact HO
    isplitl [Hcwv]; · iexact Hcwv
    isplitl [Hkf]; · iexact Hkf
    iexact Hvf
  iintro ⟨⟨Hxb, Hwq, Hq⟩, Hr1, Hst, HO, Hcwv, Hkf, Hvf⟩
  iapply (round_spec I κ c 2 1 rfl _ _ (during2 I c)) $$ [Hxb Hwqr Hwkr Hqr Hkr Hr2 Hl2 Hst HO Hcwv Hkf Hvf]
  · isplitr; · iexact Hkn
    isplitl [Hxb Hwqr Hwkr Hqr Hkr]
    · isplitl [Hxb]; · iexact Hxb
      isplitl [Hwqr]; · iexact Hwqr
      isplitl [Hwkr]; · iexact Hwkr
      isplitl [Hqr]; · iexact Hqr
      iexact Hkr
    isplitl [Hr2]; · iexact Hr2
    isplitl [Hl2]; · iexact Hl2
    isplitl [Hst]; · iexact Hst
    isplitl [HO]; · iexact HO
    isplitl [Hcwv]; · iexact Hcwv
    isplitl [Hkf]; · iexact Hkf
    iexact Hvf
  iintro ⟨⟨Hxb, Hwqr, Hwkr, Hqr, Hkr⟩, Hr2, Hst, HO, Hcwv, Hkf, Hvf⟩
  iapply (round_spec I κ c 3 0 rfl _ _ (during_none c _ rfl)) $$ [Hr3 Hl3 Hst HO Hcwv Hkf Hvf]
  · isplitr; · iexact Hkn
    isplitr; · iempintro
    isplitl [Hr3]; · iexact Hr3
    isplitl [Hl3]; · iexact Hl3
    isplitl [Hst]; · iexact Hst
    isplitl [HO]; · iexact HO
    isplitl [Hcwv]; · iexact Hcwv
    isplitl [Hkf]; · iexact Hkf
    iexact Hvf
  iintro ⟨-, Hr3, Hst, HO, Hcwv, Hkf, Hvf⟩
  iapply (round_spec I κ c 4 1 rfl _ _ (during_none c _ rfl)) $$ [Hr4 Hl4 Hst HO Hcwv Hkf Hvf]
  · isplitr; · iexact Hkn
    isplitr; · iempintro
    isplitl [Hr4]; · iexact Hr4
    isplitl [Hl4]; · iexact Hl4
    isplitl [Hst]; · iexact Hst
    isplitl [HO]; · iexact HO
    isplitl [Hcwv]; · iexact Hcwv
    isplitl [Hkf]; · iexact Hkf
    iexact Hvf
  iintro ⟨-, Hr4, Hst, HO, Hcwv, Hkf, Hvf⟩
  iapply (round_spec I κ c 5 0 rfl _ _ (during_none c _ rfl)) $$ [Hr5 Hl5 Hst HO Hcwv Hkf Hvf]
  · isplitr; · iexact Hkn
    isplitr; · iempintro
    isplitl [Hr5]; · iexact Hr5
    isplitl [Hl5]; · iexact Hl5
    isplitl [Hst]; · iexact Hst
    isplitl [HO]; · iexact HO
    isplitl [Hcwv]; · iexact Hcwv
    isplitl [Hkf]; · iexact Hkf
    iexact Hvf
  iintro ⟨-, Hr5, ⟨Hks, Hvs, Hks1, Hvs1⟩, HO, Hcwv, Hkf, Hvf⟩
  iapply (lastRound_spec I κ c) $$ [Hr6 Hl6 Hks Hvs HO Hcwv Hkf Hvf]
  · isplitr; · iexact Hkn
    isplitl [Hr6]; · iexact Hr6
    isplitl [Hl6]; · iexact Hl6
    isplitl [Hks Hvs]
    · isplitl [Hks]; · iexact Hks
      iexact Hvs
    isplitl [HO]; · iexact HO
    isplitl [Hcwv]; · iexact Hcwv
    isplitl [Hkf]; · iexact Hkf
    iexact Hvf
  iintro ⟨Hr6, Hks, Hvs, HO, Hcwv, Hkf, Hvf⟩
  unfold busy01
  icases Hbusy with ⟨Hf0, Hb0, Hf1, Hb1⟩
  iapply (hop0_spec I κ c) $$ [Ha0 HF0 HB0 HO Hq Hkf Hvf Hqr Hkr Hsl Hf0 Hb0 Hout]
  · isplitr; · iexact Hkn
    isplitl [Ha0]; · iexact Ha0
    isplitl [HF0]; · iexact HF0
    isplitl [HB0]; · iexact HB0
    isplitl [HO]; · iexact HO
    isplitl [Hq Hkf Hvf Hqr Hkr]
    · unfold qkv
      isplitl [Hq]; · iexact Hq
      isplitl [Hkf]; · iexact Hkf
      isplitl [Hvf]; · iexact Hvf
      isplitl [Hqr]; · iexact Hqr
      iexact Hkr
    isplitl [Hsl]; · iexact Hsl
    isplitl [Hf0]; · iexact Hf0
    isplitl [Hb0]; · iexact Hb0
    iexact Hout
  iintro ⟨Ha0, Hd0, HO, Hsl, Hf0, Hb0, Hqkv, Hout⟩
  iapply (hopM_spec I κ c 1 0 rfl 3 rfl) $$ [Ha1 HF1 HB1 HO Hsl Hf1 Hb1 Hout]
  · isplitr; · iexact Hkn
    isplitl [Ha1]; · iexact Ha1
    isplitl [HF1]; · iexact HF1
    isplitl [HB1]; · iexact HB1
    isplitl [HO]; · iexact HO
    isplitl [Hsl]; · iexact Hsl
    isplitl [Hf1]; · iexact Hf1
    isplitl [Hb1]; · iexact Hb1
    iexact Hout
  iintro ⟨Ha1, Hd1, HO, Hsl, Hf1, Hb1, Hout⟩
  iapply (hopM_spec I κ c 2 1 rfl 4 rfl) $$ [Ha2 HF2 HB2 HO Hsl Hf0 Hb0 Hout]
  · isplitr; · iexact Hkn
    isplitl [Ha2]; · iexact Ha2
    isplitl [HF2]; · iexact HF2
    isplitl [HB2]; · iexact HB2
    isplitl [HO]; · iexact HO
    isplitl [Hsl]; · iexact Hsl
    isplitl [Hf0]; · iexact Hf0
    isplitl [Hb0]; · iexact Hb0
    iexact Hout
  iintro ⟨Ha2, Hd2, HO, Hsl, Hf0, Hb0, Hout⟩
  iapply (hopM_spec I κ c 3 2 rfl 5 rfl) $$ [Ha3 HF3 HB3 HO Hsl Hf1 Hb1 Hout]
  · isplitr; · iexact Hkn
    isplitl [Ha3]; · iexact Ha3
    isplitl [HF3]; · iexact HF3
    isplitl [HB3]; · iexact HB3
    isplitl [HO]; · iexact HO
    isplitl [Hsl]; · iexact Hsl
    isplitl [Hf1]; · iexact Hf1
    isplitl [Hb1]; · iexact Hb1
    iexact Hout
  iintro ⟨Ha3, Hd3, HO, Hsl, Hf1, Hb1, Hout⟩
  iapply (hopM_spec I κ c 4 3 rfl 6 rfl) $$ [Ha4 HF4 HB4 HO Hsl Hf0 Hb0 Hout]
  · isplitr; · iexact Hkn
    isplitl [Ha4]; · iexact Ha4
    isplitl [HF4]; · iexact HF4
    isplitl [HB4]; · iexact HB4
    isplitl [HO]; · iexact HO
    isplitl [Hsl]; · iexact Hsl
    isplitl [Hf0]; · iexact Hf0
    isplitl [Hb0]; · iexact Hb0
    iexact Hout
  iintro ⟨Ha4, Hd4, HO, Hsl, Hf0, Hb0, Hout⟩
  iapply (hopM_spec I κ c 5 4 rfl 7 rfl) $$ [Ha5 HF5 HB5 HO Hsl Hf1 Hb1 Hout]
  · isplitr; · iexact Hkn
    isplitl [Ha5]; · iexact Ha5
    isplitl [HF5]; · iexact HF5
    isplitl [HB5]; · iexact HB5
    isplitl [HO]; · iexact HO
    isplitl [Hsl]; · iexact Hsl
    isplitl [Hf1]; · iexact Hf1
    isplitl [Hb1]; · iexact Hb1
    iexact Hout
  iintro ⟨Ha5, Hd5, HO, Hsl, Hf1, Hb1, Hout⟩
  iapply (hopL_spec I κ c) $$ [Ha6 HF6 HB6 HO Hsl Hf0 Hb0 Hout]
  · isplitr; · iexact Hkn
    isplitl [Ha6]; · iexact Ha6
    isplitl [HF6]; · iexact HF6
    isplitl [HB6]; · iexact HB6
    isplitl [HO]; · iexact HO
    isplitl [Hsl]; · iexact Hsl
    isplitl [Hf0]; · iexact Hf0
    isplitl [Hb0]; · iexact Hb0
    iexact Hout
  iintro ⟨Ha6, Hd6, HO, Hsl, Hsp6, Hout⟩
  iapply (projL_spec I κ c) $$ [HO Hsl Hf1 Hb1 Hout]
  · isplitr; · iexact Hkn
    isplitl [HO]; · iexact HO
    isplitl [Hsl]; · iexact Hsl
    isplitl [Hf1]; · iexact Hf1
    isplitl [Hb1]; · iexact Hb1
    iexact Hout
  iintro ⟨HO, Hd7, Hsp7, Hout⟩
  unfold cwv qkv
  icases Hcwv with ⟨Hc, Hwk, Hwv⟩
  icases Hqkv with ⟨Hq, Hkf, Hvf, Hqr, Hkr⟩
  iapply HK
  isplitl [Hx Hwd Hwk Hwv Hwq Hwqr Hwkr]
  · isplitl [Hx]; · iexact Hx
    isplitl [Hwd]; · iexact Hwd
    isplitl [Hwk]; · iexact Hwk
    isplitl [Hwv]; · iexact Hwv
    isplitl [Hwq]; · iexact Hwq
    isplitl [Hwqr]; · iexact Hwqr
    iexact Hwkr
  isplitl [Hout]; · iexact Hout
  isplitl [Hc Hxb Hkf Hvf Hq Hqr Hkr Hks Hvs Hks1 Hvs1]
  · isplitl [Hc Hxb Hkf Hvf Hq Hqr Hkr]
    · isplitl [Hc]
      · iapply (any_intro c cM.view _) $$ Hc
      isplitl [Hxb]
      · iapply (any_intro c xbM.view _) $$ Hxb
      isplitl [Hkf]
      · iapply (any_intro c kfM.view _) $$ Hkf
      isplitl [Hvf]
      · iapply (any_intro c vfM.view _) $$ Hvf
      isplitl [Hq]
      · iapply (any_intro c qM.view _) $$ Hq
      isplitl [Hqr]
      · iapply (any_intro c qrM.view _) $$ Hqr
      iapply (any_intro c krM.view _) $$ Hkr
    isplitl [Hks]; · iexact Hks
    isplitl [Hks1]; · iexact Hks1
    isplitl [Hvs]; · iexact Hvs
    iexact Hvs1
  isplitl [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Ha0 Ha1 Ha2 Ha3 Ha4 Ha5 Ha6]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexact Ha6
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  isplitl [Hbar]; · iexact Hbar
  isplitl [Hsp6]; · iexact Hsp6
  isplitl [Hsp7]; · iexact Hsp7
  iexact HO

end Cert.KernelIdeal.Mla
-- ==== Proof.Slots.lean ====
/-
# Buffers cut into slots

A scratch buffer held whole is its slots held one by one, and back; the rows of the output weights held whole are four
shares of them.
-/
module

public import proofs.«01_k».proof.Proof.Body
public import Idealize.ShloMosaic.Lib.Ring

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)

/-- A buffer held whole, at contents not chosen. -/
abbrev raw (b : Ref sig .tc) : sProp 𝕄 := iprop(∃ f : Buf (Elt F) ((c : Thread nD τ).loc b), ((c : Thread nD τ).loc b) ↦{fullShare} f)

theorem any_of_raw (b : Ref sig .tc) : (raw c b : sProp 𝕄) ⊢ any c (Memref.whole b).view := by
  unfold any holds
  iintro ⟨%f, H⟩
  iexists (Memref.whole b).view.read (Elt F) f
  iexists f
  isplitl [H]
  · rw [View.set_whole]; iexact H
  · ipureintro; rfl
theorem raw_of_any (b : Ref sig .tc) : any c (Memref.whole b).view ⊢ (raw c b : sProp 𝕄) := by
  unfold any holds
  rw [View.set_whole]
  iintro ⟨%w, %f, H, -⟩
  iexists f
  iexact H

section Cut

variable {n : ℕ} {s s' : Shape} {e : EltTy} {cs : Space} (v : View sig .tc cs s e) (hv : v.set = Finset.univ) (a₀ : Fin s.rank)
  (off : Fin n → Fin s.rank → ℕ) (size : Fin s.rank → ℕ) (inb : ∀ b a, off b a + size a ≤ s.size a)
  (hn : ∀ b, s'.numel = (Rect.unit (off b) size (inb b)).shape.numel)
  (hoff₀ : ∀ b, off b a₀ = 1 * b.val) (hoff : ∀ b a, a ≠ a₀ → off b a = 0) (hsz₀ : size a₀ = 1) (hsz : ∀ a, a ≠ a₀ → size a = s.size a) (hN : n * 1 = s.size a₀)

abbrev cutAt (b : Fin n) : View sig .tc cs s' e := (v.slice (Rect.unit (off b) size (inb b))).reshape s' (hn b)

include hoff₀ hsz₀ in
theorem cut_disjoint (b b' : Fin n) (h : b ≠ b') : Disjoint (cutAt v off size inb hn b).set (cutAt v off size inb hn b').set := by
  rw [View.set_reshape, View.set_slice, View.set_reshape, View.set_slice, Finset.disjoint_map]
  exact Idealize.ShloMosaic.Ring.lead_disjoint a₀ 1 off size inb hoff₀ hsz₀ b b' h

include hv hoff₀ hoff hsz₀ hsz hN in
theorem cut_cover : Finset.biUnion (β := v.ty.Idx) (Finset.univ : Finset (Fin n)) (fun b => (cutAt v off size inb hn b).set) = Finset.univ := by
  rw [← hv]
  show _ = Finset.univ.map v.emb
  rw [← Idealize.ShloMosaic.Ring.lead_cover a₀ 1 off size inb hoff₀ hoff hsz₀ hsz hN]
  ext i
  simp only [Finset.mem_biUnion, Finset.mem_map, Finset.mem_univ, true_and]
  constructor
  · rintro ⟨b, hb⟩
    rw [View.set_reshape, View.set_slice] at hb
    obtain ⟨x, hx, rfl⟩ := Finset.mem_map.mp hb
    exact ⟨x, ⟨b, hx⟩, rfl⟩
  · rintro ⟨x, ⟨b, hx⟩, rfl⟩
    refine ⟨b, ?_⟩
    rw [View.set_reshape, View.set_slice]
    exact Finset.mem_map_of_mem _ hx

include hv hoff₀ hoff hsz₀ hsz hN in
/-- A buffer held whole is held slot by slot; -/
theorem cut_split : iprop(∃ f : Buf (Elt F) (v.loc (c : Thread nD τ)), (v.loc (c : Thread nD τ)) ↦{fullShare} f)
    ⊢ (bigSep Finset.univ fun b => any c (cutAt v off size inb hn b) : sProp 𝕄) := by
  iintro ⟨%f, H⟩
  ihave H' := (Entails.of_eq (Idealize.ShloMosaic.Ring.pointsTo_blocks (ℓ := v.loc (c : Thread nD τ)) (fun b => (cutAt v off size inb hn b).set)
    (cut_disjoint v a₀ off size inb hn hoff₀ hsz₀) (cut_cover v hv a₀ off size inb hn hoff₀ hoff hsz₀ hsz hN) f)) $$ H
  iapply (show (bigSep Finset.univ fun b => ((v.loc (c : Thread nD τ)) ↦[(cutAt v off size inb hn b).set]{fullShare} f : sProp 𝕄))
    ⊢ bigSep Finset.univ fun b => any c (cutAt v off size inb hn b) from each fun b => by
      unfold any holds
      iintro H
      iexists (cutAt v off size inb hn b).read (Elt F) f
      iexists f
      isplitl [H]
      · iexact H
      · ipureintro; rfl) $$ H'

include hv hoff₀ hoff hsz₀ hsz hN in
/-- and its slots make up the buffer. -/
theorem cut_join (b₀ : Fin n) : (bigSep Finset.univ fun b => any c (cutAt v off size inb hn b) : sProp 𝕄)
    ⊢ iprop(∃ f : Buf (Elt F) (v.loc (c : Thread nD τ)), (v.loc (c : Thread nD τ)) ↦{fullShare} f) := by
  have hb : ∀ b, (any c (cutAt v off size inb hn b) : sProp 𝕄)
      ⊢ iprop(∃ f : Buf (Elt F) (v.loc (c : Thread nD τ)), (v.loc (c : Thread nD τ)) ↦[(cutAt v off size inb hn b).set]{fullShare} f) := fun b => by
    unfold any holds
    iintro ⟨%w, %f, H, -⟩
    iexists f
    iexact H
  refine BIBase.Entails.trans (each hb) ?_
  rw [bigSep_univ_at _ b₀]
  iintro ⟨⟨%f, H⟩, Hr⟩
  iapply (Idealize.ShloMosaic.Ring.pointsTo_blocks_join_exists (ℓ := v.loc (c : Thread nD τ)) (fun b => (cutAt v off size inb hn b).set)
    (cut_disjoint v a₀ off size inb hn hoff₀ hsz₀) (cut_cover v hv a₀ off size inb hn hoff₀ hoff hsz₀ hsz hN) f)
  rw [bigSep_univ_at _ b₀]
  isplitl [H]
  · iexists f; iexact H
  iexact Hr

end Cut

/-! ## The buffers of this kernel -/

theorem offsz {n a b : ℕ} (p : Fin n) (i : Fin 4) (h : i ≠ 0) : (![p.val, 0, 0, 0] : Fin 4 → ℕ) i = 0 ∧ (![1, 2, a, b] : Fin 4 → ℕ) i = (![n, 2, a, b] : Fin 4 → ℕ) i := by
  fin_cases i <;> first | exact absurd rfl h | exact ⟨rfl, rfl⟩
theorem offsz3 {n a b : ℕ} (p : Fin n) (i : Fin 3) (h : i ≠ 0) : (![p.val, 0, 0] : Fin 3 → ℕ) i = 0 ∧ (![1, a, b] : Fin 3 → ℕ) i = (![n, a, b] : Fin 3 → ℕ) i := by
  fin_cases i <;> first | exact absurd rfl h | exact ⟨rfl, rfl⟩

theorem ks_split : (raw c cc0_scratch2 : sProp 𝕄) ⊢ bigSep Finset.univ fun p => any c (ksS p).view :=
  cut_split c ksM.view (View.set_whole _) 0 (fun p : Fin 2 => ![p.val, 0, 0, 0]) S1x2x512x256.size (fun p => inb4 p 0 2 (by decide)) _ (fun p => (Nat.one_mul _).symm)
    (fun p i h => (offsz (a := 512) (b := 256) p i h).1) rfl (fun i h => (offsz (n := 2) (a := 512) (b := 256) 0 i h).2) rfl
theorem ks_join : (bigSep Finset.univ fun p => any c (ksS p).view : sProp 𝕄) ⊢ raw c cc0_scratch2 :=
  cut_join c ksM.view (View.set_whole _) 0 (fun p : Fin 2 => ![p.val, 0, 0, 0]) S1x2x512x256.size (fun p => inb4 p 0 2 (by decide)) _ (fun p => (Nat.one_mul _).symm)
    (fun p i h => (offsz (a := 512) (b := 256) p i h).1) rfl (fun i h => (offsz (n := 2) (a := 512) (b := 256) 0 i h).2) rfl 0
theorem vs_split : (raw c cc0_scratch3 : sProp 𝕄) ⊢ bigSep Finset.univ fun p => any c (vsS p).view :=
  cut_split c vsM.view (View.set_whole _) 0 (fun p : Fin 2 => ![p.val, 0, 0, 0]) S1x2x512x256.size (fun p => inb4 p 0 2 (by decide)) _ (fun p => (Nat.one_mul _).symm)
    (fun p i h => (offsz (a := 512) (b := 256) p i h).1) rfl (fun i h => (offsz (n := 2) (a := 512) (b := 256) 0 i h).2) rfl
theorem vs_join : (bigSep Finset.univ fun p => any c (vsS p).view : sProp 𝕄) ⊢ raw c cc0_scratch3 :=
  cut_join c vsM.view (View.set_whole _) 0 (fun p : Fin 2 => ![p.val, 0, 0, 0]) S1x2x512x256.size (fun p => inb4 p 0 2 (by decide)) _ (fun p => (Nat.one_mul _).symm)
    (fun p i h => (offsz (a := 512) (b := 256) p i h).1) rfl (fun i h => (offsz (n := 2) (a := 512) (b := 256) 0 i h).2) rfl 0
theorem rk_split : (raw c cc0_scratch4 : sProp 𝕄) ⊢ bigSep Finset.univ fun s => any c (rkS s).view :=
  cut_split c rkM.view (View.set_whole _) 0 (fun p : Fin 7 => ![p.val, 0, 0, 0]) S1x2x512x256.size (fun p => inb4 p 0 2 (by decide)) _ (fun p => (Nat.one_mul _).symm)
    (fun p i h => (offsz (a := 512) (b := 256) p i h).1) rfl (fun i h => (offsz (n := 7) (a := 512) (b := 256) 0 i h).2) rfl
theorem rk_join : (bigSep Finset.univ fun s => any c (rkS s).view : sProp 𝕄) ⊢ raw c cc0_scratch4 :=
  cut_join c rkM.view (View.set_whole _) 0 (fun p : Fin 7 => ![p.val, 0, 0, 0]) S1x2x512x256.size (fun p => inb4 p 0 2 (by decide)) _ (fun p => (Nat.one_mul _).symm)
    (fun p i h => (offsz (a := 512) (b := 256) p i h).1) rfl (fun i h => (offsz (n := 7) (a := 512) (b := 256) 0 i h).2) rfl 0
theorem rv_split : (raw c cc0_scratch5 : sProp 𝕄) ⊢ bigSep Finset.univ fun s => any c (rvS s).view :=
  cut_split c rvM.view (View.set_whole _) 0 (fun p : Fin 7 => ![p.val, 0, 0, 0]) S1x2x512x256.size (fun p => inb4 p 0 2 (by decide)) _ (fun p => (Nat.one_mul _).symm)
    (fun p i h => (offsz (a := 512) (b := 256) p i h).1) rfl (fun i h => (offsz (n := 7) (a := 512) (b := 256) 0 i h).2) rfl
theorem rv_join : (bigSep Finset.univ fun s => any c (rvS s).view : sProp 𝕄) ⊢ raw c cc0_scratch5 :=
  cut_join c rvM.view (View.set_whole _) 0 (fun p : Fin 7 => ![p.val, 0, 0, 0]) S1x2x512x256.size (fun p => inb4 p 0 2 (by decide)) _ (fun p => (Nat.one_mul _).symm)
    (fun p i h => (offsz (a := 512) (b := 256) p i h).1) rfl (fun i h => (offsz (n := 7) (a := 512) (b := 256) 0 i h).2) rfl 0
theorem of_split : (raw c cc0_scratch8 : sProp 𝕄) ⊢ bigSep Finset.univ fun s => any c (oF s).view :=
  cut_split c ofM.view (View.set_whole _) 0 (fun p : Fin 8 => ![p.val, 0, 0, 0]) S1x2x512x128.size (fun p => inb4 p 0 2 (by decide)) _ (fun p => (Nat.one_mul _).symm)
    (fun p i h => (offsz (a := 512) (b := 128) p i h).1) rfl (fun i h => (offsz (n := 8) (a := 512) (b := 128) 0 i h).2) rfl
theorem of_join : (bigSep Finset.univ fun s => any c (oF s).view : sProp 𝕄) ⊢ raw c cc0_scratch8 :=
  cut_join c ofM.view (View.set_whole _) 0 (fun p : Fin 8 => ![p.val, 0, 0, 0]) S1x2x512x128.size (fun p => inb4 p 0 2 (by decide)) _ (fun p => (Nat.one_mul _).symm)
    (fun p i h => (offsz (a := 512) (b := 128) p i h).1) rfl (fun i h => (offsz (n := 8) (a := 512) (b := 128) 0 i h).2) rfl 0
theorem ob_split : (raw c cc0_scratch9 : sProp 𝕄) ⊢ bigSep Finset.univ fun s => any c (oB s).view :=
  cut_split c obM.view (View.set_whole _) 0 (fun p : Fin 8 => ![p.val, 0, 0, 0]) S1x2x512x128.size (fun p => inb4 p 0 2 (by decide)) _ (fun p => (Nat.one_mul _).symm)
    (fun p i h => (offsz (a := 512) (b := 128) p i h).1) rfl (fun i h => (offsz (n := 8) (a := 512) (b := 128) 0 i h).2) rfl
theorem ob_join : (bigSep Finset.univ fun s => any c (oB s).view : sProp 𝕄) ⊢ raw c cc0_scratch9 :=
  cut_join c obM.view (View.set_whole _) 0 (fun p : Fin 8 => ![p.val, 0, 0, 0]) S1x2x512x128.size (fun p => inb4 p 0 2 (by decide)) _ (fun p => (Nat.one_mul _).symm)
    (fun p i h => (offsz (a := 512) (b := 128) p i h).1) rfl (fun i h => (offsz (n := 8) (a := 512) (b := 128) 0 i h).2) rfl 0
theorem wf_split : (raw c cc0_scratch13 : sProp 𝕄) ⊢ bigSep Finset.univ fun p => any c (wfS p).view :=
  cut_split c wfM.view (View.set_whole _) 0 (fun p : Fin 2 => ![p.val, 0, 0]) S1x128x2048.size (fun p => inb3 p 0 2048 (by decide)) _ (fun p => (Nat.one_mul _).symm)
    (fun p i h => (offsz3 (a := 128) (b := 2048) p i h).1) rfl (fun i h => (offsz3 (n := 2) (a := 128) (b := 2048) 0 i h).2) rfl
theorem wf_join : (bigSep Finset.univ fun p => any c (wfS p).view : sProp 𝕄) ⊢ raw c cc0_scratch13 :=
  cut_join c wfM.view (View.set_whole _) 0 (fun p : Fin 2 => ![p.val, 0, 0]) S1x128x2048.size (fun p => inb3 p 0 2048 (by decide)) _ (fun p => (Nat.one_mul _).symm)
    (fun p i h => (offsz3 (a := 128) (b := 2048) p i h).1) rfl (fun i h => (offsz3 (n := 2) (a := 128) (b := 2048) 0 i h).2) rfl 0
theorem wb_split : (raw c cc0_scratch14 : sProp 𝕄) ⊢ bigSep Finset.univ fun p => any c (wbS p).view :=
  cut_split c wbM.view (View.set_whole _) 0 (fun p : Fin 2 => ![p.val, 0, 0]) S1x128x2048.size (fun p => inb3 p 0 2048 (by decide)) _ (fun p => (Nat.one_mul _).symm)
    (fun p i h => (offsz3 (a := 128) (b := 2048) p i h).1) rfl (fun i h => (offsz3 (n := 2) (a := 128) (b := 2048) 0 i h).2) rfl
theorem wb_join : (bigSep Finset.univ fun p => any c (wbS p).view : sProp 𝕄) ⊢ raw c cc0_scratch14 :=
  cut_join c wbM.view (View.set_whole _) 0 (fun p : Fin 2 => ![p.val, 0, 0]) S1x128x2048.size (fun p => inb3 p 0 2048 (by decide)) _ (fun p => (Nat.one_mul _).symm)
    (fun p i h => (offsz3 (a := 128) (b := 2048) p i h).1) rfl (fun i h => (offsz3 (n := 2) (a := 128) (b := 2048) 0 i h).2) rfl 0

/-- The slots of the outputs, in the order they fill on device `c`. -/
theorem fsl_bij : ∀ c : Dev nD, Function.Bijective fun n : Fin 8 => fsl c n.val := by decide
theorem bsl_bij : ∀ c : Dev nD, Function.Bijective fun n : Fin 8 => bsl c n.val := by decide
theorem of_order : (bigSep Finset.univ fun p => any c (oF p).view : sProp 𝕄) = bigSep Finset.univ fun n : Fin 8 => any c (oF (fsl c n.val)).view :=
  bigSep_univ_equiv (Equiv.ofBijective _ (fsl_bij c)) fun p : Fin 8 => any c (oF p).view
theorem ob_order : (bigSep Finset.univ fun p => any c (oB p).view : sProp 𝕄) = bigSep Finset.univ fun n : Fin 8 => any c (oB (bsl c n.val)).view :=
  bigSep_univ_equiv (Equiv.ofBijective _ (bsl_bij c)) fun p : Fin 8 => any c (oB p).view
theorem univ_succ (Φ : ℕ → sProp 𝕄) : (bigSep Finset.univ fun n : Fin 8 => Φ n.val) = iprop(Φ 0 ∗ bigSep Finset.univ fun s : Fin 7 => Φ (s.val + 1)) := by
  rw [eight, seven]
  rfl

/-- The weight rows, a quarter for each channel. -/
theorem wo_split : (woPts I c fullShare : sProp 𝕄) ⊢ iprop((woPts I c (qtr 0) ∗ woPts I c (qtr 1)) ∗ woPts I c (qtr 2) ∗ woPts I c (qtr 3)) := by
  unfold woPts qtr
  have h (q : PosShare TreeShare) (g : Buf (Elt F) (woM.view.loc (c : Thread nD τ))) := pointsTo_share (Ix := Unit) (Val := Elt F) (Name := ℕ) (U := UU) (Lvl := ℕ) (ℓ := woM.view.loc (c : Thread nD τ)) (I := Finset.univ) (f := g)
    (Part.eq_some_iff.mp q.left_op_right)
  exact BIBase.Entails.trans (h fullShare _).1 (Laws.sep_mono (h _ _).1 (h _ _).1)
theorem wo_join : iprop((woPts I c (qtr 0) ∗ woPts I c (qtr 1)) ∗ woPts I c (qtr 2) ∗ woPts I c (qtr 3)) ⊢ (woPts I c fullShare : sProp 𝕄) := by
  unfold woPts qtr
  have h (q : PosShare TreeShare) (g : Buf (Elt F) (woM.view.loc (c : Thread nD τ))) := pointsTo_share (Ix := Unit) (Val := Elt F) (Name := ℕ) (U := UU) (Lvl := ℕ) (ℓ := woM.view.loc (c : Thread nD τ)) (I := Finset.univ) (f := g)
    (Part.eq_some_iff.mp q.left_op_right)
  exact BIBase.Entails.trans (Laws.sep_mono (h _ _).2 (h _ _).2) (h fullShare _).2

end Cert.KernelIdeal.Mla
-- ==== Proof.Deal.lean ====
/-
# What a device brings to the kernel and takes away

The counters of the copies are opened when the kernel is entered and closed when it is left. Between, what a device
holds is dealt to the phases of the body; afterwards every buffer is whole again and every counter at zero.
-/
module

public import proofs.«01_k».proof.Proof.Slots
public import Idealize.ShloMosaic.Lib.SparseCore.Stream
public import Idealize.ShloMosaic.Lib.Pipeline.RegionTalk

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem together {α : Type} {S : Finset α} {Φ Ψ : α → sProp 𝕄} : iprop((bigSep S fun i => Φ i) ∗ (bigSep S fun i => Ψ i)) ⊢ (bigSep S fun i => iprop(Φ i ∗ Ψ i)) :=
  Entails.of_eq (BI.bigSep_sep S Φ Ψ).symm
theorem apart {α : Type} {S : Finset α} {Φ Ψ : α → sProp 𝕄} : (bigSep S fun i => iprop(Φ i ∗ Ψ i)) ⊢ iprop((bigSep S fun i => Φ i) ∗ (bigSep S fun i => Ψ i)) :=
  Entails.of_eq (BI.bigSep_sep S Φ Ψ)

variable (I : Dev nD → Inp F) (κ : GSem nD τ sig → ℕ) (c : Dev nD)

/-- The kernel's own counters. -/
abbrev OK : Type := (Fin 8 × Fin 7) ⊕ Fin 4
def osem : OK → SemLoc sig
  | .inl x => .dma (fs x.1 x.2)
  | .inr ch => .dma (ls ch)
abbrev oc (k : OK) : GSem nD τ sig := ((c : Thread nD τ), osem k)
theorem oc_mem (k : OK) : oc c k ∈ cells := match k with
  | .inl x => fc_mem c x.1 x.2
  | .inr ch => lc_mem c ch

theorem OK_eq (Φ : GSem nD τ sig → sProp 𝕄) : (bigSep Finset.univ fun k : OK => Φ (oc c k))
    = iprop(((bigSep Finset.univ fun s => Φ (fc c 0 s)) ∗ (bigSep Finset.univ fun s => Φ (fc c 1 s)) ∗ (bigSep Finset.univ fun s => Φ (fc c 2 s))
        ∗ (bigSep Finset.univ fun s => Φ (fc c 3 s)) ∗ (bigSep Finset.univ fun s => Φ (fc c 4 s)) ∗ (bigSep Finset.univ fun s => Φ (fc c 5 s))
        ∗ (bigSep Finset.univ fun s => Φ (fc c 6 s)) ∗ (bigSep Finset.univ fun s => Φ (fc c 7 s)))
      ∗ Φ (lc c 0) ∗ Φ (lc c 1) ∗ Φ (lc c 2) ∗ Φ (lc c 3)) := by
  rw [BI.bigSep_univ_sum, BI.bigSep_univ_prod, eight, bigSep_univ_eq_bigSepL (I := Fin 4) [0, 1, 2, 3] (by decide) (by decide)]
  rfl

/-- The rights to add that device `c` uses. -/
def paid : sProp 𝕄 :=
  iprop((dutyTok ER (bc (lft c)) 0 false ∗ dutyTok ER (bc (rgt c)) 0 true)
    ∗ ((bigSep Finset.univ fun s => dutyTok ER (fc c 0 s) 0 false) ∗ (bigSep Finset.univ fun s => dutyTok ER (fc (rgt c) 1 s) 0 false)
      ∗ (bigSep Finset.univ fun s => dutyTok ER (fc c 2 s) 0 false) ∗ (bigSep Finset.univ fun s => dutyTok ER (fc (lft c) 3 s) 0 false)
      ∗ (bigSep Finset.univ fun s => dutyTok ER (fc c 4 s) 0 false) ∗ (bigSep Finset.univ fun s => dutyTok ER (fc (rgt c) 5 s) 0 false)
      ∗ (bigSep Finset.univ fun s => dutyTok ER (fc c 6 s) 0 false) ∗ (bigSep Finset.univ fun s => dutyTok ER (fc (lft c) 7 s) 0 false))
    ∗ toks c 0 0 ∗ toks c 1 0 ∗ toks c 2 0 ∗ toks c 3 0)
/-- What it is promised on its own counters. -/
def promised : sProp 𝕄 :=
  iprop(cred (tallyAt (bc c) () 2)
    ∗ (bigSep Finset.univ fun s => cred (tallyAt (fc c 1 s) () NK)) ∗ (bigSep Finset.univ fun s => cred (tallyAt (fc c 3 s) () NK))
    ∗ (bigSep Finset.univ fun s => cred (tallyAt (fc c 5 s) () NO)) ∗ (bigSep Finset.univ fun s => cred (tallyAt (fc c 7 s) () NO)))
/-- The same before and after the counters are opened. -/
def mine : sProp 𝕄 :=
  iprop(atPos ER (bc c) 0 ∅ 0 ∗ (bigSep Finset.univ fun k : OK => openTok ER (oc c k)) ∗ paid c ∗ (reached ER (bc (lft c)) 0 ∗ reached ER (bc (rgt c)) 0) ∗ promised c)
def opened : sProp 𝕄 :=
  iprop(atPos ER (bc c) 0 ∅ 0 ∗ (bigSep Finset.univ fun k : OK => iprop(atPos ER (oc c k) 0 ∅ 0 ∗ reached ER (oc c k) 0)) ∗ paid c
    ∗ (reached ER (bc (lft c)) 0 ∗ reached ER (bc (rgt c)) 0) ∗ promised c)

def Tk : sProp 𝕄 := iprop(∃ κ, know I κ ∗ mine c)
def Xk : sProp 𝕄 := iprop(∃ κ, know I κ ∗ opened c)

theorem open_one (k : OK) : iprop(know I κ ∗ iprop(openTok ER (oc c k) ∗ semVal (oc c k) 0)) ⊢ (|={Set.univ}=> iprop(atPos ER (oc c k) 0 ∅ 0 ∗ reached ER (oc c k) 0) : sProp 𝕄) := by
  iintro ⟨#Hkn, Ho, Hs⟩
  imod (Rounds.cell_open ER (ringRd I) (g := oc c k) (Set.mem_univ (κ (oc c k)))) $$ [Ho Hs] with ⟨Ha, Hr⟩
  · isplitr; · iapply (know_inv I κ (oc_mem c k)) $$ Hkn
    isplitl [Ho]; · iexact Ho
    iexact Hs
  imodintro
  isplitl [Ha]; · iexact Ha
  iexact Hr
theorem open_all : iprop(know I κ ∗ (bigSep Finset.univ fun k : OK => openTok ER (oc c k)) ∗ (bigSep Finset.univ fun k : OK => semVal (oc c k) 0))
    ⊢ (|={Set.univ}=> (bigSep Finset.univ fun k : OK => iprop(atPos ER (oc c k) 0 ∅ 0 ∗ reached ER (oc c k) 0)) : sProp 𝕄) := by
  iintro ⟨#Hkn, Ho, Hs⟩
  ihave H := (show iprop((bigSep Finset.univ fun k : OK => openTok ER (oc c k)) ∗ (bigSep Finset.univ fun k : OK => semVal (oc c k) 0))
    ⊢ (bigSep Finset.univ fun k : OK => iprop(openTok ER (oc c k) ∗ semVal (oc c k) 0) : sProp 𝕄) from together) $$ [Ho Hs]
  · isplitl [Ho]; · iexact Ho
    iexact Hs
  imod (show iprop(know I κ ∗ (bigSep Finset.univ fun k : OK => iprop(openTok ER (oc c k) ∗ semVal (oc c k) 0)))
    ⊢ (|={Set.univ}=> (bigSep Finset.univ fun k : OK => iprop(atPos ER (oc c k) 0 ∅ 0 ∗ reached ER (oc c k) 0)) : sProp 𝕄) from
      BIBase.Entails.trans (Transfers.bigSep_mono_pers Finset.univ _ _ _ fun k _ => open_one I κ c k) (bigSep_fupd _ _)) $$ [H] with H
  · isplitr; · iexact Hkn
    iexact H
  imodintro
  iexact H

/-- Entering: the counters are opened. -/
theorem enter : iprop(Tk I c ∗ Pipeline.ownSems0 osem c ∗ levAts L lv) ⊢ (|={Set.univ}=> Xk I c : sProp 𝕄) := by
  unfold Tk Xk mine opened Pipeline.ownSems0
  iintro ⟨⟨%κ, #Hkn, Ha, Ho, Hp, Hr, Hc⟩, Hs, -⟩
  imod (open_all I κ c) $$ [Ho Hs] with Hk
  · isplitr; · iexact Hkn
    isplitl [Ho]; · iexact Ho
    iexact Hs
  imodintro
  iexists κ
  isplitr; · iexact Hkn
  isplitl [Ha]; · iexact Ha
  isplitl [Hk]; · iexact Hk
  isplitl [Hp]; · iexact Hp
  isplitl [Hr]; · iexact Hr
  iexact Hc

/-! ## Leaving -/

theorem close_bar : iprop(know I κ ∗ atPos ER (bc c) 1 ∅ 0) ⊢ (|={Set.univ}=> semVal (bc c) 0 : sProp 𝕄) := by
  iintro ⟨#Hkn, Ha⟩
  imod (Rounds.cell_close ER (ringRd I) (Set.mem_univ (κ (bc c))) id (R := 1) fun r hr => duties_bar_later I c r hr) $$ [Ha] with H
  · isplitr; · iapply (know_inv I κ (bc_mem c)) $$ Hkn
    iexact Ha
  imodintro
  iexact H
theorem close_fam (j : Fin 8) (s : Fin 7) : iprop(know I κ ∗ atPos ER (fc c j s) 1 ∅ 0) ⊢ (|={Set.univ}=> semVal (fc c j s) 0 : sProp 𝕄) := by
  iintro ⟨#Hkn, Ha⟩
  imod (Rounds.cell_close ER (ringRd I) (Set.mem_univ (κ (fc c j s))) id (R := 1) fun r hr => duties_fam_later I c j s r hr) $$ [Ha] with H
  · isplitr; · iapply (know_inv I κ (fc_mem c j s)) $$ Hkn
    iexact Ha
  imodintro
  iexact H
theorem close_loc (ch : Fin 4) : iprop(know I κ ∗ atPos ER (lc c ch) 4 ∅ 0) ⊢ (|={Set.univ}=> semVal (lc c ch) 0 : sProp 𝕄) := by
  iintro ⟨#Hkn, Ha⟩
  imod (Rounds.cell_close ER (ringRd I) (Set.mem_univ (κ (lc c ch))) id (R := 4) fun r hr => duties_loc_later I c ch r hr) $$ [Ha] with H
  · isplitr; · iapply (know_inv I κ (lc_mem c ch)) $$ Hkn
    iexact Ha
  imodintro
  iexact H
theorem close_fams (j : Fin 8) : iprop(know I κ ∗ bigSep Finset.univ fun s => atPos ER (fc c j s) 1 ∅ 0)
    ⊢ (|={Set.univ}=> (bigSep Finset.univ fun s => semVal (fc c j s) 0) : sProp 𝕄) :=
  BIBase.Entails.trans (Transfers.bigSep_mono_pers Finset.univ _ _ _ fun s _ => close_fam I κ c j s) (bigSep_fupd _ _)

/-! ## Dealing -/

/-- The scratch buffers. -/
def scr : sProp 𝕄 :=
  iprop(raw c cc0_scratch0 ∗ raw c cc0_scratch1 ∗ raw c cc0_scratch2 ∗ raw c cc0_scratch3 ∗ raw c cc0_scratch4 ∗ raw c cc0_scratch5 ∗ raw c cc0_scratch6
    ∗ raw c cc0_scratch7 ∗ raw c cc0_scratch8 ∗ raw c cc0_scratch9 ∗ raw c cc0_scratch10 ∗ raw c cc0_scratch11 ∗ raw c cc0_scratch12 ∗ raw c cc0_scratch13 ∗ raw c cc0_scratch14)

theorem two (Φ : Fin 2 → sProp 𝕄) : bigSep Finset.univ Φ = iprop(Φ 0 ∗ Φ 1) := by
  rw [bigSep_univ_eq_bigSepL (I := Fin 2) [0, 1] (by decide) (by decide)]
  rfl

theorem of_deal : (raw c cc0_scratch8 : sProp 𝕄) ⊢ iprop(any c (oF (fsl c 0)).view ∗ bigSep Finset.univ fun s : Fin 7 => any c (oF (fsl c (s.val + 1))).view) := by
  refine BIBase.Entails.trans (of_split c) ?_
  rw [of_order, univ_succ fun n => any c (oF (fsl c n)).view]
theorem ob_deal : (raw c cc0_scratch9 : sProp 𝕄) ⊢ iprop(any c (oB (bsl c 0)).view ∗ bigSep Finset.univ fun s : Fin 7 => any c (oB (bsl c (s.val + 1))).view) := by
  refine BIBase.Entails.trans (ob_split c) ?_
  rw [ob_order, univ_succ fun n => any c (oB (bsl c n)).view]
theorem done_join : (bigSep Finset.univ fun n : Fin 8 => slotsDone c n.val) ⊢ (iprop(raw c cc0_scratch8 ∗ raw c cc0_scratch9) : sProp 𝕄) := by
  unfold slotsDone
  iintro H
  ihave H' := (show (bigSep Finset.univ fun n : Fin 8 => iprop(any c (oF (fsl c n.val)).view ∗ any c (oB (bsl c n.val)).view))
    ⊢ (iprop((bigSep Finset.univ fun n : Fin 8 => any c (oF (fsl c n.val)).view) ∗ (bigSep Finset.univ fun n : Fin 8 => any c (oB (bsl c n.val)).view)) : sProp 𝕄) from apart) $$ H
  icases H' with ⟨Hf, Hb⟩
  isplitl [Hf]
  · iapply (of_join c); rw [of_order]; iexact Hf
  · iapply (ob_join c); rw [ob_order]; iexact Hb

set_option maxHeartbeats 1000000 in
/-- What the device holds on entering makes what the body starts from. -/
theorem deal : iprop(opened c ∗ woPts I c fullShare ∗ scr c ∗ ow c (allT c))
    ⊢ (iprop(locals c ∗ slotsDone c 0 ∗ fetch0 I c ∗ shake0 c ∗ (bigSep Finset.univ fun s => rs0 c s) ∗ bigSep Finset.univ fun s => ag0 c s) : sProp 𝕄) := by
  unfold opened scr paid promised
  rw [OK_eq c fun g => iprop(atPos ER g 0 ∅ 0 ∗ reached ER g 0)]
  iintro ⟨⟨Hab, ⟨⟨H0, H1, H2, H3, H4, H5, H6, H7⟩, ⟨Hl0, Hr0⟩, ⟨Hl1, Hr1⟩, ⟨Hl2, Hr2⟩, ⟨Hl3, Hr3⟩⟩,
    ⟨⟨Htl, Htr⟩, ⟨Ht0, Ht1, Ht2, Ht3, Ht4, Ht5, Ht6, Ht7⟩, Hk0, Hk1, Hk2, Hk3⟩, ⟨Hrl, Hrr⟩, Hcb, Hc1, Hc3, Hc5, Hc7⟩, Hwo,
    ⟨S0, S1, S2, S3, S4, S5, S6, S7, S8, S9, S10, S11, S12, S13, S14⟩, HO⟩
  ihave H0' := apart $$ H0; icases H0' with ⟨A0, R0⟩
  ihave H1' := apart $$ H1; icases H1' with ⟨A1, R1⟩
  ihave H2' := apart $$ H2; icases H2' with ⟨A2, R2⟩
  ihave H3' := apart $$ H3; icases H3' with ⟨A3, R3⟩
  ihave H4' := apart $$ H4; icases H4' with ⟨A4, R4⟩
  ihave H5' := apart $$ H5; icases H5' with ⟨A5, R5⟩
  ihave H6' := apart $$ H6; icases H6' with ⟨A6, R6⟩
  ihave H7' := apart $$ H7; icases H7' with ⟨A7, R7⟩
  ihave Hw := (wo_split I c) $$ Hwo
  icases Hw with ⟨⟨W0, W1⟩, W2, W3⟩
  ihave Hks := (BIBase.Entails.trans (ks_split c) (Entails.of_eq (two _))) $$ S2
  icases Hks with ⟨Hks0, Hks1⟩
  ihave Hvs := (BIBase.Entails.trans (vs_split c) (Entails.of_eq (two _))) $$ S3
  icases Hvs with ⟨Hvs0, Hvs1⟩
  ihave Hwf := (BIBase.Entails.trans (wf_split c) (Entails.of_eq (two _))) $$ S13
  icases Hwf with ⟨Hwf0, Hwf1⟩
  ihave Hwb := (BIBase.Entails.trans (wb_split c) (Entails.of_eq (two _))) $$ S14
  icases Hwb with ⟨Hwb0, Hwb1⟩
  ihave Hof := (of_deal c) $$ S8
  icases Hof with ⟨Hof0, Hof⟩
  ihave Hob := (ob_deal c) $$ S9
  icases Hob with ⟨Hob0, Hob⟩
  unfold locals
  isplitl [S0 S1 S6 S7 S10 S11 S12 Hks0 Hks1 Hvs0 Hvs1]
  · isplitl [S0 S1 S6 S7 S10 S11 S12]
    · isplitl [S0]; · iapply (any_of_raw c cc0_scratch0) $$ S0
      isplitl [S1]; · iapply (any_of_raw c cc0_scratch1) $$ S1
      isplitl [S6]; · iapply (any_of_raw c cc0_scratch6) $$ S6
      isplitl [S7]; · iapply (any_of_raw c cc0_scratch7) $$ S7
      isplitl [S10]; · iapply (any_of_raw c cc0_scratch10) $$ S10
      isplitl [S11]; · iapply (any_of_raw c cc0_scratch11) $$ S11
      iapply (any_of_raw c cc0_scratch12) $$ S12
    isplitl [Hks0]; · iexact Hks0
    isplitl [Hks1]; · iexact Hks1
    isplitl [Hvs0]; · iexact Hvs0
    iexact Hvs1
  unfold slotsDone
  isplitl [Hof0 Hob0]
  · isplitl [Hof0]; · iexact Hof0
    iexact Hob0
  unfold fetch0
  isplitl [Hl0 Hr0 Hk0 W0 Hwf0 Hl1 Hr1 Hk1 W1 Hwf1 Hl2 Hr2 Hk2 W2 Hwb0 Hl3 Hr3 Hk3 W3 Hwb1]
  · unfold idle
    isplitl [Hl0 Hr0 Hk0 W0 Hwf0]
    · isplitr [Hwf0]
      · isplitl [Hl0]; · iexact Hl0
        isplitl [Hr0]; · iexact Hr0
        isplitl [Hk0]; · iexact Hk0
        iexact W0
      iexact Hwf0
    isplitl [Hl2 Hr2 Hk2 W2 Hwb0]
    · isplitr [Hwb0]
      · isplitl [Hl2]; · iexact Hl2
        isplitl [Hr2]; · iexact Hr2
        isplitl [Hk2]; · iexact Hk2
        iexact W2
      iexact Hwb0
    isplitl [Hl1 Hr1 Hk1 W1 Hwf1]
    · isplitr [Hwf1]
      · isplitl [Hl1]; · iexact Hl1
        isplitl [Hr1]; · iexact Hr1
        isplitl [Hk1]; · iexact Hk1
        iexact W1
      iexact Hwf1
    isplitr [Hwb1]
    · isplitl [Hl3]; · iexact Hl3
      isplitl [Hr3]; · iexact Hr3
      isplitl [Hk3]; · iexact Hk3
      iexact W3
    iexact Hwb1
  unfold shake0 giveF giveB
  isplitl [HO S4 Hof R1 R5 S5 Hob R3 R7 Htl Htr Hrl Hrr Hcb Hab]
  · isplitl [HO]; · iexact HO
    isplitl [S4 Hof R1 R5]
    · iapply together; isplitl [S4]; · iapply (rk_split c) $$ S4
      iapply together; isplitl [Hof]; · iexact Hof
      iapply together; isplitl [R1]; · iexact R1
      iexact R5
    isplitl [S5 Hob R3 R7]
    · iapply together; isplitl [S5]; · iapply (rv_split c) $$ S5
      iapply together; isplitl [Hob]; · iexact Hob
      iapply together; isplitl [R3]; · iexact R3
      iexact R7
    isplitl [Htl]; · iexact Htl
    isplitl [Htr]; · iexact Htr
    isplitl [Hrl]; · iexact Hrl
    isplitl [Hrr]; · iexact Hrr
    isplitl [Hcb]; · iexact Hcb
    iexact Hab
  unfold rs0 ag0
  isplitl [Ht0 Ht1 Ht2 Ht3 R0 R2 A0 A1 A2 A3 Hc1 Hc3]
  · iapply together; isplitl [Ht0]; · iexact Ht0
    iapply together; isplitl [Ht1]; · iexact Ht1
    iapply together; isplitl [Ht2]; · iexact Ht2
    iapply together; isplitl [Ht3]; · iexact Ht3
    iapply together; isplitl [R0]; · iexact R0
    iapply together; isplitl [R2]; · iexact R2
    iapply together; isplitl [A0]; · iexact A0
    iapply together; isplitl [A1]; · iexact A1
    iapply together; isplitl [A2]; · iexact A2
    iapply together; isplitl [A3]; · iexact A3
    iapply together; isplitl [Hc1]; · iexact Hc1
    iexact Hc3
  iapply together; isplitl [Ht4]; · iexact Ht4
  iapply together; isplitl [Ht5]; · iexact Ht5
  iapply together; isplitl [Ht6]; · iexact Ht6
  iapply together; isplitl [Ht7]; · iexact Ht7
  iapply together; isplitl [R4]; · iexact R4
  iapply together; isplitl [R6]; · iexact R6
  iapply together; isplitl [A4]; · iexact A4
  iapply together; isplitl [A5]; · iexact A5
  iapply together; isplitl [A6]; · iexact A6
  iapply together; isplitl [A7]; · iexact A7
  iapply together; isplitl [Hc5]; · iexact Hc5
  iexact Hc7

theorem rsOut_split : (bigSep Finset.univ fun s => rsOut I c s)
    ⊢ (iprop((bigSep Finset.univ fun s => rsEnd c s) ∗ raw c cc0_scratch4 ∗ raw c cc0_scratch5) : sProp 𝕄) := by
  unfold rsOut
  iintro H
  ihave H' := apart $$ H
  icases H' with ⟨He, H⟩
  ihave H' := apart $$ H
  icases H' with ⟨Hk, Hv⟩
  isplitl [He]; · iexact He
  isplitl [Hk]
  · iapply (rk_join c)
    iapply (show (bigSep Finset.univ fun s => holds c (rkS s).view fullShare (rows4 (KS I s.val (lft c)))) ⊢ (bigSep Finset.univ fun s => any c (rkS s).view : sProp 𝕄) from
      each fun s => any_intro c _ _) $$ Hk
  · iapply (rv_join c)
    iapply (show (bigSep Finset.univ fun s => holds c (rvS s).view fullShare (rows4 (VS I s.val (rgt c)))) ⊢ (bigSep Finset.univ fun s => any c (rvS s).view : sProp 𝕄) from
      each fun s => any_intro c _ _) $$ Hv

theorem ends_split {A B C D : Fin 7 → sProp 𝕄} : (bigSep Finset.univ fun s => iprop(A s ∗ B s ∗ C s ∗ D s))
    ⊢ iprop((bigSep Finset.univ fun s => A s) ∗ (bigSep Finset.univ fun s => B s) ∗ (bigSep Finset.univ fun s => C s) ∗ bigSep Finset.univ fun s => D s) := by
  iintro H
  ihave H' := apart $$ H; icases H' with ⟨HA, H⟩
  ihave H' := apart $$ H; icases H' with ⟨HB, H⟩
  ihave H' := apart $$ H; icases H' with ⟨HC, HD⟩
  isplitl [HA]; · iexact HA
  isplitl [HB]; · iexact HB
  isplitl [HC]; · iexact HC
  iexact HD

set_option maxHeartbeats 1000000 in
/-- What the body leaves: every counter at zero, the buffers whole. -/
theorem collect : iprop(know I κ ∗ bodyPost I c)
    ⊢ (|={Set.univ}=> iprop(semVal (bc c) 0 ∗ Pipeline.ownSems0 osem c ∗ woPts I c fullShare ∗ scr c ∗ ow c (agT c 0) ∗ ins I c ∗ holds c outM.view fullShare (outR I c)) : sProp 𝕄) := by
  unfold bodyPost locals spent idle Pipeline.ownSems0
  rw [OK_eq c fun g => semVal g 0]
  iintro ⟨#Hkn, Hin, Hout, ⟨⟨S0, S1, S6, S7, S10, S11, S12⟩, Hks0, Hks1, Hvs0, Hvs1⟩, Hrs, Hag, Hdn, Hab,
    ⟨⟨⟨L0, -, -, W0⟩, Hwf0⟩, ⟨L2, -, -, W2⟩, Hwb0⟩, ⟨⟨⟨L1, -, -, W1⟩, Hwf1⟩, ⟨L3, -, -, W3⟩, Hwb1⟩, HO⟩
  ihave Hrs' := (rsOut_split I c) $$ Hrs
  icases Hrs' with ⟨He, S4, S5⟩
  ihave Hd := (done_join c) $$ Hdn
  icases Hd with ⟨S8, S9⟩
  unfold rsEnd agEnd
  ihave He' := ends_split $$ He
  icases He' with ⟨A0, A1, A2, A3⟩
  ihave Hg' := ends_split $$ Hag
  icases Hg' with ⟨A4, A5, A6, A7⟩
  imod (close_bar I κ c) $$ [Hab] with Hab
  · isplitr; · iexact Hkn
    iexact Hab
  imod (close_fams I κ c 0) $$ [A0] with A0
  · isplitr; · iexact Hkn
    iexact A0
  imod (close_fams I κ c 1) $$ [A1] with A1
  · isplitr; · iexact Hkn
    iexact A1
  imod (close_fams I κ c 2) $$ [A2] with A2
  · isplitr; · iexact Hkn
    iexact A2
  imod (close_fams I κ c 3) $$ [A3] with A3
  · isplitr; · iexact Hkn
    iexact A3
  imod (close_fams I κ c 4) $$ [A4] with A4
  · isplitr; · iexact Hkn
    iexact A4
  imod (close_fams I κ c 5) $$ [A5] with A5
  · isplitr; · iexact Hkn
    iexact A5
  imod (close_fams I κ c 6) $$ [A6] with A6
  · isplitr; · iexact Hkn
    iexact A6
  imod (close_fams I κ c 7) $$ [A7] with A7
  · isplitr; · iexact Hkn
    iexact A7
  imod (close_loc I κ c 0) $$ [L0] with L0
  · isplitr; · iexact Hkn
    iexact L0
  imod (close_loc I κ c 1) $$ [L1] with L1
  · isplitr; · iexact Hkn
    iexact L1
  imod (close_loc I κ c 2) $$ [L2] with L2
  · isplitr; · iexact Hkn
    iexact L2
  imod (close_loc I κ c 3) $$ [L3] with L3
  · isplitr; · iexact Hkn
    iexact L3
  imodintro
  isplitl [Hab]; · iexact Hab
  isplitl [A0 A1 A2 A3 A4 A5 A6 A7 L0 L1 L2 L3]
  · isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [L0]; · iexact L0
    isplitl [L1]; · iexact L1
    isplitl [L2]; · iexact L2
    iexact L3
  isplitl [W0 W1 W2 W3]
  · iapply (wo_join I c)
    isplitl [W0 W1]
    · isplitl [W0]; · iexact W0
      iexact W1
    isplitl [W2]; · iexact W2
    iexact W3
  isplitr [HO Hin Hout]
  · unfold scr
    isplitl [S0]; · iapply (raw_of_any c cc0_scratch0) $$ S0
    isplitl [S1]; · iapply (raw_of_any c cc0_scratch1) $$ S1
    isplitl [Hks0 Hks1]
    · iapply (ks_join c)
      rw [two]
      isplitl [Hks0]; · iexact Hks0
      iexact Hks1
    isplitl [Hvs0 Hvs1]
    · iapply (vs_join c)
      rw [two]
      isplitl [Hvs0]; · iexact Hvs0
      iexact Hvs1
    isplitl [S4]; · iexact S4
    isplitl [S5]; · iexact S5
    isplitl [S6]; · iapply (raw_of_any c cc0_scratch6) $$ S6
    isplitl [S7]; · iapply (raw_of_any c cc0_scratch7) $$ S7
    isplitl [S8]; · iexact S8
    isplitl [S9]; · iexact S9
    isplitl [S10]; · iapply (raw_of_any c cc0_scratch10) $$ S10
    isplitl [S11]; · iapply (raw_of_any c cc0_scratch11) $$ S11
    isplitl [S12]; · iapply (raw_of_any c cc0_scratch12) $$ S12
    isplitl [Hwf0 Hwf1]
    · iapply (wf_join c)
      rw [two]
      isplitl [Hwf0]; · iexact Hwf0
      iexact Hwf1
    iapply (wb_join c)
    rw [two]
    isplitl [Hwb0]; · iexact Hwb0
    iexact Hwb1
  isplitl [HO]; · iexact HO
  isplitl [Hin]; · iexact Hin
  iexact Hout

end Cert.KernelIdeal.Mla
-- ==== Proof.Entry.lean ====
/-
# The call's proof data

What the call's operands hold, what its result holds, and the body's obligation.
-/
module

public import proofs.«01_k».proof.Proof.Deal
public import proofs.«01_k».proof.Proof.Gen.KernelIdeal.Launch
public import proofs.«01_k».proof.Proof.Gen.KernelIdeal.Points
public import proofs.«01_k».proof.Proof.Gen.KernelIdeal.Regions

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (outs : Outs (F := F)) (c : Dev nD)

/-- The operands as the host code leaves them. -/
def Iof (d : Dev nD) : Inp F where
  x := V11 m d main_arg0
  wd := V11 m d main_arg1
  wk := V11 m d main_v31
  wv := V11 m d main_v34
  wq := V11 m d main_v12
  wqr := V11 m d main_v18
  wkr := V11 m d main_v19
  wo := V11 m d main_v35

/-- The buffer the kernel reads its last weight from, left where it is. -/
abbrev Hs : Finset (DevRef τ sig) := {Proc.devRef .tc main_v35}
/-- The buffers after the call. -/
def Vend (d : Dev nD) : Valuation τ sig (Elt F) := Function.update (V11 m d) (Proc.devRef .tc main_v36) (outR (Iof m) d)
theorem Vend_of (r : Ref sig .tc) (h : r ≠ main_v36) : Vend m c r = V11 m c r :=
  Function.update_of_ne (StableHlo.devRef_ne_of_ne h) _ _
theorem Vend_out : Vend m c main_v36 = outR (Iof m) c := Function.update_self _ _ _

def O₀ : CellTallies nD τ sig Unit := owedFrom (allT c)
abbrev rest : sProp 𝕄 := iprop(Pipeline.scopedRest (Ix := Unit) (Name := ℕ) (U := UU) (Lvl := ℕ) (Val := Elt F) spec0 c ∗ ∃ r, prngReg c r)

def dat0 : Dat τ (Elt F) Unit ℕ UU ℕ cfg0 c where
  A w := match w with
    | 0 => V11 m c main_arg0 | 1 => V11 m c main_arg1 | 2 => V11 m c main_v31 | 3 => V11 m c main_v34
    | 4 => V11 m c main_v12 | 5 => V11 m c main_v18 | 6 => V11 m c main_v19 | 7 => V11 m c main_v36
    | ⟨_ + 8, h⟩ => absurd h (Nat.not_lt.2 (Nat.le_add_left _ _))
  after w _ := match w with
    | 0 => (Iof m c).x | 1 => (Iof m c).wd | 2 => (Iof m c).wk | 3 => (Iof m c).wv
    | 4 => (Iof m c).wq | 5 => (Iof m c).wqr | 6 => (Iof m c).wkr | 7 => outR (Iof m) c
    | ⟨_ + 8, h⟩ => absurd h (Nat.not_lt.2 (Nat.le_add_left _ _))
  Φ t := if t.val = 0 then iprop(rest c ∗ StableHlo.held (c : Thread nD τ) Hs (V11 m c) ∗ Xk (Iof m) c)
    else iprop(rest c ∗ StableHlo.held (c : Thread nD τ) Hs (Vend m c) ∗ Pipeline.ownSems0 osem c ∗ semVal (bc c) 0)
  q _ := fullShare
  owed t := if t.val = 0 then O₀ c else 0

def pdats : (p : Fin 1) → (c : Dev nD) → Dat τ (Elt F) Unit ℕ UU ℕ (cfgs p) c
  | 0 => dat0 m

theorem t0_zero : (t0_0.castSucc : Fin (grid0.N + 1)).val = 0 := rfl
theorem t0_one : ¬ (t0_0.succ : Fin (grid0.N + 1)).val = 0 := Nat.succ_ne_zero _
theorem Φ_first : (dat0 m c).Φ t0_0.castSucc = iprop(rest c ∗ StableHlo.held (c : Thread nD τ) Hs (V11 m c) ∗ Xk (Iof m) c) := by
  unfold dat0; dsimp only; exact if_pos t0_zero
theorem Φ_next : (dat0 m c).Φ t0_0.succ
    = iprop(rest c ∗ StableHlo.held (c : Thread nD τ) Hs (Vend m c) ∗ Pipeline.ownSems0 osem c ∗ semVal (bc c) 0) := by
  unfold dat0; dsimp only; exact if_neg t0_one
theorem owed_first : (dat0 m c).owed t0_0.castSucc = O₀ c := by unfold dat0; dsimp only; exact if_pos t0_zero
theorem owed_next : (dat0 m c).owed t0_0.succ = 0 := by unfold dat0; dsimp only; exact if_neg t0_one

theorem owesAt_in : ((dat0 m c).owesAt () t0_0.castSucc : sProp 𝕄) ⊢ ow c (allT c) := by
  unfold Dat.owesAt Pipeline.owesWithin ow; rw [owed_first]
  iintro ⟨%W, -, HO⟩; iexists W; iexact HO
theorem owesAt_out : (ow c (agT c 0) : sProp 𝕄) ⊢ (dat0 m c).owesAt () t0_0.succ := by
  unfold Dat.owesAt Pipeline.owesWithin Dat.bound ow; rw [owed_next]
  iintro ⟨%W, HO⟩; iexists W
  isplitr; · ipureintro; exact fun _ _ => Or.inl trivial
  iexact HO

theorem owns_holds {sp : Space} {s : Shape} {e : EltTy} (M : Memref sig .tc sp s e) (w : s.Idx → Elt F e) :
    (owns (c : Thread nD τ) M fullShare w : sProp 𝕄) ⊢ holds c M.view fullShare w := by
  unfold owns holds
  iintro ⟨%f, %h, H⟩
  iexists f
  isplitl [H]; · iexact H
  ipureintro; exact h
theorem holds_owns {sp : Space} {s : Shape} {e : EltTy} (M : Memref sig .tc sp s e) (w : s.Idx → Elt F e) :
    (holds c M.view fullShare w : sProp 𝕄) ⊢ owns (c : Thread nD τ) M fullShare w := by
  unfold owns holds
  iintro ⟨%f, H, %h⟩
  iexists f
  isplitr; · ipureintro; exact h
  iexact H

/-- A window on a whole array reads it as it is. -/
theorem whole_emb {s : Shape} {e : EltTy} {cs : CoreSpace} (arr : Memref sig .tc .hbm s e) (o y : Bool) (st : Memref sig .tc (.core cs) ⟨s.rank, s.size⟩ e)
    (sm : DmaSem sig) (h : arr.IsWhole) (h' : st.IsWhole) (t : Fin Pipeline.Grid.none.N) (i : s.Idx) :
    ((Pipeline.Window.whole arr o y st sm h h').rect t).emb i = i :=
  funext fun a => Fin.ext (Pipeline.Window.rect_emb_val_of_index_zero _ t a rfl i)
theorem read_0 (f : ((main_arg0 : Ref sig .tc).ty).Contents (Elt F)) : (win0_0.blk t0_0).view.read (Elt F) f = f := funext fun i => congrArg f (whole_emb _ _ _ _ _ _ _ t0_0 i)
theorem read_1 (f : ((main_arg1 : Ref sig .tc).ty).Contents (Elt F)) : (win0_1.blk t0_0).view.read (Elt F) f = f := funext fun i => congrArg f (whole_emb _ _ _ _ _ _ _ t0_0 i)
theorem read_2 (f : ((main_v31 : Ref sig .tc).ty).Contents (Elt F)) : (win0_2.blk t0_0).view.read (Elt F) f = f := funext fun i => congrArg f (whole_emb _ _ _ _ _ _ _ t0_0 i)
theorem read_3 (f : ((main_v34 : Ref sig .tc).ty).Contents (Elt F)) : (win0_3.blk t0_0).view.read (Elt F) f = f := funext fun i => congrArg f (whole_emb _ _ _ _ _ _ _ t0_0 i)
theorem read_4 (f : ((main_v12 : Ref sig .tc).ty).Contents (Elt F)) : (win0_4.blk t0_0).view.read (Elt F) f = f := funext fun i => congrArg f (whole_emb _ _ _ _ _ _ _ t0_0 i)
theorem read_5 (f : ((main_v18 : Ref sig .tc).ty).Contents (Elt F)) : (win0_5.blk t0_0).view.read (Elt F) f = f := funext fun i => congrArg f (whole_emb _ _ _ _ _ _ _ t0_0 i)
theorem read_6 (f : ((main_v19 : Ref sig .tc).ty).Contents (Elt F)) : (win0_6.blk t0_0).view.read (Elt F) f = f := funext fun i => congrArg f (whole_emb _ _ _ _ _ _ _ t0_0 i)
theorem read_7 (f : ((main_v36 : Ref sig .tc).ty).Contents (Elt F)) : (win0_7.blk t0_0).view.read (Elt F) f = f := funext fun i => congrArg f (whole_emb _ _ _ _ _ _ _ t0_0 i)

theorem before_0 (d) : (dat0 m c).before 0 t0_0 d = (Iof m c).x := by
  unfold Dat.before; rw [if_pos (fetch0_0 t0_0)]; exact read_0 (V11 m c main_arg0)
theorem before_1 (d) : (dat0 m c).before 1 t0_0 d = (Iof m c).wd := by
  unfold Dat.before; rw [if_pos (fetch0_1 t0_0)]; exact read_1 (V11 m c main_arg1)
theorem before_2 (d) : (dat0 m c).before 2 t0_0 d = (Iof m c).wk := by
  unfold Dat.before; rw [if_pos (fetch0_2 t0_0)]; exact read_2 (V11 m c main_v31)
theorem before_3 (d) : (dat0 m c).before 3 t0_0 d = (Iof m c).wv := by
  unfold Dat.before; rw [if_pos (fetch0_3 t0_0)]; exact read_3 (V11 m c main_v34)
theorem before_4 (d) : (dat0 m c).before 4 t0_0 d = (Iof m c).wq := by
  unfold Dat.before; rw [if_pos (fetch0_4 t0_0)]; exact read_4 (V11 m c main_v12)
theorem before_5 (d) : (dat0 m c).before 5 t0_0 d = (Iof m c).wqr := by
  unfold Dat.before; rw [if_pos (fetch0_5 t0_0)]; exact read_5 (V11 m c main_v18)
theorem before_6 (d) : (dat0 m c).before 6 t0_0 d = (Iof m c).wkr := by
  unfold Dat.before; rw [if_pos (fetch0_6 t0_0)]; exact read_6 (V11 m c main_v19)

theorem wo_in : (StableHlo.held (c : Thread nD τ) Hs (V11 m c) : sProp 𝕄) ⊢ woPts (Iof m) c fullShare := by
  unfold StableHlo.held; rw [BI.bigSep_singleton]; exact .rfl
theorem wo_out : (woPts (Iof m) c fullShare : sProp 𝕄) ⊢ StableHlo.held (c : Thread nD τ) Hs (Vend m c) := by
  unfold StableHlo.held; rw [BI.bigSep_singleton, Vend_of m c main_v35 (by decide)]; exact .rfl

/-- The printed body, called at the one point, is the ring's. -/
theorem call_eq : defs₀ (F := F) .tc cfg0.body (cfg0.bodyArgs t0_0 (cfg0.slots t0_0)) = ringBody := body_eq

set_option maxHeartbeats 1000000 in
/-- The body's obligation. -/
theorem body (c : Dev nD) : BodyObligation (dat0 m c) defs₀ 𝒱₀ () Set.univ := fun t => by
  obtain rfl := fin_N0 t
  rw [bigSep_W0, bigSep_W0, Φ_first, Φ_next, call_eq]
  simp only [before_0, before_1, before_2, before_3, before_4, before_5, before_6]
  unfold rest Xk
  rw [scopedRest0_eq]
  iintro ⟨⟨⟨Hs, Hp⟩, Hh, ⟨%κ, #Hkn, Hop⟩⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave HO' := (owesAt_in m c) $$ HO
  ihave Hw := (wo_in m c) $$ Hh
  ihave Hd := (deal (Iof m) c) $$ [Hop Hw Hs HO']
  · isplitl [Hop]; · iexact Hop
    isplitl [Hw]; · iexact Hw
    isplitl [Hs]; · unfold scr; iexact Hs
    iexact HO'
  icases Hd with ⟨Hl, Hsd, Hf, Hsh, Hrs, Hag⟩
  iapply (wp_fupd _ _ _ _ _)
  iapply (body_spec (Iof m) κ c) $$ [H0 H1 H2 H3 H4 H5 H6 H7 Hl Hsd Hf Hsh Hrs Hag]
  · isplitr; · iexact Hkn
    unfold bodyPre ins
    isplitl [H0 H1 H2 H3 H4 H5 H6]
    · isplitl [H0]; · iapply (owns_holds c xM _) $$ H0
      isplitl [H1]; · iapply (owns_holds c wdM _) $$ H1
      isplitl [H2]; · iapply (owns_holds c wkM _) $$ H2
      isplitl [H3]; · iapply (owns_holds c wvM _) $$ H3
      isplitl [H4]; · iapply (owns_holds c wqM _) $$ H4
      isplitl [H5]; · iapply (owns_holds c wqrM _) $$ H5
      iapply (owns_holds c wkrM _) $$ H6
    isplitl [H7]
    · iapply (any_intro c outM.view _)
      iapply (owns_holds c outM _) $$ H7
    isplitl [Hl]; · iexact Hl
    isplitl [Hsd]; · iexact Hsd
    isplitl [Hf]; · iexact Hf
    isplitl [Hsh]; · iexact Hsh
    isplitl [Hrs]; · iexact Hrs
    iexact Hag
  iintro HP
  imod (collect (Iof m) κ c) $$ [HP] with ⟨Hb, Hos, Hw, Hs, HO, Hin, Hout⟩
  · isplitr; · iexact Hkn
    iexact HP
  imodintro
  unfold ins scr
  icases Hin with ⟨H0, H1, H2, H3, H4, H5, H6⟩
  isplitl [Hb Hos Hw Hs Hp]
  · isplitl [Hs Hp]
    · isplitl [Hs]; · iexact Hs
      iexact Hp
    isplitl [Hw]; · iapply (wo_out m c) $$ Hw
    isplitl [Hos]; · iexact Hos
    iexact Hb
  isplitl [HO]; · iapply (owesAt_out m c) $$ HO
  dsimp only
  isplitl [H0]; · iapply (holds_owns c xM _) $$ H0
  isplitl [H1]; · iapply (holds_owns c wdM _) $$ H1
  isplitl [H2]; · iapply (holds_owns c wkM _) $$ H2
  isplitl [H3]; · iapply (holds_owns c wvM _) $$ H3
  isplitl [H4]; · iapply (holds_owns c wqM _) $$ H4
  isplitl [H5]; · iapply (holds_owns c wqrM _) $$ H5
  isplitl [H6]; · iapply (holds_owns c wkrM _) $$ H6
  iapply (holds_owns c outM _) $$ Hout

end Cert.KernelIdeal.Mla
-- ==== Proof.Region.lean ====
/-
# The call as one region of @main

What the call takes from the host code's buffers and gives back, with the counters opened and closed around it.
-/
module

public import proofs.«01_k».proof.Proof.Entry

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-- The call's arrays, and the other buffers outside it. -/
abbrev AR : Finset (DevRef τ sig) := Pipeline.arrRefs (τ := τ) (pcfgs (F := F) 0).spec
abbrev SR : Finset (DevRef τ sig) := Pipeline.ucRefs τ sig \ AR (F := F)

theorem AR_sub : AR (F := F) ⊆ Pipeline.ucRefs τ sig :=
  Pipeline.arrRefs_sub_ucRefs _ (show ∀ w : Fin 8, (Pipeline.arrRef spec0 w).isScoped = false by decide)
theorem arr_ne_wo : ∀ w : Fin 8, Pipeline.arrRef spec0 w ≠ main_v35 := by decide
theorem AR_mem (w : Fin 8) : (Proc.devRef .tc (Pipeline.arrRef spec0 w) : DevRef τ sig) ∈ AR (F := F) :=
  Finset.mem_map_of_mem _ (Finset.mem_image_of_mem _ (Finset.mem_univ w))
theorem wo_not_AR : (Proc.devRef .tc main_v35 : DevRef τ sig) ∉ AR (F := F) := by
  intro h
  obtain ⟨r, hr, e⟩ := Finset.mem_map.1 h
  obtain ⟨w, -, rfl⟩ := Finset.mem_image.1 hr
  exact arr_ne_wo w (Proc.devRef_injective _ e)
theorem Hs_sub : Hs ⊆ SR (F := F) := Finset.singleton_subset_iff.2
  (Finset.mem_sdiff.2 ⟨Finset.mem_filter.2 ⟨StableHlo.devRef_mem_tcRefs main_v35, by decide⟩, wo_not_AR⟩)
theorem Vend_rest (b : DevRef τ sig) (hb : b ∈ SR (F := F)) : Vend m c b = V11 m c b :=
  Function.update_of_ne (fun e => (Finset.mem_sdiff.1 hb).2 (by rw [e]; exact AR_mem 7)) _ _

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_zero : (pdats m 0 c).owed 0 = O₀ c := by
  show (dat0 m c).owed 0 = O₀ c
  unfold dat0; dsimp only; exact if_pos rfl
theorem owed_last : (pdats m 0 c).owed (Fin.last _) = 0 := by
  show (dat0 m c).owed (Fin.last grid0.N) = 0
  unfold dat0; dsimp only
  rw [if_neg]
  rw [Fin.val_last, N_0]; decide
theorem Φ_zero : (pdats m 0 c).Φ 0 = iprop(rest c ∗ StableHlo.held (c : Thread nD τ) Hs (V11 m c) ∗ Xk (Iof m) c) := by
  show (dat0 m c).Φ 0 = _
  unfold dat0; dsimp only; exact if_pos rfl
theorem Φ_last : (pdats m 0 c).Φ (Fin.last _)
    = iprop(rest c ∗ StableHlo.held (c : Thread nD τ) Hs (Vend m c) ∗ Pipeline.ownSems0 osem c ∗ semVal (bc c) 0) := by
  show (dat0 m c).Φ (Fin.last grid0.N) = _
  unfold dat0; dsimp only
  rw [if_neg]
  rw [Fin.val_last, N_0]; decide

theorem allT_lv : ∀ x ∈ allT c, x.1.1.2 = .tc ∧ 0 < lv x.1 () := fun x hx => by
  rcases List.mem_cons.1 hx with rfl | hx
  · exact ⟨rfl, Nat.one_pos⟩
  rcases List.mem_cons.1 hx with rfl | hx
  · exact ⟨rfl, Nat.one_pos⟩
  obtain ⟨h, h'⟩ := rsT_lv c 7 le_rfl x hx
  exact ⟨h, by omega⟩
theorem cutD (t : Fin (grid0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · obtain ⟨x, hx, rfl⟩ := owedFrom_pos (allT c) g i h
    obtain ⟨h₁, h₂⟩ := allT_lv c x hx
    exact ⟨by unfold L; rw [if_pos h₁]; exact Finset.mem_singleton_self _, h₂⟩
  · exact absurd h (Nat.lt_irrefl 0)
theorem stage_low : ∀ (w : Fin 8) (s : Fin (spec0 w).nbuf), ((spec0 w).sem s).val < 8 := by decide

theorem hin : iprop(Pipeline.scopedRest (Pipeline.pin (pcfgs (F := F)) adm 0).spec c ∗ (∃ r, prngReg c r) ∗ StableHlo.held (c.tc : Thread nD τ) Hs (V11 m c) ∗ Xk (Iof m) c)
    ⊢ (pdats m 0 c).Φ 0 := by
  rw [Φ_zero]
  iintro ⟨H1, H2, H3, H4⟩
  isplitl [H1 H2]
  · isplitl [H1]; · iexact H1
    iexact H2
  isplitl [H3]; · iexact H3
  iexact H4
theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Vend m c) ∗ Pipeline.ownSems0 osem c ∗ semVal (bc c) 0) := by
  rw [Φ_last]
  iintro ⟨⟨H1, H2⟩, H3, H4, H5⟩
  isplitl [H1]; · iexact H1
  isplitl [H2]; · iexact H2
  isplitl [H3]; · iexact H3
  isplitl [H4]; · iexact H4
  iexact H5

theorem A_0 : (dat0 m c).A 0 = V11 m c main_arg0 := by unfold dat0; rfl
theorem A_1 : (dat0 m c).A 1 = V11 m c main_arg1 := by unfold dat0; rfl
theorem A_2 : (dat0 m c).A 2 = V11 m c main_v31 := by unfold dat0; rfl
theorem A_3 : (dat0 m c).A 3 = V11 m c main_v34 := by unfold dat0; rfl
theorem A_4 : (dat0 m c).A 4 = V11 m c main_v12 := by unfold dat0; rfl
theorem A_5 : (dat0 m c).A 5 = V11 m c main_v18 := by unfold dat0; rfl
theorem A_6 : (dat0 m c).A 6 = V11 m c main_v19 := by unfold dat0; rfl
theorem A_7 : (dat0 m c).A 7 = V11 m c main_v36 := by unfold dat0; rfl
theorem first_0 : (dat0 m c).arrAt 0 0 = V11 m c main_arg0 := (show (dat0 m c).arrAt 0 0 = (dat0 m c).A 0 by unfold Dat.arrAt; rfl).trans (A_0 m c)
theorem first_1 : (dat0 m c).arrAt 1 0 = V11 m c main_arg1 := (show (dat0 m c).arrAt 1 0 = (dat0 m c).A 1 by unfold Dat.arrAt; rfl).trans (A_1 m c)
theorem first_2 : (dat0 m c).arrAt 2 0 = V11 m c main_v31 := (show (dat0 m c).arrAt 2 0 = (dat0 m c).A 2 by unfold Dat.arrAt; rfl).trans (A_2 m c)
theorem first_3 : (dat0 m c).arrAt 3 0 = V11 m c main_v34 := (show (dat0 m c).arrAt 3 0 = (dat0 m c).A 3 by unfold Dat.arrAt; rfl).trans (A_3 m c)
theorem first_4 : (dat0 m c).arrAt 4 0 = V11 m c main_v12 := (show (dat0 m c).arrAt 4 0 = (dat0 m c).A 4 by unfold Dat.arrAt; rfl).trans (A_4 m c)
theorem first_5 : (dat0 m c).arrAt 5 0 = V11 m c main_v18 := (show (dat0 m c).arrAt 5 0 = (dat0 m c).A 5 by unfold Dat.arrAt; rfl).trans (A_5 m c)
theorem first_6 : (dat0 m c).arrAt 6 0 = V11 m c main_v19 := (show (dat0 m c).arrAt 6 0 = (dat0 m c).A 6 by unfold Dat.arrAt; rfl).trans (A_6 m c)
theorem first_7 : (dat0 m c).arrAt 7 0 = V11 m c main_v36 := (show (dat0 m c).arrAt 7 0 = (dat0 m c).A 7 by unfold Dat.arrAt; rfl).trans (A_7 m c)
theorem arr_first (w : Fin 8) : (dat0 m c).arrAt w 0 = V11 m c (Proc.devRef .tc (Pipeline.arrRef spec0 w)) := by
  fin_cases w
  · exact first_0 m c
  · exact first_1 m c
  · exact first_2 m c
  · exact first_3 m c
  · exact first_4 m c
  · exact first_5 m c
  · exact first_6 m c
  · exact first_7 m c
theorem mem_7 (i : ((main_v36 : Ref sig .tc).ty).Idx) : i ∈ (win0_7.blk t0_0).view.set := by
  have h := (win0_7.blk t0_0).view.emb_mem_set i
  have e : (win0_7.blk t0_0).view.emb i = i := by exact whole_emb _ _ _ _ _ _ _ t0_0 i
  rwa [e] at h
theorem out_last : (dat0 m c).arrAt 7 cfg0.N = outR (Iof m) c := by
  refine Dat.arrAt_eq_of_cover (dat0 m c) 7 (outR (Iof m) c) (fun t _ => ?_) (fun i => ⟨t0_0, flush0_7 t0_0, ?_⟩)
  · obtain rfl := fin_N0 t
    exact (read_7 (outR (Iof m) c)).symm
  · exact mem_7 i
theorem last_0 : (dat0 m c).arrAt 0 cfg0.N = Vend m c main_arg0 := (Dat.arrAt_in (dat0 m c) 0 rfl _).trans ((A_0 m c).trans (Vend_of m c main_arg0 (by decide)).symm)
theorem last_1 : (dat0 m c).arrAt 1 cfg0.N = Vend m c main_arg1 := (Dat.arrAt_in (dat0 m c) 1 rfl _).trans ((A_1 m c).trans (Vend_of m c main_arg1 (by decide)).symm)
theorem last_2 : (dat0 m c).arrAt 2 cfg0.N = Vend m c main_v31 := (Dat.arrAt_in (dat0 m c) 2 rfl _).trans ((A_2 m c).trans (Vend_of m c main_v31 (by decide)).symm)
theorem last_3 : (dat0 m c).arrAt 3 cfg0.N = Vend m c main_v34 := (Dat.arrAt_in (dat0 m c) 3 rfl _).trans ((A_3 m c).trans (Vend_of m c main_v34 (by decide)).symm)
theorem last_4 : (dat0 m c).arrAt 4 cfg0.N = Vend m c main_v12 := (Dat.arrAt_in (dat0 m c) 4 rfl _).trans ((A_4 m c).trans (Vend_of m c main_v12 (by decide)).symm)
theorem last_5 : (dat0 m c).arrAt 5 cfg0.N = Vend m c main_v18 := (Dat.arrAt_in (dat0 m c) 5 rfl _).trans ((A_5 m c).trans (Vend_of m c main_v18 (by decide)).symm)
theorem last_6 : (dat0 m c).arrAt 6 cfg0.N = Vend m c main_v19 := (Dat.arrAt_in (dat0 m c) 6 rfl _).trans ((A_6 m c).trans (Vend_of m c main_v19 (by decide)).symm)
theorem last_7 : (dat0 m c).arrAt 7 cfg0.N = Vend m c main_v36 := (out_last m c).trans (Vend_out m c).symm
theorem arr_last (w : Fin 8) : (dat0 m c).arrAt w cfg0.N = Vend m c (Proc.devRef .tc (Pipeline.arrRef spec0 w)) := by
  fin_cases w
  · exact last_0 m c
  · exact last_1 m c
  · exact last_2 m c
  · exact last_3 m c
  · exact last_4 m c
  · exact last_5 m c
  · exact last_6 m c
  · exact last_7 m c
theorem share_full : ∀ w : Fin 8, (dat0 m c).share w = fullShare := fun w => by
  unfold Dat.share; split <;> rfl

theorem own_facts : Pipeline.OwnSemFacts spec0 osem := by decide

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    Hs (SR (F := F)) Hs_sub kitP rfl (fun c => (body m c).loose)
    (fun _ => 0) O₀ (fun c => (owed_zero m c).trans (zero_add _).symm) (owed_last m) (fun _ => rfl) (share_full m)
    (V11 m) (Vend m) (fun c b hb => Vend_rest m c b (Finset.mem_sdiff.1 hb).1)
    (Tk (Iof m)) (fun c => semVal (bc c) 0) (Xk (Iof m)) (fun c => semVal (bc c) 0) (enter (Iof m)) (hin m) (hout m)
    (fun c => by iintro H; imodintro; iexact H)
    (fun _ => 0)
    ⟨fun c w s => by rw [L_tc]; exact Finset.mem_singleton_self _,
      fun c w s => Nat.le_of_eq (if_pos (Or.inl (stage_low w s))), fun c t g i h => cutD m c t g i h⟩
    (fun _ => iprop(emp))
    (fun c w => arr_first m c w) (fun c w => arr_last m c w)

theorem reg0_pre : iprop(StableHlo.held (c : Thread nD τ) (Pipeline.ucRefs τ sig) (V11 m c) ∗ Tk (Iof m) c ∗ (∃ r, prngReg c r) ∗ ow c (allT c)) ⊢ (reg0 m).pre c := by
  show _ ⊢ iprop(StableHlo.held (c.tc : Thread nD τ) (AR (F := F)) (V11 m c) ∗ (∃ r, prngReg c r)
    ∗ (StableHlo.held (c.tc : Thread nD τ) (SR (F := F)) (V11 m c) ∗ emp) ∗ Tk (Iof m) c ∗ ∃ Wd, owes (c : Thread nD τ) (0 + O₀ c) Wd)
  rw [zero_add, StableHlo.held_sub_split (c : Thread nD τ) (AR_sub (F := F))]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  unfold ow
  iexact HO
theorem reg0_post : (reg0 m).post c
    ⊢ iprop((StableHlo.held (c : Thread nD τ) (Pipeline.ucRefs τ sig) (Vend m c) ∗ semVal (bc c) 0) ∗ ∃ W, owes (c : Thread nD τ) (0 : CellTallies nD τ sig Unit) W) := by
  show iprop(StableHlo.held (c.tc : Thread nD τ) (AR (F := F)) (Vend m c) ∗ (∃ r, prngReg c r)
    ∗ (StableHlo.held (c.tc : Thread nD τ) (SR (F := F)) (Vend m c) ∗ emp) ∗ semVal (bc c) 0 ∗ ∃ Wd, owes (c : Thread nD τ) (0 : CellTallies nD τ sig Unit) Wd) ⊢ _
  rw [StableHlo.held_sub_split (c : Thread nD τ) (AR_sub (F := F))]
  iintro ⟨Ha, -, ⟨Hr, -⟩, Hb, HO⟩
  isplitl [Ha Hr Hb]
  · isplitl [Ha Hr]
    · isplitl [Ha]; · iexact Ha
      iexact Hr
    iexact Hb
  iexact HO

end Cert.KernelIdeal.Mla
-- ==== Proof.Credit.lean ====
/-
# What the devices are promised

At the start each device owes its neighbours everything it will add to their counters; what the neighbours owe a device
is its credit.
-/
module

public import proofs.«01_k».proof.Proof.Region

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells apart -/

theorem fc_iff (c d : Dev nD) (i j : Fin 8) (s r : Fin 7) : fc c i s = fc d j r ↔ c = d ∧ i.val = j.val ∧ s.val = r.val := by
  constructor
  · intro h
    have h₁ : c = d := congrArg (fun g : GSem nD τ sig => g.1.1) h
    have h₂ : fs i s = fs j r := SemLoc.dma.inj (congrArg Prod.snd h)
    have h₃ := congrArg Fin.val h₂
    unfold fs at h₃; dsimp only at h₃
    have := s.isLt; have := r.isLt
    exact ⟨h₁, by omega, by omega⟩
  · rintro ⟨rfl, h₁, h₂⟩
    obtain rfl := Fin.ext h₁
    obtain rfl := Fin.ext h₂
    rfl
theorem lc_iff (c d : Dev nD) (i j : Fin 4) : lc c i = lc d j ↔ c = d ∧ i = j := by
  constructor
  · intro h
    have h₁ : c = d := congrArg (fun g : GSem nD τ sig => g.1.1) h
    have h₂ : ls i = ls j := SemLoc.dma.inj (congrArg Prod.snd h)
    have h₃ := congrArg Fin.val h₂
    unfold ls at h₃; dsimp only at h₃
    exact ⟨h₁, Fin.ext (by omega)⟩
  · rintro ⟨rfl, rfl⟩; rfl
theorem bc_iff (c d : Dev nD) : bc c = bc d ↔ c = d :=
  ⟨fun h => congrArg (fun g : GSem nD τ sig => g.1.1) h, fun h => by rw [h]⟩
theorem fc_ne_bc (c d : Dev nD) (i : Fin 8) (s : Fin 7) : fc c i s ≠ bc d := fun h => nomatch (show SemLoc.dma _ = SemLoc.reg _ from congrArg Prod.snd h)
theorem lc_ne_bc (c d : Dev nD) (i : Fin 4) : lc c i ≠ bc d := fun h => nomatch (show SemLoc.dma _ = SemLoc.reg _ from congrArg Prod.snd h)
theorem lc_ne_fc (c d : Dev nD) (k : Fin 4) (i : Fin 8) (s : Fin 7) : lc c k ≠ fc d i s := fun h => by
  have h₂ : ls k = fs i s := SemLoc.dma.inj (congrArg Prod.snd h)
  have h₃ := congrArg Fin.val h₂
  unfold ls fs at h₃; dsimp only at h₃
  have := s.isLt; have := i.isLt
  omega

/-! ## What is owed on a counter -/

variable (c d : Dev nD)

theorem tf (p : Prop) : p = True ∨ p = False := Classical.propComplete p
theorem owed_cons (x : GSem nD τ sig × ℕ) (l : List (GSem nD τ sig × ℕ)) (g : GSem nD τ sig) :
    owedFrom (x :: l) g () = owedFrom l g () + if g = x.1 then x.2 else 0 := by
  show owedFrom l g () + tallyAt x.1 () x.2 g () = _
  rw [tallyAt_apply]
  simp only [and_true]

theorem owed_ag (j : Fin 8) (s : Fin 7) : ∀ k, k ≤ 7 → owedFrom (agT d k) (fc c j s) ()
    = if (j.val = 5 ∧ c = rgt d ∨ j.val = 7 ∧ c = lft d) ∧ 6 - s.val < k then NO else 0
  | 0, _ => by rw [if_neg (by omega)]; rfl
  | k + 1, hk => by
    have hs := s.isLt
    unfold agT
    rw [owed_cons, owed_cons, owed_ag j s k (by omega)]
    simp only [fc_iff]
    have e₁ : ((5 : Fin 8)).val = 5 := rfl
    have e₂ : ((7 : Fin 8)).val = 7 := rfl
    have e₃ : (last k).val = 6 - k := rfl
    rw [e₁, e₂, e₃]
    rcases tf (c = rgt d) with hr | hr <;> rcases tf (c = lft d) with hl | hl <;> simp only [hr, hl, true_and, false_and, and_true, and_false, or_false, false_or, if_false, add_zero, zero_add]
    all_goals (split_ifs <;> omega)

theorem owed_rs (j : Fin 8) (s : Fin 7) : ∀ k, k ≤ 7 → owedFrom (rsT d k) (fc c j s) ()
    = (if (j.val = 1 ∧ c = rgt d ∨ j.val = 3 ∧ c = lft d) ∧ 6 - s.val < k then NK else 0)
      + if j.val = 5 ∧ c = rgt d ∨ j.val = 7 ∧ c = lft d then NO else 0
  | 0, _ => by
    rw [if_neg (by omega), zero_add]
    show owedFrom (agT d 7) _ () = _
    rw [owed_ag c d j s 7 le_rfl]
    have hs := s.isLt
    have e : 6 - s.val < 7 := by omega
    simp only [e, and_true]
  | k + 1, hk => by
    have hs := s.isLt
    unfold rsT
    rw [owed_cons, owed_cons, owed_rs j s k (by omega)]
    simp only [fc_iff]
    have e₁ : ((1 : Fin 8)).val = 1 := rfl
    have e₂ : ((3 : Fin 8)).val = 3 := rfl
    have e₃ : (last k).val = 6 - k := rfl
    rw [e₁, e₂, e₃]
    rcases tf (c = rgt d) with hr | hr <;> rcases tf (c = lft d) with hl | hl <;> simp only [hr, hl, true_and, false_and, and_true, and_false, or_false, false_or, if_false, add_zero, zero_add]
    all_goals (split_ifs <;> omega)

theorem owed_fam (j : Fin 8) (s : Fin 7) : O₀ d (fc c j s) ()
    = (if j.val = 1 ∧ c = rgt d ∨ j.val = 3 ∧ c = lft d then NK else 0) + if j.val = 5 ∧ c = rgt d ∨ j.val = 7 ∧ c = lft d then NO else 0 := by
  unfold O₀ allT
  rw [owed_cons, owed_cons, owed_rs c d j s 7 le_rfl, if_neg (fc_ne_bc _ _ _ _), if_neg (fc_ne_bc _ _ _ _), add_zero, add_zero]
  have hs := s.isLt
  have e : 6 - s.val < 7 := by omega
  simp only [e, and_true]

theorem not_bar : ∀ k, ∀ x ∈ rsT d k, x.1 ≠ bc c := by
  have ha : ∀ k, ∀ x ∈ agT d k, x.1 ≠ bc c := fun k => by
    induction k with
    | zero => intro x hx; cases hx
    | succ k ih =>
      intro x hx
      rcases List.mem_cons.1 hx with rfl | hx
      · exact fc_ne_bc _ _ _ _
      rcases List.mem_cons.1 hx with rfl | hx
      · exact fc_ne_bc _ _ _ _
      exact ih x hx
  intro k
  induction k with
  | zero => exact ha 7
  | succ k ih =>
    intro x hx
    rcases List.mem_cons.1 hx with rfl | hx
    · exact fc_ne_bc _ _ _ _
    rcases List.mem_cons.1 hx with rfl | hx
    · exact fc_ne_bc _ _ _ _
    exact ih x hx

theorem owed_bar : O₀ d (bc c) () = (if c = rgt d then 1 else 0) + if c = lft d then 1 else 0 := by
  unfold O₀ allT
  rw [owed_cons, owed_cons]
  have h0 : owedFrom (rsT d 7) (bc c) () = 0 := Nat.eq_zero_of_not_pos fun h => by
    obtain ⟨x, hx, e⟩ := owedFrom_pos _ _ _ h
    exact not_bar c d 7 x hx e
  rw [h0, zero_add]
  simp only [bc_iff]

theorem eq_rgt_iff : c = rgt d ↔ d = lft c := ⟨fun h => by rw [h, lft_rgt], fun h => by rw [h, rgt_lft]⟩
theorem eq_lft_iff : c = lft d ↔ d = rgt c := ⟨fun h => by rw [h, rgt_lft], fun h => by rw [h, lft_rgt]⟩
theorem sum_rgt (n : ℕ) : (∑ d : Dev nD, if c = rgt d then n else 0) = n := by
  simp only [eq_rgt_iff]
  rw [Finset.sum_ite_eq' Finset.univ (lft c) fun _ => n, if_pos (Finset.mem_univ _)]
theorem sum_lft (n : ℕ) : (∑ d : Dev nD, if c = lft d then n else 0) = n := by
  simp only [eq_lft_iff]
  rw [Finset.sum_ite_eq' Finset.univ (rgt c) fun _ => n, if_pos (Finset.mem_univ _)]

/-- Of the counters that others add to: the handshake's, and the receiving families. -/
abbrev RK : Type := Unit ⊕ (Fin 4 × Fin 7)
def odd (j : Fin 4) : Fin 8 := ⟨2 * j.val + 1, by omega⟩
def rsem : RK → SemLoc sig
  | .inl _ => .reg barM.sem
  | .inr x => .dma (fs (odd x.1) x.2)
theorem rsem_inj : Function.Injective rsem := by
  rintro (⟨⟩ | ⟨j, s⟩) (⟨⟩ | ⟨j', s'⟩) h
  · rfl
  · nomatch h
  · nomatch h
  · have h' : fs (odd j) s = fs (odd j') s' := SemLoc.dma.inj h
    have h₃ := congrArg Fin.val h'
    unfold fs odd at h₃; dsimp only at h₃
    have := s.isLt; have := s'.isLt
    have e₁ : j = j' := Fin.ext (by omega)
    have e₂ : s = s' := Fin.ext (by omega)
    rw [e₁, e₂]

theorem launch_eq (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem launch_bar : tallyOn (bc c) (launchCredit (Pipeline.owing O₀) 0 (bc c)) = (tallyAt (bc c) () 2 : CellTallies nD τ sig Unit) :=
  launch_eq c _ 2 (by
    rw [Finset.sum_congr rfl fun d _ => owed_bar c d, Finset.sum_add_distrib, sum_rgt, sum_lft])
theorem launch_odd (j : Fin 4) (s : Fin 7) : tallyOn (fc c (odd j) s) (launchCredit (Pipeline.owing O₀) 0 (fc c (odd j) s))
    = (tallyAt (fc c (odd j) s) () (famN (odd j)) : CellTallies nD τ sig Unit) :=
  launch_eq c _ _ (by
    rw [Finset.sum_congr rfl fun d _ => owed_fam c d (odd j) s, Finset.sum_add_distrib]
    fin_cases j
    · simpa [odd, famN] using sum_rgt c NK
    · simpa [odd, famN] using sum_lft c NK
    · simpa [odd, famN] using sum_rgt c NO
    · simpa [odd, famN] using sum_lft c NO)

theorem creds : (Pipeline.launchCred O₀ c : sProp 𝕄) ⊢ promised c := by
  unfold Pipeline.launchCred
  refine (BI.bigSep_subset (t := Finset.univ.map ⟨rsem, rsem_inj⟩) (Finset.subset_univ _)).trans ?_
  rw [BI.bigSep_map, BI.bigSep_univ_sum, BI.bigSep_univ_prod, bigSep_univ_eq_bigSepL (I := Fin 4) [0, 1, 2, 3] (by decide) (by decide),
    bigSep_univ_eq_bigSepL (I := Unit) [()] (by decide) (by decide)]
  show iprop(cred (tallyOn (bc c) (launchCredit (Pipeline.owing O₀) 0 (bc c))) ∗
    (bigSep Finset.univ fun s => cred (tallyOn (fc c (odd 0) s) (launchCredit (Pipeline.owing O₀) 0 (fc c (odd 0) s))))
    ∗ (bigSep Finset.univ fun s => cred (tallyOn (fc c (odd 1) s) (launchCredit (Pipeline.owing O₀) 0 (fc c (odd 1) s))))
    ∗ (bigSep Finset.univ fun s => cred (tallyOn (fc c (odd 2) s) (launchCredit (Pipeline.owing O₀) 0 (fc c (odd 2) s))))
    ∗ (bigSep Finset.univ fun s => cred (tallyOn (fc c (odd 3) s) (launchCredit (Pipeline.owing O₀) 0 (fc c (odd 3) s))))) ⊢ _
  simp only [launch_bar, launch_odd]
  exact .rfl

end Cert.KernelIdeal.Mla
-- ==== Proof.Start.lean ====
/-
# The launch

Every counter's invariant is allocated at the start and everything is dealt to the devices; then the whole program runs:
it ends with the arguments unchanged, the result `outR` on every device and every counter at zero.
-/
module

public import proofs.«01_k».proof.Proof.Credit

@[expose] public section

noncomputable section

namespace Cert.KernelIdeal.Mla

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tokens -/

/-- The additions to one device's counters: one each on the families, four on each local channel, two on the handshake's. -/
abbrev AK : Type := (Fin 8 × Fin 7) ⊕ ((Fin 4 × Fin 4) ⊕ Bool)
noncomputable def asem : AK → SemLoc sig × ℕ × Bool
  | .inl x => (.dma (fs x.1 x.2), 0, false)
  | .inr (.inl x) => (.dma (ls x.1), x.2.val, false)
  | .inr (.inr b) => (.reg barM.sem, 0, b)
theorem asem_inj : Function.Injective asem := by
  have c : Dev nD := 0
  rintro (⟨i, s⟩ | ⟨k, r⟩ | b) (⟨i', s'⟩ | ⟨k', r'⟩ | b') h
  · obtain ⟨-, h₁, h₂⟩ := (fc_iff c c i i' s s').1 (Prod.ext rfl (congrArg Prod.fst h))
    rw [Fin.ext h₁, Fin.ext h₂]
  · exact (lc_ne_fc c c k' i s (Prod.ext rfl (congrArg Prod.fst h).symm)).elim
  · exact (fc_ne_bc c c i s (Prod.ext rfl (congrArg Prod.fst h))).elim
  · exact (lc_ne_fc c c k i' s' (Prod.ext rfl (congrArg Prod.fst h))).elim
  · obtain ⟨-, h₁⟩ := (lc_iff c c k k').1 (Prod.ext rfl (congrArg Prod.fst h))
    have h₂ : r.val = r'.val := congrArg (fun x : SemLoc sig × ℕ × Bool => x.2.1) h
    rw [h₁, Fin.ext h₂]
  · exact (lc_ne_bc c c k (Prod.ext rfl (congrArg Prod.fst h))).elim
  · exact (fc_ne_bc c c i' s' (Prod.ext rfl (congrArg Prod.fst h).symm)).elim
  · exact (lc_ne_bc c c k' (Prod.ext rfl (congrArg Prod.fst h).symm)).elim
  · have h₂ : b = b' := congrArg (fun x : SemLoc sig × ℕ × Bool => x.2.2) h
    rw [h₂]
noncomputable def tkEmb : Dev nD × AK ↪ GSem nD τ sig × ℕ × Bool :=
  ⟨fun x => (((x.1 : Thread nD τ), (asem x.2).1), (asem x.2).2), fun x y h => by
    have h₁ : x.1 = y.1 := congrArg (fun t : GSem nD τ sig × ℕ × Bool => t.1.1.1) h
    have h₂ : asem x.2 = asem y.2 := Prod.ext (congrArg (fun t : GSem nD τ sig × ℕ × Bool => t.1.2) h) (congrArg (fun t : GSem nD τ sig × ℕ × Bool => t.2) h)
    exact Prod.ext h₁ (asem_inj h₂)⟩
noncomputable def tks : Finset (GSem nD τ sig × ℕ × Bool) := Finset.univ.map tkEmb

variable (c : Dev nD)

/-- The rights to add to device `c`'s counters. -/
def on : sProp 𝕄 :=
  iprop((dutyTok ER (bc c) 0 false ∗ dutyTok ER (bc c) 0 true)
    ∗ ((bigSep Finset.univ fun s => dutyTok ER (fc c 0 s) 0 false) ∗ (bigSep Finset.univ fun s => dutyTok ER (fc c 1 s) 0 false)
      ∗ (bigSep Finset.univ fun s => dutyTok ER (fc c 2 s) 0 false) ∗ (bigSep Finset.univ fun s => dutyTok ER (fc c 3 s) 0 false)
      ∗ (bigSep Finset.univ fun s => dutyTok ER (fc c 4 s) 0 false) ∗ (bigSep Finset.univ fun s => dutyTok ER (fc c 5 s) 0 false)
      ∗ (bigSep Finset.univ fun s => dutyTok ER (fc c 6 s) 0 false) ∗ (bigSep Finset.univ fun s => dutyTok ER (fc c 7 s) 0 false))
    ∗ toks c 0 0 ∗ toks c 1 0 ∗ toks c 2 0 ∗ toks c 3 0)

theorem toks_eq (ch : Fin 4) : (toks c ch 0 : sProp 𝕄) = bigSep Finset.univ fun r : Fin 4 => dutyTok ER (lc c ch) r.val false := by
  unfold toks
  rw [show Finset.Ico 0 4 = Finset.univ.map (Fin.valEmbedding : Fin 4 ↪ ℕ) from by decide, BI.bigSep_map]
  rfl
theorem tks_on : bigSep tks (fun x => (dutyTok ER x.1 x.2.1 x.2.2 : sProp 𝕄)) = bigSep Finset.univ fun c : Dev nD => on c := by
  unfold tks; rw [BI.bigSep_map, BI.bigSep_univ_prod]
  refine BI.bigSep_congr fun c _ => ?_
  unfold on
  rw [toks_eq, toks_eq, toks_eq, toks_eq, BI.bigSep_univ_sum, BI.bigSep_univ_sum, BI.bigSep_univ_prod, BI.bigSep_univ_prod, eight,
    bigSep_univ_eq_bigSepL (I := Fin 4) [0, 1, 2, 3] (by decide) (by decide), bigSep_univ_eq_bigSepL (I := Bool) [false, true] (by decide) (by decide)]
  refine Entails.antisymm ?_ ?_
  · show iprop(((bigSep Finset.univ fun s => dutyTok ER (fc c 0 s) 0 false) ∗ (bigSep Finset.univ fun s => dutyTok ER (fc c 1 s) 0 false)
      ∗ (bigSep Finset.univ fun s => dutyTok ER (fc c 2 s) 0 false) ∗ (bigSep Finset.univ fun s => dutyTok ER (fc c 3 s) 0 false)
      ∗ (bigSep Finset.univ fun s => dutyTok ER (fc c 4 s) 0 false) ∗ (bigSep Finset.univ fun s => dutyTok ER (fc c 5 s) 0 false)
      ∗ (bigSep Finset.univ fun s => dutyTok ER (fc c 6 s) 0 false) ∗ (bigSep Finset.univ fun s => dutyTok ER (fc c 7 s) 0 false))
      ∗ ((bigSep Finset.univ fun r : Fin 4 => dutyTok ER (lc c 0) r.val false) ∗ (bigSep Finset.univ fun r : Fin 4 => dutyTok ER (lc c 1) r.val false)
        ∗ (bigSep Finset.univ fun r : Fin 4 => dutyTok ER (lc c 2) r.val false) ∗ (bigSep Finset.univ fun r : Fin 4 => dutyTok ER (lc c 3) r.val false))
      ∗ (dutyTok ER (bc c) 0 false ∗ dutyTok ER (bc c) 0 true)) ⊢ _
    iintro ⟨H1, H2, H3⟩
    isplitl [H3]; · iexact H3
    isplitl [H1]; · iexact H1
    iexact H2
  · show _ ⊢ iprop(((bigSep Finset.univ fun s => dutyTok ER (fc c 0 s) 0 false) ∗ (bigSep Finset.univ fun s => dutyTok ER (fc c 1 s) 0 false)
      ∗ (bigSep Finset.univ fun s => dutyTok ER (fc c 2 s) 0 false) ∗ (bigSep Finset.univ fun s => dutyTok ER (fc c 3 s) 0 false)
      ∗ (bigSep Finset.univ fun s => dutyTok ER (fc c 4 s) 0 false) ∗ (bigSep Finset.univ fun s => dutyTok ER (fc c 5 s) 0 false)
      ∗ (bigSep Finset.univ fun s => dutyTok ER (fc c 6 s) 0 false) ∗ (bigSep Finset.univ fun s => dutyTok ER (fc c 7 s) 0 false))
      ∗ ((bigSep Finset.univ fun r : Fin 4 => dutyTok ER (lc c 0) r.val false) ∗ (bigSep Finset.univ fun r : Fin 4 => dutyTok ER (lc c 1) r.val false)
        ∗ (bigSep Finset.univ fun r : Fin 4 => dutyTok ER (lc c 2) r.val false) ∗ (bigSep Finset.univ fun r : Fin 4 => dutyTok ER (lc c 3) r.val false))
      ∗ (dutyTok ER (bc c) 0 false ∗ dutyTok ER (bc c) 0 true))
    iintro ⟨H3, H1, H2⟩
    isplitl [H1]; · iexact H1
    isplitl [H2]; · iexact H2
    iexact H3

/-- Round the ring. -/
noncomputable def ringE : Dev nD ≃ Dev nD := ⟨rgt, lft, lft_rgt, rgt_lft⟩

/-- The rights to add to a neighbour's counters go to the neighbour. -/
theorem around : (bigSep Finset.univ fun c : Dev nD => (on c : sProp 𝕄)) ⊢ bigSep Finset.univ fun c : Dev nD => paid c := by
  unfold on paid
  repeat rw [bigSep_sep']
  rw [BI.bigSep_univ_equiv ringE.symm (fun c : Dev nD => (dutyTok ER (bc c) 0 false : sProp 𝕄)),
    BI.bigSep_univ_equiv ringE (fun c : Dev nD => (dutyTok ER (bc c) 0 true : sProp 𝕄)),
    BI.bigSep_univ_equiv ringE (fun c : Dev nD => (bigSep Finset.univ fun s => dutyTok ER (fc c 1 s) 0 false : sProp 𝕄)),
    BI.bigSep_univ_equiv ringE.symm (fun c : Dev nD => (bigSep Finset.univ fun s => dutyTok ER (fc c 3 s) 0 false : sProp 𝕄)),
    BI.bigSep_univ_equiv ringE (fun c : Dev nD => (bigSep Finset.univ fun s => dutyTok ER (fc c 5 s) 0 false : sProp 𝕄)),
    BI.bigSep_univ_equiv ringE.symm (fun c : Dev nD => (bigSep Finset.univ fun s => dutyTok ER (fc c 7 s) 0 false : sProp 𝕄))]
  exact Entails.of_eq rfl

/-! ## The launch element -/

noncomputable def oCells : Finset (GSem nD τ sig) := famCells ∪ locCells
theorem cells_eq : barCells ∪ oCells = cells := by unfold cells oCells; rfl
theorem oCells_eq : oCells = Finset.univ.image fun x : Dev nD × OK => oc x.1 x.2 := by
  unfold oCells famCells locCells
  ext g
  simp only [Finset.mem_union, Finset.mem_image, Finset.mem_univ, true_and]
  constructor
  · rintro (⟨⟨d, j, s⟩, h⟩ | ⟨⟨d, k⟩, h⟩)
    · exact ⟨(d, .inl (j, s)), h⟩
    · exact ⟨(d, .inr k), h⟩
  · rintro ⟨⟨d, ⟨j, s⟩ | k⟩, h⟩
    · exact .inl ⟨(d, j, s), h⟩
    · exact .inr ⟨(d, k), h⟩
theorem oc_inj : Function.Injective fun x : Dev nD × OK => oc x.1 x.2 := by
  rintro ⟨d, ⟨j, s⟩ | k⟩ ⟨d', ⟨j', s'⟩ | k'⟩ h
  · obtain ⟨h₀, h₁, h₂⟩ := (fc_iff d d' j j' s s').1 h
    rw [h₀, Fin.ext h₁, Fin.ext h₂]
  · exact absurd h.symm (lc_ne_fc _ _ _ _ _)
  · exact absurd h (lc_ne_fc _ _ _ _ _)
  · obtain ⟨h₀, h₁⟩ := (lc_iff d d' k k').1 h
    rw [h₀, h₁]
theorem apart_cells : Disjoint barCells oCells := by
  rw [Finset.disjoint_left, oCells_eq]
  rintro g h₁ h₂
  obtain ⟨c, -, rfl⟩ := Finset.mem_image.mp h₁
  obtain ⟨⟨d, ⟨j, s⟩ | k⟩, -, h⟩ := Finset.mem_image.mp h₂
  · exact fc_ne_bc _ _ _ _ h
  · exact lc_ne_bc _ _ _ h

noncomputable def u₀ : UU :=
  (initOf (Pipeline.cells (Pipeline.pin (pcfgs (F := F)) adm) cellOf_inj) (Pipeline.launchToks (Pipeline.pin (pcfgs (F := F)) adm) cellOf_inj),
    launchOf barCells oCells tks)

/-- The launch element waits on device 0 until everything is dealt. -/
def G (d : Dev nD) : sProp 𝕄 := if d = 0 then BI.own (ER (launchOf barCells oCells tks)) else iprop(emp)
theorem G_eq : bigSep Finset.univ G = (BI.own (ER (launchOf barCells oCells tks)) : sProp 𝕄) := by
  rw [BI.bigSep_univ_at _ (0 : Dev nD), BI.bigSep_congr (s := Finset.univ.erase (0 : Dev nD)) (Ψ := fun _ => (BI.emp : sProp 𝕄))
      fun d hd => by unfold G; rw [if_neg (Finset.ne_of_mem_erase hd)]; rfl, BI.bigSep_emp_const]
  unfold G; rw [if_pos rfl]
  exact BI.equiv_iff.mp sep_emp

variable (m : (ℓ : Loc nD τ sig) → Buf (Elt F) ℓ) (ρ : Dev nD → PrngReg)

/-- What every device knows. -/
def records (κ : GSem nD τ sig → ℕ) : sProp 𝕄 := iprop(know (Iof m) κ ∗ bigSep barCells fun g => reached ER g 0)
instance records_persistent (κ : GSem nD τ sig → ℕ) : BI.Persistent (records m κ) := by unfold records; infer_instance
theorem reached_bar : (bigSep barCells fun g => (reached ER g 0 : sProp 𝕄)) ⊢ reached ER (bc c) 0 :=
  BI.bigSep_elim (Finset.mem_image_of_mem _ (Finset.mem_univ c))
def linear : sProp 𝕄 := iprop(atPos ER (bc c) 0 ∅ 0 ∗ (bigSep Finset.univ fun k : OK => openTok ER (oc c k)) ∗ paid c)
/-- What rides beside the buffers to the kernel call. -/
abbrev E0 (c : Dev nD) : sProp 𝕄 := iprop(Tk (Iof m) c ∗ (∃ r, prngReg c r) ∗ ow c (allT c))
def bundle (m : (ℓ : Loc nD τ sig) → Buf (Elt F) ℓ) (c : Dev nD) : sProp 𝕄 :=
  iprop(StableHlo.held (c : Thread nD τ) (Pipeline.ucRefs τ sig) (V0 m c) ∗ promised c ∗ owes (c : Thread nD τ) (O₀ c) ∅ ∗ ∃ r, prngReg c r)
abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (Vend m c) ∗ semVal (bc c) 0)

theorem T₀_intro (κ : GSem nD τ sig → ℕ) : iprop(records m κ ∗ (linear c ∗ bundle m c)) ⊢ T₀ m c := by
  unfold bundle linear records T₀ E0 Tk mine ow
  iintro ⟨⟨#HK, #HR⟩, ⟨Ha, Ho, Hp⟩, Hh, Hc, HO, Hr⟩
  isplitl [Hh]; · iexact Hh
  isplitl [Ha Ho Hp Hc]
  · iexists κ
    isplitr; · iexact HK
    isplitl [Ha]; · iexact Ha
    isplitl [Ho]; · iexact Ho
    isplitl [Hp]; · iexact Hp
    isplitr
    · isplitr
      · iapply (reached_bar (F := F) (lft c)); iexact HR
      · iapply (reached_bar (F := F) (rgt c)); iexact HR
    iexact Hc
  isplitl [Hr]; · iexact Hr
  iexists ∅
  iexact HO

theorem only_bar : ∀ sm : SemLoc sig, sm.isScoped .tc = false → sm = .reg barM.sem := by
  rintro (i | i) h
  · exact congrArg SemLoc.reg (Subsingleton.elim (α := Fin 1) i barM.sem)
  · revert h; revert i; decide
theorem bar_unscoped : ¬ ((SemLoc.reg barM.sem : SemLoc sig).isScoped .tc = true) := by decide
theorem sems_eq : (unscopedSems0 c : sProp 𝕄) = semVal (bc c) 0 := by
  unfold unscopedSems0
  rw [show (Finset.univ.filter fun sm : SemLoc sig => ¬ sm.isScoped .tc) = {SemLoc.reg barM.sem} from Finset.ext fun sm => by
    rw [Finset.mem_filter, Finset.mem_singleton]
    exact ⟨fun h => only_bar sm (Bool.eq_false_iff.2 h.2), fun h => ⟨Finset.mem_univ _, by rw [h]; exact bar_unscoped⟩⟩, BI.bigSep_singleton]

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (bc c) 0 ∗ G c)) : sProp 𝕄) := by
    rw [show unscopedBufs c (fun b => m ((c.tc : Thread nD τ).loc b)) = StableHlo.held (c : Thread nD τ) (Pipeline.ucRefs τ sig) (V0 m c)
      from Pipeline.unscopedBufs_held (Ix := Unit) (Name := ℕ) (U := UU) (Lvl := ℕ) c (V0 m c), sems_eq]
    unfold bundle
    iintro ⟨Hh, Hs, HO, Hc, Hp, HG⟩
    isplitl [Hh HO Hc Hp]
    · isplitl [Hh]; · iexact Hh
      isplitl [Hc]; · iapply (creds c) $$ Hc
      isplitl [HO]; · iexact HO
      iexists (ρ c); iexact Hp
    isplitl [Hs]; · iexact Hs
    iexact HG
  have hb : Set.InjOn (fun d : Dev nD => (bc d : GSem nD τ sig)) (Finset.univ : Finset (Dev nD)) := fun a _ b _ h => (bc_iff a b).1 h
  have hv : bigSep Finset.univ (fun c : Dev nD => (semVal (bc c) 0 : sProp 𝕄)) ⊢ bigSep barCells (fun g => (semVal g 0 : sProp 𝕄)) :=
    Entails.of_eq (bigSep_image_of_injOn hb (fun g => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_image_of_injOn hb (fun g => (atPos ER g 0 ∅ 0 : sProp 𝕄)))
  have hop : bigSep oCells (fun g => (openTok ER g : sProp 𝕄)) ⊢ bigSep Finset.univ (fun c : Dev nD => (bigSep Finset.univ fun k : OK => openTok ER (oc c k) : sProp 𝕄)) :=
    Entails.of_eq (by
      rw [oCells_eq, bigSep_image_of_injOn (fun a _ b _ h => oc_inj h), BI.bigSep_univ_prod])
  iintro ⟨H, #Hl⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (bc c) 0 ∗ G c)) : sProp 𝕄) from BI.bigSep_mono fun c _ => hcore c) $$ H
  ihave H2 := apart $$ H'; icases H2 with ⟨HB, H3⟩
  ihave H4 := apart $$ H3; icases H4 with ⟨Hv, HG⟩
  ihave Hu := (show (bigSep Finset.univ fun c : Dev nD => (G c : sProp 𝕄)) ⊢ BI.own (ER (launchOf barCells oCells tks)) from Entails.of_eq G_eq) $$ HG
  imod (Rounds.fund_launch ER (ringRd (Iof m)) apart_cells (fun g _ h => h) tks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro c m κ)
  isplitr
  · unfold records know
    isplitr
    · isplitr; · rw [← cells_eq]; iexact Hinv
      iexact Hl
    iexact Hr
  iapply together
  isplitr [HB]
  · unfold linear
    iapply together; isplitl [Hat]; · iapply hat $$ Hat
    iapply together; isplitl [Hopen]; · iapply hop $$ Hopen
    iapply (around (F := F))
    iapply (Entails.of_eq (tks_on (F := F))) $$ Htok
  · iexact HB

/-- The end of a run: the arguments as they were, the result `outR` of what the host code prepared. -/
def Good (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
def Res (c : Dev nD) (s : MemSt nD τ sig (Elt F)) : Prop := s.mem ((c.tc : Thread nD τ).loc main_v36) = outR (Iof m) c

theorem Vend_arg {r : Ref sig .tc} (h : r ∉ ([main_v36, main_v35] : List (Ref sig .tc))) (outs : Outs (F := F)) {x}
    (e : V12 m outs c r = x) : Vend m c r = x :=
  (Vend_of m c r (List.ne_of_not_mem_cons h)).trans ((V12_of m outs c r h).symm.trans e)

theorem fin_core (s' : Phys nD τ sig (Elt F)) :
    iprop(Tₙ m c ∗ SI s') ⊢ |={Set.univ}=> iprop(⌜(Good m c s'.mem ∧ Res m c s'.mem) ∧ s'.mem.sem (bc c) = 0⌝ ∗ SI s') := by
  have outs : Outs (F := F) := fun _ r c => m ((c : Thread nD τ).loc r)
  unfold Tₙ StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    refine ⟨⟨⟨?_, ?_, ?_, ?_, ?_, ?_, ?_, ?_⟩, ?_⟩, by simpa using hb⟩
    · exact (h (Proc.devRef .tc main_arg0) (Finset.mem_filter.mpr ⟨StableHlo.devRef_mem_tcRefs main_arg0, by decide⟩)).trans (Vend_arg c m (by decide) outs (V12_main_arg0 m outs c))
    · exact (h (Proc.devRef .tc main_arg1) (Finset.mem_filter.mpr ⟨StableHlo.devRef_mem_tcRefs main_arg1, by decide⟩)).trans (Vend_arg c m (by decide) outs (V12_main_arg1 m outs c))
    · exact (h (Proc.devRef .tc main_arg2) (Finset.mem_filter.mpr ⟨StableHlo.devRef_mem_tcRefs main_arg2, by decide⟩)).trans (Vend_arg c m (by decide) outs (V12_main_arg2 m outs c))
    · exact (h (Proc.devRef .tc main_arg3) (Finset.mem_filter.mpr ⟨StableHlo.devRef_mem_tcRefs main_arg3, by decide⟩)).trans (Vend_arg c m (by decide) outs (V12_main_arg3 m outs c))
    · exact (h (Proc.devRef .tc main_arg4) (Finset.mem_filter.mpr ⟨StableHlo.devRef_mem_tcRefs main_arg4, by decide⟩)).trans (Vend_arg c m (by decide) outs (V12_main_arg4 m outs c))
    · exact (h (Proc.devRef .tc main_arg5) (Finset.mem_filter.mpr ⟨StableHlo.devRef_mem_tcRefs main_arg5, by decide⟩)).trans (Vend_arg c m (by decide) outs (V12_main_arg5 m outs c))
    · exact (h (Proc.devRef .tc main_arg6) (Finset.mem_filter.mpr ⟨StableHlo.devRef_mem_tcRefs main_arg6, by decide⟩)).trans (Vend_arg c m (by decide) outs (V12_main_arg6 m outs c))
    · exact (h (Proc.devRef .tc main_arg7) (Finset.mem_filter.mpr ⟨StableHlo.devRef_mem_tcRefs main_arg7, by decide⟩)).trans (Vend_arg c m (by decide) outs (V12_main_arg7 m outs c))
    · exact (h (Proc.devRef .tc main_v36) (Finset.mem_filter.mpr ⟨StableHlo.devRef_mem_tcRefs main_v36, by decide⟩)).trans (Vend_out m c)
  · iexact HSI

def E01 (i : Fin 2) (c : Dev nD) : sProp 𝕄 := if i = 0 then E0 m c else iprop(∃ W, owes (c : Thread nD τ) (0 : CellTallies nD τ sig Unit) W)

set_option backward.isDefEq.respectTransparency.types false in
/-- The whole run. -/
theorem run_main : θ_run defs (onTc (τ := τ) (main (F := F))) ⟨m, fun _ => 0, ρ⟩
    (fun r => (∀ c : Dev nD, Good m c r.2 ∧ Res m c r.2) ∧ r.2.sem = fun _ => 0) :=
  Pipeline.θ_run_regions_kit_dev_sems (pcfgs (F := F)) adm (pdats m) () cellOf_inj EP defs₀ 𝒱₀ L lv m ρ main
    (segs m 𝒱₀ L lv (fun _ => E0 m) () (pdats m) (reg0 m))
    (fun c Q => by
      rewrite [main_chain c, Pipeline.Seg.run_eq_chain,
        show (segs m 𝒱₀ L lv (fun _ => E0 m) () (pdats m) (reg0 m) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      rw [G_eq]; iexact HX)
    (T₀ m) (Tₙ m)
    (fun c => ⟨.rfl, .rfl, .rfl, .rfl, .rfl, .rfl, .rfl, .rfl, .rfl, .rfl, .rfl, reg0_pre m c, reg0_post m c⟩)
    (init m ρ)
    (fun c s => (Good m c s ∧ Res m c s) ∧ s.sem (bc c) = 0)
    (fun c s' => fin_core c m s')
    (fun s h hs => ⟨fun c => (h c).1, sem_eq_zero hs fun c sm hsm => by
      obtain rfl := only_bar sm hsm
      exact (h c).2⟩)

end Cert.KernelIdeal.Mla
-- ==== Proof.Same.lean ====
/-
# The two printed kernels are one program

The kernel over the machine's floats and the kernel over the reals have the same text, so a run of one is a run of the other.
-/
module

public import proofs.«01_k».proof.Defs
public import proofs.«01_k».proof.Proof.Gen.Kernel
public import proofs.«01_k».proof.Proof.Gen.KernelIdeal

@[expose] public section

namespace Cert.Proof

open Idealize.ShloMosaic Idealize.SL.Sem

set_option maxRecDepth 100000 in
set_option maxHeartbeats 40000000 in
/-- The bodies of the two kernel calls are one term. -/
theorem body_same : Cert.Kernel.cc0__body (F := Bits) = Cert.KernelIdeal.cc0__body (F := Bits) := by exact rfl

/-- So are the programs the calls run, -/
theorem defs₀_same : Cert.Kernel.defs₀ (F := Bits) = Cert.KernelIdeal.defs₀ (F := Bits) := by
  unfold Cert.Kernel.defs₀ Cert.KernelIdeal.defs₀
  congr 1
  funext l a
  match l, a with
  | 0, (t, s) =>
    dsimp only
    rw [body_same]

/-- with their pipelines around them, -/
theorem defs_same : Cert.Kernel.defs (F := Bits) = Cert.KernelIdeal.defs (F := Bits) := by
  unfold Cert.Kernel.defs Cert.KernelIdeal.defs
  congr 1
  exact defs₀_same

set_option maxRecDepth 100000 in
set_option maxHeartbeats 40000000 in
/-- and the host programs. -/
theorem main_same : Cert.Kernel.main (F := Bits) = Cert.KernelIdeal.main (F := Bits) := by exact rfl

end Cert.Proof
-- ==== Proof.Words.lean ====
/-
# The host's index words

The device numbers the host code computes before the call: the device's own group of heads, and the two orders in which it lays out the column blocks of its weights.
-/
module

public import proofs.«01_k».proof.Proof.Entry
public import Idealize.ShloMosaic.Lib.Pointwise
public import Idealize.ShloMosaic.Lib.StableHlo.ReadAt
public import Idealize.ShloMosaic.Lib.Tactic.WordOmega

@[expose] public section

noncomputable section

namespace Cert.KernelIdeal.Mla

open Cert.KernelIdeal Cert.KernelIdeal.Gen
open Idealize.ShloMosaic Idealize.ShloMosaic.TcCoe
open scoped BigOperators

variable (m : (ℓ : Loc nD τ sig) → Buf (Elt Ideal) ℓ) (c : Dev nD)

/-- The device's own number. -/
theorem v4_at (i : S_.Idx) : V1 m c main_v4 i = BitVec.ofNat 32 c.val := by
  after_reads_at
  dsimp only [id_eq]
  pointwise
  clear i; revert c; decide

theorem v5_at (i : S_.Idx) : V1 m c main_v5 i = BitVec.ofNat 32 (c.val + 1) := by
  after_reads_at
  dsimp only [id_eq]
  pointwise
  clear i; revert c; decide

theorem c2_at (i : S_.Idx) : V1 m c main_c_2 i = 8#32 := by
  after_reads_at

/-- The number of the next device, the group of heads this device owns. -/
theorem v6_at (i : S_.Idx) : V2 m c main_v6 i = BitVec.ofNat 32 ((c.val + 1) % 8) := by
  unfold V2
  have h5 := v5_at m c
  have h2 := c2_at m c
  generalize V1 m c = W at h5 h2 ⊢
  after_reads_at
  dsimp only [id_eq]
  pointwise
  simp only [h5, h2]
  clear h5 h2 i; revert c; decide

theorem v4_keep : V3 m c main_v4 = V1 m c main_v4 := (V3_of m c main_v4 (by decide)).trans (V2_of m c main_v4 (by decide))
theorem v4_keep5 : V4 m c main_v4 = V1 m c main_v4 := (V4_of m c main_v4 (by decide)).trans (v4_keep m c)

theorem v22_at (i : Fin 8) : V3 m c main_v22 (ix1 i) = IntOp.subi (BitVec.ofNat 32 c.val) (BitVec.ofNat 32 i.val) := by
  have h4 : ∀ j, V2 m c main_v4 j = BitVec.ofNat 32 c.val := fun j => by
    rw [V2_of m c main_v4 (by decide)]; exact v4_at m c j
  unfold V3
  generalize V2 m c = W at h4 ⊢
  after_reads_at
  simp only [h4]
theorem c11_at (i : S_.Idx) : V3 m c main_c_11 i = 8#32 := by
  unfold V3
  generalize V2 m c = W
  after_reads_at

/-- The column block that place `i` of the device's first weight takes: `i` devices back. -/
theorem v23_at (i : Fin 8) : V4 m c main_v23 (ix1 i) = BitVec.ofNat 32 ((c.val + 8 - i.val) % 8) := by
  have h5 := v22_at m c
  have h2 := c11_at m c
  unfold V4
  generalize V3 m c = W at h5 h2 ⊢
  after_reads_at
  dsimp only [id_eq]
  pointwise
  simp only [h5, h2]
  clear h5 h2; revert c i; decide

theorem v27_at (i : Fin 8) : V5 m c main_v27 (ix1 i) = IntOp.addi (IntOp.addi (BitVec.ofNat 32 c.val) 2#32) (BitVec.ofNat 32 i.val) := by
  have h4 : ∀ j, V4 m c main_v4 j = BitVec.ofNat 32 c.val := fun j => by
    rw [v4_keep5 m c]; exact v4_at m c j
  unfold V5
  generalize V4 m c = W at h4 ⊢
  after_reads_at
  simp only [h4]
theorem c13_at (i : S_.Idx) : V5 m c main_c_13 i = 8#32 := by
  unfold V5
  generalize V4 m c = W
  after_reads_at

/-- The column block that place `i` of the device's second weight takes: `i + 2` devices on. -/
theorem v28_at (i : Fin 8) : V6 m c main_v28 (ix1 i) = BitVec.ofNat 32 ((c.val + 2 + i.val) % 8) := by
  have h5 := v27_at m c
  have h2 := c13_at m c
  unfold V6
  generalize V5 m c = W at h5 h2 ⊢
  after_reads_at
  dsimp only [id_eq]
  pointwise
  simp only [h5, h2]
  clear h5 h2; revert c i; decide

end Cert.KernelIdeal.Mla
-- ==== Proof.Pays.lean ====
/-
# The body's values at one index

Over the extended reals each value the body stores, read at one index, as a sum of products of the values read before it.
-/
module

public import proofs.«01_k».proof.Proof.Vals
public import Idealize.ShloMosaic.Lib.Pointwise

@[expose] public section

noncomputable section

namespace Cert.KernelIdeal.Mla

open Cert.KernelIdeal Cert.KernelIdeal.Gen
open Idealize.ShloMosaic Idealize.ShloMosaic.TcCoe
open scoped BigOperators

set_option maxRecDepth 16384

theorem pay2_ap (u w) (s : Fin 512) (n : Fin 128) :
    k0_pay2 (F := Ideal) u w (ix3 0 s n) = ∑ k : Fin 2048, u (ix3 0 s k) * w (ix2 k n) := by
  pointwise [k0_pay2]
theorem pay4_ap (u w) (s : Fin 512) (n : Fin 256) :
    k0_pay4 (F := Ideal) u w (ix3 0 s n) = ∑ k : Fin 128, u (ix3 0 s k) * w (ix2 k n) := by
  pointwise [k0_pay4]
theorem pay11_ap (u) (s : Fin 512) (n : Fin 256) :
    k0_pay11 (F := Ideal) u (ix4 0 0 s n) = u (ix3 0 s n) := by
  pointwise [k0_pay11]
theorem pay35_ap (u v) (s : Fin 512) (n : Fin 256) :
    k0_pay35 (F := Ideal) u v (ix4 0 0 s n) = u (ix3 0 s n) + v (ix4 0 0 s n) := by
  pointwise [k0_pay35]
theorem pay93_ap (u v) (s : Fin 512) (n : Fin 256) :
    k0_pay93 (F := Ideal) u v (ix3 0 s n) = u (ix3 0 s n) + v (ix4 0 0 s n) := by
  pointwise [k0_pay93]
theorem pay14_ap (u) (s : Fin 512) (n : Fin 2048) :
    k0_pay14 (F := Ideal) u (ix3 0 s n) = u (ix3 0 s n) := by
  pointwise [k0_pay14]
theorem pay28_ap (u w) (s : Fin 512) (n : Fin 256) :
    k0_pay28 (F := Ideal) u w (ix3 0 s n) = ∑ k : Fin 2048, u (ix3 0 s k) * w (ix2 k n) := by
  pointwise [k0_pay28]
theorem pay41_ap (u w) (s : Fin 512) (n : Fin 64) :
    k0_pay41 (F := Ideal) u w (ix3 0 s n) = ∑ k : Fin 2048, u (ix3 0 s k) * w (ix2 k n) := by
  pointwise [k0_pay41]
theorem pay42_ap (u w) (s : Fin 512) (n : Fin 32) :
    k0_pay42 (F := Ideal) u w (ix3 0 s n) = ∑ k : Fin 2048, u (ix3 0 s k) * w (ix2 k n) := by
  pointwise [k0_pay42]
theorem pay112_ap (u w) (s : Fin 512) (n : Fin 2048) :
    k0_pay112 (F := Ideal) u w (ix3 0 s n) = ∑ k : Fin 128, u (ix4 0 0 s k) * w (ix3 0 k n) := by
  pointwise [k0_pay112]
theorem pay1_ap (o u w) (s : Fin 512) (n : Fin 2048) :
    k0_pay1 (F := Ideal) o u w (ix3 0 s n) = o (ix3 0 s n) + ∑ k : Fin 128, u (ix4 0 0 s k) * w (ix3 0 k n) := by
  pointwise [k0_pay1]

/-- The scaled scores of one head: the products of the queries with the keys, plain and rotary. -/
def score (q k : Fin 512 → Fin 128 → EReal) (qr kr : Fin 512 → Fin 32 → EReal) (s t : Fin 512) : EReal :=
  (∑ e : Fin 128, q s e * k t e + ∑ e : Fin 32, qr s e * kr t e) * Ideal.ofBits .f32 0x3DA1E89B#32

/-- One head's output: the values weighted by the scores' exponentials over their sum. -/
theorem attn_ap (q k v qr kr) (s : Fin 512) (e : Fin 128) :
    attnPay (F := Ideal) q k v qr kr (ix4 0 0 s e)
      = ∑ t : Fin 512, Ideal.div (Ideal.exp (score (fun s e => q (ix3 0 s e)) (fun s e => k (ix3 0 s e)) (fun s e => qr (ix3 0 s e)) (fun s e => kr (ix3 0 s e)) s t))
          (∑ t' : Fin 512, Ideal.exp (score (fun s e => q (ix3 0 s e)) (fun s e => k (ix3 0 s e)) (fun s e => qr (ix3 0 s e)) (fun s e => kr (ix3 0 s e)) s t'))
          * v (ix3 0 t e) := by
  pointwise [attnPay, k0_pay103, k0_pay104, score]

end Cert.KernelIdeal.Mla
-- ==== Proof.Sums.lean ====
/-
# The kernel's result as sums over the whole arrays

The partial products that go round the ring add up to the whole contractions, and the heads' projections that go round it add up to the whole projection. So each entry of a device's result is a sum over the arrays the devices hold together.
-/
module

public import proofs.«01_k».proof.Proof.Pays
public import Mathlib.Logic.Equiv.Fin.Basic
public import Mathlib.Algebra.BigOperators.Fin

@[expose] public section

noncomputable section

namespace Cert.KernelIdeal.Mla

open Cert.KernelIdeal Cert.KernelIdeal.Gen
open Idealize.ShloMosaic Idealize.ShloMosaic.TcCoe
open scoped BigOperators

set_option maxRecDepth 16384

/-- The arrays the eight devices hold together. -/
structure Arrs where
  x : (⟨3, ![2, 512, 2048]⟩ : Shape).Idx → EReal
  wd : (⟨2, ![2048, 1024]⟩ : Shape).Idx → EReal
  wk : (⟨2, ![1024, 2048]⟩ : Shape).Idx → EReal
  wv : (⟨2, ![1024, 2048]⟩ : Shape).Idx → EReal
  wq : (⟨2, ![2048, 2048]⟩ : Shape).Idx → EReal
  wqr : (⟨2, ![2048, 512]⟩ : Shape).Idx → EReal
  wkr : (⟨2, ![2048, 32]⟩ : Shape).Idx → EReal
  wo : (⟨2, ![2048, 2048]⟩ : Shape).Idx → EReal

/-- The group of heads a device owns: the number of the next device. -/
def own (c : Dev nD) : Fin 8 := ⟨(c.val + 1) % 8, Nat.mod_lt _ (by decide)⟩

/-- Every device's operands of the call are its parts of the arrays. -/
structure Parts (I : Dev nD → Inp Ideal) (A : Arrs) : Prop where
  x : ∀ d b s k, (I d).x (ix3 b s k) = A.x (ix3 b s k)
  wd : ∀ (d : Dev nD) k (n : Fin 128), (I d).wd (ix2 k n) = A.wd (ix2 k ⟨d.val * 128 + n.val, by have h : d.val < 8 := d.isLt; omega⟩)
  wk : ∀ (d : Dev nD) (n : Fin 128) (t : Fin 8) (j : Fin 256), (I d).wk (ix2 n ⟨t.val * 256 + j.val, by omega⟩)
    = A.wk (ix2 ⟨d.val * 128 + n.val, by have h : d.val < 8 := d.isLt; omega⟩ ⟨(d.val + 8 - t.val) % 8 * 256 + j.val, by omega⟩)
  wv : ∀ (d : Dev nD) (n : Fin 128) (t : Fin 8) (j : Fin 256), (I d).wv (ix2 n ⟨t.val * 256 + j.val, by omega⟩)
    = A.wv (ix2 ⟨d.val * 128 + n.val, by have h : d.val < 8 := d.isLt; omega⟩ ⟨(d.val + 2 + t.val) % 8 * 256 + j.val, by omega⟩)
  wq : ∀ (d : Dev nD) k (j : Fin 256), (I d).wq (ix2 k j) = A.wq (ix2 k ⟨(own d).val * 256 + j.val, by have := (own d).isLt; omega⟩)
  wqr : ∀ (d : Dev nD) k (j : Fin 64), (I d).wqr (ix2 k j) = A.wqr (ix2 k ⟨(own d).val * 64 + j.val, by have := (own d).isLt; omega⟩)
  wkr : ∀ (d : Dev nD) k j, (I d).wkr (ix2 k j) = A.wkr (ix2 k j)
  wo : ∀ (d : Dev nD) k j, (I d).wo (ix2 k j) = A.wo (ix2 k j)

namespace Arrs
variable (A : Arrs)
/-- The latent. -/
def c (b : Fin 2) (s : Fin 512) (n : Fin 1024) : EReal := ∑ k : Fin 2048, A.x (ix3 b s k) * A.wd (ix2 k n)
/-- A contraction of the latent with a weight. -/
def kv (w : (⟨2, ![1024, 2048]⟩ : Shape).Idx → EReal) (b : Fin 2) (s : Fin 512) (j : Fin 2048) : EReal := ∑ n : Fin 1024, A.c b s n * w (ix2 n j)
/-- A contraction of the activations with a weight. -/
def q {a : ℕ} (w : (⟨2, ![2048, a]⟩ : Shape).Idx → EReal) (b : Fin 2) (s : Fin 512) (j : Fin a) : EReal := ∑ k : Fin 2048, A.x (ix3 b s k) * w (ix2 k j)
/-- Column `e` of head `h`, of its 128 and of its 32 columns. -/
abbrev at128 (h : Fin 16) (e : Fin 128) : Fin 2048 := ⟨h.val * 128 + e.val, by omega⟩
abbrev at32 (h : Fin 16) (e : Fin 32) : Fin 512 := ⟨h.val * 32 + e.val, by omega⟩
/-- The scores of head `h`. -/
def sc (b : Fin 2) (h : Fin 16) (s t : Fin 512) : EReal :=
  score (fun s e => A.q A.wq b s (at128 h e)) (fun t e => A.kv A.wk b t (at128 h e)) (fun s e => A.q A.wqr b s (at32 h e)) (fun t e => A.q A.wkr b t e) s t
/-- The output of head `h`. -/
def o (b : Fin 2) (h : Fin 16) (s : Fin 512) (e : Fin 128) : EReal :=
  ∑ t : Fin 512, Ideal.div (Ideal.exp (A.sc b h s t)) (∑ t' : Fin 512, Ideal.exp (A.sc b h s t')) * A.kv A.wv b t (at128 h e)
/-- The projection of head `h`'s output. -/
def p (b : Fin 2) (s : Fin 512) (j : Fin 2048) (h : Fin 16) : EReal := ∑ e : Fin 128, A.o b h s e * A.wo (ix2 (at128 h e) j)
end Arrs

/-! ## Sums -/

/-- A sum over `a * n` places, block by block. -/
theorem sum_blocks {a n : ℕ} (f : Fin (a * n) → EReal) :
    ∑ i, f i = ∑ u : Fin a, ∑ v : Fin n, f ⟨u.val * n + v.val, by
      have h := u.isLt; have h' := v.isLt
      calc u.val * n + v.val < u.val * n + n := by omega
        _ = (u.val + 1) * n := by ring
        _ ≤ a * n := Nat.mul_le_mul_right _ h⟩ := by
  rw [← finProdFinEquiv.sum_comp, Fintype.sum_prod_type]
  refine Finset.sum_congr rfl fun u _ => Finset.sum_congr rfl fun v _ => congrArg f (Fin.ext ?_)
  show v.val + n * u.val = _
  ring

/-- What has been added up when it reaches a device: the parts of the devices it has passed. -/
theorem ring_sum (σ : Dev nD → Dev nD) (f : ℕ → Dev nD → EReal) (g : Dev nD → ℕ → EReal) (B : ℕ → Dev nD → ℕ)
    (h0 : ∀ d, f 0 d = g d (B 0 d)) (hs : ∀ s < 7, ∀ d, f (s + 1) d = g d (B (s + 1) d) + f s (σ d))
    (hB : ∀ s < 7, ∀ d, B (s + 1) d = B s (σ d)) : ∀ s < 8, ∀ d, f s d = ∑ i ∈ Finset.range (s + 1), g (σ^[i] d) (B s d) := by
  intro s
  induction s with
  | zero => intro _ d; rw [h0, Finset.sum_range_one]; rfl
  | succ s ih =>
    intro h d
    rw [hs s (by omega), ih (by omega), Finset.sum_range_succ' _ (s + 1), ← hB s (by omega), add_comm]
    rfl

theorem lft_bij : ∀ d : Dev nD, Function.Bijective fun i : Fin 8 => lft^[i.val] d := by decide
theorem rgt_bij : ∀ d : Dev nD, Function.Bijective fun i : Fin 8 => rgt^[i.val] d := by decide

/-- Once round the ring a sum has passed every device. -/
theorem round_sum (σ : Dev nD → Dev nD) (h : ∀ d : Dev nD, Function.Bijective fun i : Fin 8 => σ^[i.val] d) (d : Dev nD) (G : Dev nD → EReal) :
    ∑ i ∈ Finset.range 8, G (σ^[i] d) = ∑ e : Fin 8, G e := by
  rw [Finset.sum_range]
  exact (Equiv.ofBijective _ (h d)).sum_comp G

/-! ## Rectangles and rows -/

theorem rX_at (b : Fin 2) (s : Fin 512) (k : Fin 2048) : (rX b).emb (ix3 0 s k) = ix3 b s k := by
  funext a; refine Fin.ext ?_
  match a with
  | ⟨0, _⟩ => rw [Rect.emb_apply]; simp [Rect.unit]
  | ⟨1, _⟩ => rw [Rect.emb_apply]; simp [Rect.unit]
  | ⟨2, _⟩ => rw [Rect.emb_apply]; simp [Rect.unit]

/-- A rectangle of a matrix at one index. -/
theorem unit2_at {R C r k : ℕ} {off : Fin 2 → ℕ} {h} (i : Fin r) (j : Fin k) (i' : Fin R) (j' : Fin C) (hi : i'.val = off 0 + i.val) (hj : j'.val = off 1 + j.val) :
    (Rect.unit (s := (⟨2, ![R, C]⟩ : Shape)) off (⟨2, ![r, k]⟩ : Shape).size h).emb (ix2 i j) = ix2 i' j' := by
  funext a; refine Fin.ext ?_
  match a with
  | ⟨0, _⟩ => rw [Rect.emb_apply]; simp [Rect.unit, hi]
  | ⟨1, _⟩ => rw [Rect.emb_apply]; simp [Rect.unit, hj]

theorem off1_at : ∀ (d : Dev nD) (t : Fin 8), k0_off1 d (BitVec.ofNat 32 t.val) 0 = (own (lft^[t.val] d)).val * 256 ∧ k0_off1 d (BitVec.ofNat 32 t.val) 1 = 0 := by decide
theorem off2_at : ∀ (d : Dev nD) (t : Fin 8), k0_off2 d (BitVec.ofNat 32 t.val) 0 = (own (rgt^[t.val] d)).val * 256 + 128 ∧ k0_off2 d (BitVec.ofNat 32 t.val) 1 = 0 := by decide

end Cert.KernelIdeal.Mla
-- ==== Proof.Host.lean ====
/-
# The call's operands

Each operand of the call, read at one index, is an entry of one of the program's arguments.
-/
module

public import proofs.«01_k».proof.Proof.Words
public import proofs.«01_k».proof.Proof.Sums
public import Idealize.ShloMosaic.Lib.DynamicIndex

@[expose] public section

noncomputable section

namespace Cert.KernelIdeal.Mla

open Cert.KernelIdeal Cert.KernelIdeal.Gen
open Idealize.ShloMosaic Idealize.ShloMosaic.TcCoe
open scoped BigOperators

variable (m : (ℓ : Loc nD τ sig) → Buf (Elt Ideal) ℓ) (c : Dev nD)

/-- A number below 8, wrapped as a take wraps its index, lies inside the axis. -/
theorem wrap_in' : ∀ e : Fin 8, Finset.fold IntOp.andi 1#1 (fun _ : Fin 1 => IntOp.andi
      (IntOp.cmpi .sge (Scalar.select (IntOp.cmpi .slt (BitVec.ofNat 32 e.val) 0#32) (IntOp.addi (BitVec.ofNat 32 e.val) 8#32) (BitVec.ofNat 32 e.val)) 0#32)
      (IntOp.cmpi .sle (Scalar.select (IntOp.cmpi .slt (BitVec.ofNat 32 e.val) 0#32) (IntOp.addi (BitVec.ofNat 32 e.val) 8#32) (BitVec.ofNat 32 e.val)) 7#32)) Finset.univ = 1#1 := by
  decide
/-- The same of a number with its bound. -/
theorem wrap_in (e : ℕ) (h : e < 8) : Finset.fold IntOp.andi 1#1 (fun _ : Fin 1 => IntOp.andi
      (IntOp.cmpi .sge (Scalar.select (IntOp.cmpi .slt (BitVec.ofNat 32 e) 0#32) (IntOp.addi (BitVec.ofNat 32 e) 8#32) (BitVec.ofNat 32 e)) 0#32)
      (IntOp.cmpi .sle (Scalar.select (IntOp.cmpi .slt (BitVec.ofNat 32 e) 0#32) (IntOp.addi (BitVec.ofNat 32 e) 8#32) (BitVec.ofNat 32 e)) 7#32)) Finset.univ = 1#1 := wrap_in' ⟨e, h⟩
/-- A number below 8, wrapped and clamped as a take does, is itself. -/
theorem wrap_at' : ∀ e : Fin 8, min (BitVec.toInt (Scalar.select (IntOp.cmpi .slt (BitVec.ofNat 32 e.val) 0#32) (IntOp.addi (BitVec.ofNat 32 e.val) 8#32) (BitVec.ofNat 32 e.val))).toNat 7 = e.val := by
  decide
/-- The same of a number with its bound. -/
theorem wrap_at (e : ℕ) (h : e < 8) : min (BitVec.toInt (Scalar.select (IntOp.cmpi .slt (BitVec.ofNat 32 e) 0#32) (IntOp.addi (BitVec.ofNat 32 e) 8#32) (BitVec.ofNat 32 e))).toNat 7 = e := wrap_at' ⟨e, h⟩

/-- The take along the middle axis, read at an index: the entry at the index word, clamped. -/
theorem take_ap {α : Type} (x : S128x8x256.Idx → α) (idx : IVec S8x1 32) (n : Fin 128) (t : Fin 8) (j : Fin 256) :
    Host.gather gather_S128x8x256_S8x1_S128x8x256_02_1_n_n_1_1_1281256 x idx (ix3 n t j)
      = x (ix3 n ⟨min (idx (ix2 t 0)).toInt.toNat 7, by omega⟩ j) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have hs : ∀ h, gather_S128x8x256_S8x1_S128x8x256_02_1_n_n_1_1_1281256.siIdx (ix3 n t j) ⟨0, h⟩ = ix2 t 0 := fun h => by
    funext b; refine Fin.ext ?_
    match b with
    | ⟨0, _⟩ => rfl
    | ⟨1, _⟩ => rfl
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start GatherDims.offCoord
    rw [dif_neg (show (0 : Fin 3) ∉ gather_S128x8x256_S8x1_S128x8x256_02_1_n_n_1_1_1281256.startIndexMap by decide), dif_pos (show (0 : Fin 3) ∈ gather_S128x8x256_S8x1_S128x8x256_02_1_n_n_1_1_1281256.sKept by decide)]
    exact Nat.zero_add _
  · unfold GatherDims.start GatherDims.offCoord
    rw [dif_pos (show (1 : Fin 3) ∈ gather_S128x8x256_S8x1_S128x8x256_02_1_n_n_1_1_1281256.startIndexMap by decide), dif_neg (show (1 : Fin 3) ∉ gather_S128x8x256_S8x1_S128x8x256_02_1_n_n_1_1_1281256.sKept by decide)]
    exact congrArg (fun q => min (idx q).toInt.toNat 7) (hs _)
  · unfold GatherDims.start GatherDims.offCoord
    rw [dif_neg (show (2 : Fin 3) ∉ gather_S128x8x256_S8x1_S128x8x256_02_1_n_n_1_1_1281256.startIndexMap by decide), dif_pos (show (2 : Fin 3) ∈ gather_S128x8x256_S8x1_S128x8x256_02_1_n_n_1_1_1281256.sKept by decide)]
    exact Nat.zero_add _

theorem dyn_v12 {α : Type} (x : S2048x2048.Idx → α) (start : Fin 2 → Int) (o : ℕ) (h0 : start 0 = (0 : ℕ)) (h1 : start 1 = o) (ho : o + 256 ≤ 2048)
    (h) (k : Fin 2048) (j : Fin 256) : Host.dynamicSlice S2048x256 x start h (ix2 k j) = x (ix2 k ⟨o + j.val, by omega⟩) := by
  have hoff : S2048x2048.Slices ![0, o] S2048x256 := ⟨rfl, fun a => by
    fin_cases a
    · show 0 + 2048 ≤ 2048; omega
    · show o + 256 ≤ 2048; omega⟩
  rw [Host.dynamicSlice_eq_extractStridedSlice S2048x256 x start ![0, o] h hoff (fun a => by
    fin_cases a
    · exact h0
    · exact h1)]
  pointwise
theorem v12_read (k : Fin 2048) (j : Fin 256) :
    V3 m c main_v12 (ix2 k j) = V2 m c main_arg4 (ix2 k ⟨(own c).val * 256 + j.val, by have := (own c).isLt; omega⟩) := by
  have h6 := v6_at m c
  unfold V3
  generalize V2 m c = W at h6 ⊢
  have hv : ∀ i, StableHlo.upto hostOps0_2 W 8 (Proc.devRef .tc main_v10) i = BitVec.ofNat 32 ((own c).val * 256) := fun i => by
    after_reads_at
    simp only [h6]
    clear h6 i; revert c; decide
  have hz : ∀ i, StableHlo.upto hostOps0_2 W 8 (Proc.devRef .tc main_c_6) i = 0#32 := fun i => by after_reads_at
  have hl := (own c).isLt
  after_reads_simp
  refine Eq.trans (by exact rfl) (dyn_v12 _ _ ((own c).val * 256) ?_ ?_ (by omega) sliceFits_S2048x2048_S2048x256 k j)
  · exact (congrArg BitVec.toInt (hz _)).trans (by decide)
  · exact (congrArg BitVec.toInt (hv _)).trans (toInt_ofNat_of_lt (by omega))

theorem dyn_v18 {α : Type} (x : S2048x512.Idx → α) (start : Fin 2 → Int) (o : ℕ) (h0 : start 0 = (0 : ℕ)) (h1 : start 1 = o) (ho : o + 64 ≤ 512)
    (h) (k : Fin 2048) (j : Fin 64) : Host.dynamicSlice S2048x64 x start h (ix2 k j) = x (ix2 k ⟨o + j.val, by omega⟩) := by
  have hoff : S2048x512.Slices ![0, o] S2048x64 := ⟨rfl, fun a => by
    fin_cases a
    · show 0 + 2048 ≤ 2048; omega
    · show o + 64 ≤ 512; omega⟩
  rw [Host.dynamicSlice_eq_extractStridedSlice S2048x64 x start ![0, o] h hoff (fun a => by
    fin_cases a
    · exact h0
    · exact h1)]
  pointwise
theorem v18_read (k : Fin 2048) (j : Fin 64) :
    V3 m c main_v18 (ix2 k j) = V2 m c main_arg5 (ix2 k ⟨(own c).val * 64 + j.val, by have := (own c).isLt; omega⟩) := by
  have h6 := v6_at m c
  unfold V3
  generalize V2 m c = W at h6 ⊢
  have hv : ∀ i, StableHlo.upto hostOps0_2 W 18 (Proc.devRef .tc main_v16) i = BitVec.ofNat 32 ((own c).val * 64) := fun i => by
    after_reads_at
    simp only [h6]
    clear h6 i; revert c; decide
  have hz : ∀ i, StableHlo.upto hostOps0_2 W 18 (Proc.devRef .tc main_c_10) i = 0#32 := fun i => by after_reads_at
  have hl := (own c).isLt
  after_reads_simp
  refine Eq.trans (by exact rfl) (dyn_v18 _ _ ((own c).val * 64) ?_ ?_ (by omega) sliceFits_S2048x512_S2048x64 k j)
  · exact (congrArg BitVec.toInt (hz _)).trans (by decide)
  · exact (congrArg BitVec.toInt (hv _)).trans (toInt_ofNat_of_lt (by omega))

theorem v30_read (n : Fin 128) (t : Fin 8) (j : Fin 256) :
    V8 m c main_v30 (ix3 n t j) = V7 m c main_v29 (ix3 n ⟨(c.val + 8 - (t).val) % 8, Nat.mod_lt _ (by decide)⟩ j) := by
  have h6 : ∀ i : Fin 8, V7 m c main_v23 (ix1 i) = BitVec.ofNat 32 ((c.val + 8 - (i).val) % 8) := fun i => by
    rw [V7_of m c main_v23 (by decide), V6_of m c main_v23 (by decide), V5_of m c main_v23 (by decide)]; exact v23_at m c i
  unfold V8
  generalize V7 m c = W at h6 ⊢
  after_reads_at
  rw [take_ap]
  pointwise
  simp only [h6]
  have hlt : (c.val + 8 - (t).val) % 8 < 8 := Nat.mod_lt _ (by decide)
  rw [wrap_in _ hlt]
  refine (if_pos rfl).trans ?_
  exact congrArg _ (congrArg (fun q => ix3 n q j) (Fin.ext (wrap_at _ hlt)))

theorem v33_read (n : Fin 128) (t : Fin 8) (j : Fin 256) :
    V10 m c main_v33 (ix3 n t j) = V9 m c main_v32 (ix3 n ⟨(c.val + 2 + (t).val) % 8, Nat.mod_lt _ (by decide)⟩ j) := by
  have h6 : ∀ i : Fin 8, V9 m c main_v28 (ix1 i) = BitVec.ofNat 32 ((c.val + 2 + (i).val) % 8) := fun i => by
    rw [V9_of m c main_v28 (by decide), V8_of m c main_v28 (by decide), V7_of m c main_v28 (by decide)]; exact v28_at m c i
  unfold V10
  generalize V9 m c = W at h6 ⊢
  after_reads_at
  rw [take_ap]
  pointwise
  simp only [h6]
  have hlt : (c.val + 2 + (t).val) % 8 < 8 := Nat.mod_lt _ (by decide)
  rw [wrap_in _ hlt]
  refine (if_pos rfl).trans ?_
  exact congrArg _ (congrArg (fun q => ix3 n q j) (Fin.ext (wrap_at _ hlt)))

theorem v29_read (n : Fin 128) (t : Fin 8) (j : Fin 256) :
    V7 m c main_v29 (ix3 n t j) = V6 m c main_arg2 (ix2 n ⟨t.val * 256 + j.val, by omega⟩) := by
  unfold V7
  generalize V6 m c = W
  after_reads_at
theorem v31_read (n : Fin 128) (t : Fin 8) (j : Fin 256) :
    V9 m c main_v31 (ix2 n ⟨t.val * 256 + j.val, by omega⟩) = V8 m c main_v30 (ix3 n t j) := by
  unfold V9
  generalize V8 m c = W
  after_reads_at
theorem v32_read (n : Fin 128) (t : Fin 8) (j : Fin 256) :
    V9 m c main_v32 (ix3 n t j) = V8 m c main_arg3 (ix2 n ⟨t.val * 256 + j.val, by omega⟩) := by
  unfold V9
  generalize V8 m c = W
  after_reads_at
theorem v34_read (n : Fin 128) (t : Fin 8) (j : Fin 256) :
    V11 m c main_v34 (ix2 n ⟨t.val * 256 + j.val, by omega⟩) = V10 m c main_v33 (ix3 n t j) := by
  unfold V11
  generalize V10 m c = W
  after_reads_at
theorem v19_read (k : Fin 2048) (j : Fin 32) : V3 m c main_v19 (ix2 k j) = V2 m c main_arg6 (ix2 k j) := by
  unfold V3
  generalize V2 m c = W
  after_reads_at
theorem v35_read (k : Fin 2048) (j : Fin 2048) : V11 m c main_v35 (ix2 k j) = V10 m c main_arg7 (ix2 k j) := by
  unfold V11
  generalize V10 m c = W
  after_reads_at

theorem arg0_V10 : V10 m c main_arg0 = m ((c.tc : Thread nD τ).loc main_arg0) := by
  rw [V10_of m c main_arg0 (by decide), V9_of m c main_arg0 (by decide), V8_of m c main_arg0 (by decide), V7_of m c main_arg0 (by decide), V6_of m c main_arg0 (by decide), V5_of m c main_arg0 (by decide), V4_of m c main_arg0 (by decide), V3_of m c main_arg0 (by decide), V2_of m c main_arg0 (by decide), V1_of m c main_arg0 (by decide)]
theorem arg1_V10 : V10 m c main_arg1 = m ((c.tc : Thread nD τ).loc main_arg1) := by
  rw [V10_of m c main_arg1 (by decide), V9_of m c main_arg1 (by decide), V8_of m c main_arg1 (by decide), V7_of m c main_arg1 (by decide), V6_of m c main_arg1 (by decide), V5_of m c main_arg1 (by decide), V4_of m c main_arg1 (by decide), V3_of m c main_arg1 (by decide), V2_of m c main_arg1 (by decide), V1_of m c main_arg1 (by decide)]
theorem arg2_V6 : V6 m c main_arg2 = m ((c.tc : Thread nD τ).loc main_arg2) := by
  rw [V6_of m c main_arg2 (by decide), V5_of m c main_arg2 (by decide), V4_of m c main_arg2 (by decide), V3_of m c main_arg2 (by decide), V2_of m c main_arg2 (by decide), V1_of m c main_arg2 (by decide)]
theorem arg3_V8 : V8 m c main_arg3 = m ((c.tc : Thread nD τ).loc main_arg3) := by
  rw [V8_of m c main_arg3 (by decide), V7_of m c main_arg3 (by decide), V6_of m c main_arg3 (by decide), V5_of m c main_arg3 (by decide), V4_of m c main_arg3 (by decide), V3_of m c main_arg3 (by decide), V2_of m c main_arg3 (by decide), V1_of m c main_arg3 (by decide)]
theorem arg4_V2 : V2 m c main_arg4 = m ((c.tc : Thread nD τ).loc main_arg4) := by
  rw [V2_of m c main_arg4 (by decide), V1_of m c main_arg4 (by decide)]
theorem arg5_V2 : V2 m c main_arg5 = m ((c.tc : Thread nD τ).loc main_arg5) := by
  rw [V2_of m c main_arg5 (by decide), V1_of m c main_arg5 (by decide)]
theorem arg6_V2 : V2 m c main_arg6 = m ((c.tc : Thread nD τ).loc main_arg6) := by
  rw [V2_of m c main_arg6 (by decide), V1_of m c main_arg6 (by decide)]
theorem arg7_V10 : V10 m c main_arg7 = m ((c.tc : Thread nD τ).loc main_arg7) := by
  rw [V10_of m c main_arg7 (by decide), V9_of m c main_arg7 (by decide), V8_of m c main_arg7 (by decide), V7_of m c main_arg7 (by decide), V6_of m c main_arg7 (by decide), V5_of m c main_arg7 (by decide), V4_of m c main_arg7 (by decide), V3_of m c main_arg7 (by decide), V2_of m c main_arg7 (by decide), V1_of m c main_arg7 (by decide)]

theorem I_x : (Iof m c).x = m ((c.tc : Thread nD τ).loc main_arg0) := (V11_of m c main_arg0 (by decide)).trans (arg0_V10 m c)
theorem I_wd : (Iof m c).wd = m ((c.tc : Thread nD τ).loc main_arg1) := (V11_of m c main_arg1 (by decide)).trans (arg1_V10 m c)
/-- The queries' weight: the columns of the device's own heads. -/
theorem I_wq (k : Fin 2048) (j : Fin 256) : (Iof m c).wq (ix2 k j) = m ((c.tc : Thread nD τ).loc main_arg4) (ix2 k ⟨(own c).val * 256 + j.val, by have := (own c).isLt; omega⟩) := by
  show V11 m c main_v12 _ = _
  rw [V11_of m c main_v12 (by decide), V10_of m c main_v12 (by decide), V9_of m c main_v12 (by decide), V8_of m c main_v12 (by decide), V7_of m c main_v12 (by decide), V6_of m c main_v12 (by decide), V5_of m c main_v12 (by decide), V4_of m c main_v12 (by decide)]
  rw [v12_read, arg4_V2]
theorem I_wqr (k : Fin 2048) (j : Fin 64) : (Iof m c).wqr (ix2 k j) = m ((c.tc : Thread nD τ).loc main_arg5) (ix2 k ⟨(own c).val * 64 + j.val, by have := (own c).isLt; omega⟩) := by
  show V11 m c main_v18 _ = _
  rw [V11_of m c main_v18 (by decide), V10_of m c main_v18 (by decide), V9_of m c main_v18 (by decide), V8_of m c main_v18 (by decide), V7_of m c main_v18 (by decide), V6_of m c main_v18 (by decide), V5_of m c main_v18 (by decide), V4_of m c main_v18 (by decide)]
  rw [v18_read, arg5_V2]
theorem I_wkr (k : Fin 2048) (j : Fin 32) : (Iof m c).wkr (ix2 k j) = m ((c.tc : Thread nD τ).loc main_arg6) (ix2 k j) := by
  show V11 m c main_v19 _ = _
  rw [V11_of m c main_v19 (by decide), V10_of m c main_v19 (by decide), V9_of m c main_v19 (by decide), V8_of m c main_v19 (by decide), V7_of m c main_v19 (by decide), V6_of m c main_v19 (by decide), V5_of m c main_v19 (by decide), V4_of m c main_v19 (by decide)]
  rw [v19_read, arg6_V2]
theorem I_wo (k j : Fin 2048) : (Iof m c).wo (ix2 k j) = m ((c.tc : Thread nD τ).loc main_arg7) (ix2 k j) := by
  show V11 m c main_v35 _ = _
  rw [v35_read, arg7_V10]
/-- The keys' weight: column block `t` is that of the device `t` places back. -/
theorem I_wk (n : Fin 128) (t : Fin 8) (j : Fin 256) : (Iof m c).wk (ix2 n ⟨t.val * 256 + j.val, by omega⟩)
    = m ((c.tc : Thread nD τ).loc main_arg2) (ix2 n ⟨(c.val + 8 - t.val) % 8 * 256 + j.val, by omega⟩) := by
  show V11 m c main_v31 _ = _
  rw [V11_of m c main_v31 (by decide), V10_of m c main_v31 (by decide)]
  rw [v31_read, v30_read, v29_read, arg2_V6]
/-- The values' weight: column block `t` is that of the device `t + 2` places on. -/
theorem I_wv (n : Fin 128) (t : Fin 8) (j : Fin 256) : (Iof m c).wv (ix2 n ⟨t.val * 256 + j.val, by omega⟩)
    = m ((c.tc : Thread nD τ).loc main_arg3) (ix2 n ⟨(c.val + 2 + t.val) % 8 * 256 + j.val, by omega⟩) := by
  show V11 m c main_v34 _ = _
  rw [v34_read, v33_read, v32_read, arg3_V8]

end Cert.KernelIdeal.Mla
-- ==== Proof.Total.lean ====
/-
# The kernel's result

Each entry of a device's result is the sum, over the sixteen heads, of the projections of the heads' outputs.
-/
module

public import proofs.«01_k».proof.Proof.Sums

@[expose] public section

noncomputable section

namespace Cert.KernelIdeal.Mla

open Cert.KernelIdeal Cert.KernelIdeal.Gen
open Idealize.ShloMosaic Idealize.ShloMosaic.TcCoe
open scoped BigOperators

set_option maxRecDepth 16384

variable {I : Dev nD → Inp Ideal} {A : Arrs} (P : Parts I A)
include P

theorem cW_at (d : Dev nD) (b : Fin 2) (s : Fin 512) (n : Fin 128) :
    cW I d b (ix3 0 s n) = A.c b s ⟨d.val * 128 + n.val, by have h : d.val < 8 := d.isLt; omega⟩ := by
  refine (pay2_ap _ _ s n).trans (Finset.sum_congr rfl fun k _ => congrArg₂ (· * ·) ?_ ?_)
  · exact (congrArg (I d).x (rX_at b s k)).trans (P.x d b s k)
  · exact (congrArg (I d).wd (unit2_at k n k n (Nat.zero_add _).symm (Nat.zero_add _).symm)).trans (P.wd d k n)

/-- The part of a contraction of the latent that device `d` computes, at column block `B`. -/
def part (A : Arrs) (w : (⟨2, ![1024, 2048]⟩ : Shape).Idx → EReal) (b : Fin 2) (s : Fin 512) (j : Fin 256) (d : Dev nD) (B : ℕ) : EReal :=
  ∑ n : Fin 128, A.c b s ⟨d.val * 128 + n.val, by have h : d.val < 8 := d.isLt; omega⟩
    * w (ix2 ⟨d.val * 128 + n.val, by have h : d.val < 8 := d.isLt; omega⟩ ⟨B % 8 * 256 + j.val, by omega⟩)

omit P in
/-- The parts of all devices at one block are the whole contraction. -/
theorem part_sum (w) (b : Fin 2) (s : Fin 512) (j : Fin 256) (B : Fin 8) :
    ∑ e : Dev nD, part A w b s j e B.val = A.kv w b s ⟨B.val * 256 + j.val, by omega⟩ := by
  unfold Arrs.kv
  rw [sum_blocks (a := 8) (n := 128)]
  unfold part
  refine Finset.sum_congr rfl fun e _ => Finset.sum_congr rfl fun n _ => congrArg₂ (· * ·) rfl (congrArg w (congrArg (ix2 _) (Fin.ext ?_)))
  show B.val % 8 * 256 + j.val = B.val * 256 + j.val
  omega

theorem kP_at (t : Fin 8) (d : Dev nD) (b : Fin 2) (s : Fin 512) (j : Fin 256) :
    kP I t.val d b (ix3 0 s j) = part A A.wk b s j d (d.val + 8 - t.val) := by
  refine (pay4_ap _ _ s j).trans (Finset.sum_congr rfl fun n _ => congrArg₂ (· * ·) (cW_at P d b s n) ?_)
  refine (congrArg (I d).wk (unit2_at n j n ⟨t.val * 256 + j.val, by omega⟩ (Nat.zero_add _).symm ?_)).trans (P.wk d n t j)
  show t.val * 256 + j.val = 256 * (t.val % 8) + j.val
  omega
theorem vP_at (t : Fin 8) (d : Dev nD) (b : Fin 2) (s : Fin 512) (j : Fin 256) :
    vP I t.val d b (ix3 0 s j) = part A A.wv b s j d (d.val + 2 + t.val) := by
  refine (pay4_ap _ _ s j).trans (Finset.sum_congr rfl fun n _ => congrArg₂ (· * ·) (cW_at P d b s n) ?_)
  refine (congrArg (I d).wv (unit2_at n j n ⟨t.val * 256 + j.val, by omega⟩ (Nat.zero_add _).symm ?_)).trans (P.wv d n t j)
  show t.val * 256 + j.val = 256 * (t.val % 8) + j.val
  omega

omit P in
theorem lft_val : ∀ d : Dev nD, (lft d).val = (d.val + 7) % 8 := by decide
omit P in
theorem rgt_val : ∀ d : Dev nD, (rgt d).val = (d.val + 1) % 8 := by decide
omit P in
theorem part_mod (w) (b : Fin 2) (s : Fin 512) (j : Fin 256) (d : Dev nD) (B B' : ℕ) (h : B % 8 = B' % 8) : part A w b s j d B = part A w b s j d B' := by
  unfold part
  simp only [h]

theorem KS_at (b : Fin 2) (r : Fin 512) (j : Fin 256) : ∀ s < 8, ∀ d : Dev nD,
    (KS I s d b (ix4 0 0 r j) : EReal) = ∑ i ∈ Finset.range (s + 1), part A A.wk b r j (lft^[i] d) ((d.val + 8 - s) % 8) := by
  refine ring_sum lft (fun s d => KS I s d b (ix4 0 0 r j)) (part A A.wk b r j) (fun s d => (d.val + 8 - s) % 8) ?_ ?_ ?_
  · intro d
    refine (pay11_ap _ r j).trans ((kP_at P 0 d b r j).trans (part_mod _ b r j d _ _ ?_))
    exact (Nat.mod_mod _ _).symm
  · intro s hs d
    refine (pay35_ap _ _ r j).trans (congrArg₂ (· + ·) ((kP_at P ⟨s + 1, by omega⟩ d b r j).trans (part_mod _ b r j d _ _ ?_)) rfl)
    exact (Nat.mod_mod _ _).symm
  · intro s hs d
    have h : d.val < 8 := d.isLt
    show (d.val + 8 - (s + 1)) % 8 = ((lft d).val + 8 - s) % 8
    rw [lft_val]; omega
theorem VS_at (b : Fin 2) (r : Fin 512) (j : Fin 256) : ∀ s < 8, ∀ d : Dev nD,
    (VS I s d b (ix4 0 0 r j) : EReal) = ∑ i ∈ Finset.range (s + 1), part A A.wv b r j (rgt^[i] d) ((d.val + 2 + s) % 8) := by
  refine ring_sum rgt (fun s d => VS I s d b (ix4 0 0 r j)) (part A A.wv b r j) (fun s d => (d.val + 2 + s) % 8) ?_ ?_ ?_
  · intro d
    refine (pay11_ap _ r j).trans ((vP_at P 0 d b r j).trans (part_mod _ b r j d _ _ ?_))
    exact (Nat.mod_mod _ _).symm
  · intro s hs d
    refine (pay35_ap _ _ r j).trans (congrArg₂ (· + ·) ((vP_at P ⟨s + 1, by omega⟩ d b r j).trans (part_mod _ b r j d _ _ ?_)) rfl)
    exact (Nat.mod_mod _ _).symm
  · intro s hs d
    have h : d.val < 8 := d.isLt
    show (d.val + 2 + (s + 1)) % 8 = ((rgt d).val + 2 + s) % 8
    rw [rgt_val]; omega

omit P in
theorem own_val (d : Dev nD) : (own d).val = (d.val + 1) % 8 := rfl

/-- A device's keys: the whole contraction, at the columns of its own heads. -/
theorem KF_at (d : Dev nD) (b : Fin 2) (s : Fin 512) (j : Fin 256) :
    KF I d b (ix3 0 s j) = A.kv A.wk b s ⟨(own d).val * 256 + j.val, by have h : (own d).val < 8 := (own d).isLt; omega⟩ := by
  have h : d.val < 8 := d.isLt
  refine ((pay93_ap _ _ s j).trans (pay35_ap (kP I 7 d b) (KS I 6 (lft d) b) s j).symm).trans ?_
  refine (KS_at P b s j 7 (by decide) d).trans ?_
  rw [round_sum lft lft_bij d (fun e => part A A.wk b s j e ((d.val + 8 - 7) % 8))]
  exact part_sum A.wk b s j (own d)
theorem VF_at (d : Dev nD) (b : Fin 2) (s : Fin 512) (j : Fin 256) :
    VF I d b (ix3 0 s j) = A.kv A.wv b s ⟨(own d).val * 256 + j.val, by have h : (own d).val < 8 := (own d).isLt; omega⟩ := by
  have h : d.val < 8 := d.isLt
  refine ((pay93_ap _ _ s j).trans (pay35_ap (vP I 7 d b) (VS I 6 (rgt d) b) s j).symm).trans ?_
  refine (VS_at P b s j 7 (by decide) d).trans ?_
  rw [round_sum rgt rgt_bij d (fun e => part A A.wv b s j e ((d.val + 2 + 7) % 8)),
    show (d.val + 2 + 7) % 8 = (own d).val by rw [own_val]; omega]
  exact part_sum A.wv b s j (own d)

theorem xbV_at (d : Dev nD) (b : Fin 2) (s : Fin 512) (k : Fin 2048) : xbV I d b (ix3 0 s k) = A.x (ix3 b s k) :=
  (pay14_ap _ s k).trans ((congrArg (I d).x (rX_at b s k)).trans (P.x d b s k))
theorem qV_at (d : Dev nD) (b : Fin 2) (s : Fin 512) (j : Fin 256) :
    qV I d b (ix3 0 s j) = A.q A.wq b s ⟨(own d).val * 256 + j.val, by have h : (own d).val < 8 := (own d).isLt; omega⟩ := by
  refine (pay28_ap _ _ s j).trans (Finset.sum_congr rfl fun k _ => congrArg₂ (· * ·) (xbV_at P d b s k) ?_)
  exact (congrArg (I d).wq (unit2_at k j k j (Nat.zero_add _).symm (Nat.zero_add _).symm)).trans (P.wq d k j)
theorem qrV_at (d : Dev nD) (b : Fin 2) (s : Fin 512) (j : Fin 64) :
    qrV I d b (ix3 0 s j) = A.q A.wqr b s ⟨(own d).val * 64 + j.val, by have h : (own d).val < 8 := (own d).isLt; omega⟩ := by
  refine (pay41_ap _ _ s j).trans (Finset.sum_congr rfl fun k _ => congrArg₂ (· * ·) (xbV_at P d b s k) ?_)
  exact (congrArg (I d).wqr (unit2_at k j k j (Nat.zero_add _).symm (Nat.zero_add _).symm)).trans (P.wqr d k j)
theorem krV_at (d : Dev nD) (b : Fin 2) (s : Fin 512) (j : Fin 32) : krV I d b (ix3 0 s j) = A.q A.wkr b s j := by
  refine (pay42_ap _ _ s j).trans (Finset.sum_congr rfl fun k _ => congrArg₂ (· * ·) (xbV_at P d b s k) ?_)
  exact (congrArg (I d).wkr (unit2_at k j k j (Nat.zero_add _).symm (Nat.zero_add _).symm)).trans (P.wkr d k j)

omit P in
/-- Head `h` of a group of two. -/
def hd (g : Fin 8) (h : Fin 2) : Fin 16 := ⟨g.val * 2 + h.val, by omega⟩

/-- A device's attention outputs are those of its own two heads. -/
theorem AO_at (h : Fin 2) (d : Dev nD) (b : Fin 2) (s : Fin 512) (e : Fin 128) : AO I h d b (ix4 0 0 s e) = A.o b (hd (own d) h) s e := by
  have e128 : ∀ e : Fin 128, (⟨(own d).val * 256 + (e.val + 128 * h.val), by have h' : (own d).val < 8 := (own d).isLt; omega⟩ : Fin 2048) = Arrs.at128 (hd (own d) h) e := fun e => by
    refine Fin.ext ?_
    show (own d).val * 256 + (e.val + 128 * h.val) = ((own d).val * 2 + h.val) * 128 + e.val
    omega
  have e32 : ∀ e : Fin 32, (⟨(own d).val * 64 + (e.val + 32 * h.val), by have h' : (own d).val < 8 := (own d).isLt; omega⟩ : Fin 512) = Arrs.at32 (hd (own d) h) e := fun e => by
    refine Fin.ext ?_
    show (own d).val * 64 + (e.val + 32 * h.val) = ((own d).val * 2 + h.val) * 32 + e.val
    omega
  have hq : (fun s e => cols (128 * h.val) (by omega) (qV I d b) (ix3 0 s e)) = fun s (e : Fin 128) => A.q A.wq b s (Arrs.at128 (hd (own d) h) e) := by
    funext s e
    exact (qV_at P d b s ⟨e.val + 128 * h.val, by omega⟩).trans (congrArg (A.q A.wq b s) (e128 e))
  have hk : (fun s e => cols (128 * h.val) (by omega) (KF I d b) (ix3 0 s e)) = fun s (e : Fin 128) => A.kv A.wk b s (Arrs.at128 (hd (own d) h) e) := by
    funext s e
    exact (KF_at P d b s ⟨e.val + 128 * h.val, by omega⟩).trans (congrArg (A.kv A.wk b s) (e128 e))
  have hv : ∀ t, cols (128 * h.val) (by omega) (VF I d b) (ix3 0 t e) = A.kv A.wv b t (Arrs.at128 (hd (own d) h) e) := fun t =>
    (VF_at P d b t ⟨e.val + 128 * h.val, by omega⟩).trans (congrArg (A.kv A.wv b t) (e128 e))
  have hqr : (fun s e => cols (32 * h.val) (by omega) (qrV I d b) (ix3 0 s e)) = fun s (e : Fin 32) => A.q A.wqr b s (Arrs.at32 (hd (own d) h) e) := by
    funext s e
    exact (qrV_at P d b s ⟨e.val + 32 * h.val, by omega⟩).trans (congrArg (A.q A.wqr b s) (e32 e))
  have hkr : (fun s e => krV I d b (ix3 0 s e)) = fun s (e : Fin 32) => A.q A.wkr b s e := by
    funext s e
    exact krV_at P d b s e
  refine (attn_ap _ _ _ _ _ s e).trans ?_
  rw [hq, hk, hqr, hkr]
  exact Finset.sum_congr rfl fun t _ => congrArg₂ (· * ·) rfl (hv t)

omit P in
theorem HF_it (t : ℕ) (d : Dev nD) (b : Fin 2) : HF I t d b = AO I 0 (lft^[t] d) b := by
  induction t generalizing d with
  | zero => rfl
  | succ t ih => exact ih (lft d)
omit P in
theorem HB_it (t : ℕ) (d : Dev nD) (b : Fin 2) : HB I t d b = AO I 1 (rgt^[t] d) b := by
  induction t generalizing d with
  | zero => rfl
  | succ t ih => exact ih (rgt d)

theorem wF_at (d : Dev nD) (t : Fin 8) (k : Fin 128) (j : Fin 2048) : lead (wF I d t) (ix3 0 k j) = A.wo (ix2 (Arrs.at128 (hd (own (lft^[t.val] d)) 0) k) j) := by
  refine (congrArg (I d).wo (unit2_at k j (Arrs.at128 (hd (own (lft^[t.val] d)) 0) k) j ?_ ?_)).trans (P.wo d _ _)
  · rw [(off1_at d t).1]; show ((own (lft^[t.val] d)).val * 2 + 0) * 128 + k.val = _; omega
  · rw [(off1_at d t).2]; exact (Nat.zero_add _).symm
theorem wB_at (d : Dev nD) (t : Fin 8) (k : Fin 128) (j : Fin 2048) : lead (wB I d t) (ix3 0 k j) = A.wo (ix2 (Arrs.at128 (hd (own (rgt^[t.val] d)) 1) k) j) := by
  refine (congrArg (I d).wo (unit2_at k j (Arrs.at128 (hd (own (rgt^[t.val] d)) 1) k) j ?_ ?_)).trans (P.wo d _ _)
  · rw [(off2_at d t).1]; show ((own (rgt^[t.val] d)).val * 2 + 1) * 128 + k.val = _; omega
  · rw [(off2_at d t).2]; exact (Nat.zero_add _).symm

/-- The product of step `t` from the left, and from the right: one head's projection. -/
theorem stepF (t : Fin 8) (d : Dev nD) (b : Fin 2) (s : Fin 512) (j : Fin 2048) :
    ∑ k : Fin 128, HF I t.val d b (ix4 0 0 s k) * lead (wF I d t) (ix3 0 k j) = A.p b s j (hd (own (lft^[t.val] d)) 0) :=
  Finset.sum_congr rfl fun k _ => congrArg₂ (· * ·) ((congrFun (HF_it t.val d b) _).trans (AO_at P 0 _ b s k)) (wF_at P d t k j)
theorem stepB (t : Fin 8) (d : Dev nD) (b : Fin 2) (s : Fin 512) (j : Fin 2048) :
    ∑ k : Fin 128, HB I t.val d b (ix4 0 0 s k) * lead (wB I d t) (ix3 0 k j) = A.p b s j (hd (own (rgt^[t.val] d)) 1) :=
  Finset.sum_congr rfl fun k _ => congrArg₂ (· * ·) ((congrFun (HB_it t.val d b) _).trans (AO_at P 1 _ b s k)) (wB_at P d t k j)

theorem outV_zero (d : Dev nD) (b : Fin 2) (s : Fin 512) (j : Fin 2048) :
    outV I 0 d b (ix3 0 s j) = A.p b s j (hd (own d) 0) + A.p b s j (hd (own d) 1) := by
  refine Eq.trans (b := k0_pay1 (k0_pay112 (HF I 0 d b) (lead (wF I d 0))) (HB I 0 d b) (lead (wB I d 0)) (ix3 0 s j)) rfl ?_
  rw [pay1_ap, pay112_ap]
  exact congrArg₂ (· + ·) (stepF P 0 d b s j) (stepB P 0 d b s j)
theorem outV_succ (d : Dev nD) (b : Fin 2) (s : Fin 512) (j : Fin 2048) (t : ℕ) (ht : t + 1 < 8) :
    outV I (t + 1) d b (ix3 0 s j) = outV I t d b (ix3 0 s j) + A.p b s j (hd (own (lft^[t + 1] d)) 0) + A.p b s j (hd (own (rgt^[t + 1] d)) 1) := by
  have hb : blk (t + 1) = (⟨t + 1, ht⟩ : Fin 8) := Fin.ext (Nat.mod_eq_of_lt ht)
  refine Eq.trans (b := k0_pay1 (k0_pay1 (outV I t d b) (HF I (t + 1) d b) (lead (wF I d (blk (t + 1))))) (HB I (t + 1) d b) (lead (wB I d (blk (t + 1)))) (ix3 0 s j)) rfl ?_
  rw [hb, pay1_ap, pay1_ap]
  exact congrArg₂ (· + ·) (congrArg₂ (· + ·) rfl (stepF P ⟨t + 1, ht⟩ d b s j)) (stepB P ⟨t + 1, ht⟩ d b s j)
theorem outV_sum (d : Dev nD) (b : Fin 2) (s : Fin 512) (j : Fin 2048) (t : ℕ) (ht : t < 8) :
    (outV I t d b (ix3 0 s j) : EReal) = ∑ i ∈ Finset.range (t + 1), A.p b s j (hd (own (lft^[i] d)) 0) + ∑ i ∈ Finset.range (t + 1), A.p b s j (hd (own (rgt^[i] d)) 1) := by
  induction t with
  | zero =>
    rw [Finset.sum_range_one, Finset.sum_range_one]
    exact outV_zero P d b s j
  | succ t ih =>
    rw [outV_succ P d b s j t ht, ih (by omega), Finset.sum_range_succ _ (t + 1), Finset.sum_range_succ _ (t + 1)]
    abel

omit P in
theorem own_bij : Function.Bijective (own : Fin 8 → Fin 8) := by decide

/-- Each entry of a device's result: the projections of all heads, added up. -/
theorem outR_at (d : Dev nD) (b : Fin 2) (s : Fin 512) (j : Fin 2048) :
    outR I d (ix3 b s j) = ∑ i : Fin 2048, A.o b ⟨i.val / 128, by omega⟩ s ⟨i.val % 128, by omega⟩ * A.wo (ix2 i j) := by
  refine (outV_sum P d b s j 7 (by decide)).trans ?_
  have e0 : ∀ h, ∑ e : Fin 8, A.p b s j (hd (own e) h) = ∑ g : Fin 8, A.p b s j (hd g h) := fun h =>
    (Equiv.ofBijective _ own_bij).sum_comp (fun g => A.p b s j (hd g h))
  rw [round_sum lft lft_bij d (fun e => A.p b s j (hd (own e) 0)), round_sum rgt rgt_bij d (fun e => A.p b s j (hd (own e) 1)),
    e0, e0,
    ← Finset.sum_add_distrib, sum_blocks (a := 16) (n := 128), sum_blocks (a := 8) (n := 2)]
  refine Finset.sum_congr rfl fun g _ => ?_
  rw [Fin.sum_univ_two]
  have hh : ∀ (g : Fin 8) (h : Fin 2), A.p b s j (hd g h) = ∑ v : Fin 128, A.o b ⟨((g.val * 2 + h.val) * 128 + v.val) / 128, by omega⟩ s ⟨((g.val * 2 + h.val) * 128 + v.val) % 128, by omega⟩
      * A.wo (ix2 ⟨(g.val * 2 + h.val) * 128 + v.val, by omega⟩ j) := fun g h => by
    unfold Arrs.p
    refine Finset.sum_congr rfl fun v _ => congrArg₂ (· * ·) ?_ rfl
    exact congrArg₂ (fun x y => A.o b x s y) (Fin.ext (by show g.val * 2 + h.val = ((g.val * 2 + h.val) * 128 + v.val) / 128; omega)) (Fin.ext (by show v.val = ((g.val * 2 + h.val) * 128 + v.val) % 128; omega))
  exact congrArg₂ (· + ·) (hh g 0) (hh g 1)

end Cert.KernelIdeal.Mla
-- ==== Proof.Softmax.lean ====
/-
# The softmax, with and without the maximum taken off

Over real scores, taking one real number off every score changes no quotient of the exponentials. Finite operands make the scores real.
-/
module

public import proofs.«01_k».proof.Proof.Total
public import Idealize.ShloMosaic.Lib.Pointwise
public import Mathlib.Analysis.SpecialFunctions.Exp

@[expose] public section

noncomputable section

namespace Cert.KernelIdeal.Mla

open Cert.KernelIdeal Cert.KernelIdeal.Gen
open Idealize.ShloMosaic Idealize.ShloMosaic.TcCoe
open scoped BigOperators

/-- An extended real that is a real number. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.sum {ι : Type} {t : Finset ι} {f : ι → EReal} (h : ∀ i, IsReal (f i)) : IsReal (∑ i ∈ t, f i) := by
  classical
  induction t using Finset.induction_on with
  | empty => exact ⟨0, by simp⟩
  | insert a t ha ih => rw [Finset.sum_insert ha]; exact (h a).add ih

/-- The maximum of real numbers, folded from the least extended real. -/
theorem fold_max_real {ι : Type} [Fintype ι] [Nonempty ι] (f : ι → EReal) (h : ∀ i, IsReal (f i)) : IsReal ((Finset.univ : Finset ι).fold max ⊥ f) := by
  obtain ⟨i, _, hi⟩ := Finset.exists_mem_eq_sup' (Finset.univ_nonempty (α := ι)) f
  have e : (Finset.univ : Finset ι).fold max ⊥ f = Finset.univ.sup' Finset.univ_nonempty f := by
    rw [Finset.sup'_eq_sup]; rfl
  rw [e, hi]; exact h i

theorem sum_coe {ι : Type} (t : Finset ι) (g : ι → ℝ) : ∑ i ∈ t, ((g i : ℝ) : EReal) = ((∑ i ∈ t, g i : ℝ) : EReal) := by
  classical
  induction t using Finset.induction_on with
  | empty => simp
  | insert a t ha ih => rw [Finset.sum_insert ha, Finset.sum_insert ha, ih, EReal.coe_add]

/-- Taking one real number off every score leaves the quotients as they are. -/
theorem softmax_shift {ι : Type} [Fintype ι] [Nonempty ι] (f : ι → EReal) (h : ∀ i, IsReal (f i)) (M : EReal) (hM : IsReal M) (i : ι) :
    Ideal.div (Ideal.exp (f i - M)) (∑ j, Ideal.exp (f j - M)) = Ideal.div (Ideal.exp (f i)) (∑ j, Ideal.exp (f j)) := by
  choose g hg using h
  obtain ⟨m, rfl⟩ := hM
  have e1 : ∀ j, Ideal.exp (f j - (m : EReal)) = ((Real.exp (g j - m) : ℝ) : EReal) := fun j => by
    rw [hg j, ← EReal.coe_sub]; rfl
  have e2 : ∀ j, Ideal.exp (f j) = ((Real.exp (g j) : ℝ) : EReal) := fun j => by rw [hg j]; rfl
  simp only [e1, e2]
  rw [sum_coe, sum_coe]
  have p1 : 0 < ∑ j, Real.exp (g j - m) := Finset.sum_pos (fun j _ => Real.exp_pos _) Finset.univ_nonempty
  have p2 : 0 < ∑ j, Real.exp (g j) := Finset.sum_pos (fun j _ => Real.exp_pos _) Finset.univ_nonempty
  have q : ∀ x y : ℝ, 0 < y → Ideal.div (x : EReal) (y : EReal) = ((x * y⁻¹ : ℝ) : EReal) := fun x y hy => by
    have hy' : ((y : ℝ) : EReal) ≠ 0 := by exact_mod_cast hy.ne'
    unfold Ideal.div
    rw [if_neg hy', EReal.coe_mul, EReal.coe_inv]
  rw [q _ _ p1, q _ _ p2]
  congr 1
  have e3 : ∑ j, Real.exp (g j - m) = (∑ j, Real.exp (g j)) * Real.exp (-m) := by
    rw [Finset.sum_mul]
    exact Finset.sum_congr rfl fun j _ => by rw [← Real.exp_add]; rfl
  rw [e3, show g i - m = g i + -m from rfl, Real.exp_add, mul_inv]
  have := Real.exp_pos (-m)
  field_simp

/-- The operands of the scores are real. -/
structure Arrs.Real (A : Arrs) : Prop where
  x : ∀ i, IsReal (A.x i)
  wd : ∀ i, IsReal (A.wd i)
  wk : ∀ i, IsReal (A.wk i)
  wq : ∀ i, IsReal (A.wq i)
  wqr : ∀ i, IsReal (A.wqr i)
  wkr : ∀ i, IsReal (A.wkr i)

/-- The scale of the scores is a real number. -/
theorem scale_real : IsReal (Ideal.ofBits .f32 0x3DA1E89B#32) := by
  unfold IsReal
  simp [Ideal.ofBits, Ideal.ieee, -EReal.coe_mul]

theorem Arrs.sc_real {A : Arrs} (R : A.Real) (b : Fin 2) (h : Fin 16) (s t : Fin 512) : IsReal (A.sc b h s t) := by
  have hq : ∀ {a : ℕ} (w : (⟨2, ![2048, a]⟩ : Shape).Idx → EReal), (∀ i, IsReal (w i)) → ∀ s j, IsReal (A.q w b s j) := fun w hw s j =>
    IsReal.sum fun k => (R.x _).mul (hw _)
  have hk : ∀ s j, IsReal (A.kv A.wk b s j) := fun s j => IsReal.sum fun n => IsReal.mul (IsReal.sum fun k => (R.x _).mul (R.wd _)) (R.wk _)
  exact ((IsReal.sum fun e => (hq _ R.wq _ _).mul (hk _ _)).add (IsReal.sum fun e => (hq _ R.wqr _ _).mul (hq _ R.wkr _ _))).mul scale_real

end Cert.KernelIdeal.Mla
-- ==== Proof.Refv.lean ====
/-
# The reference's result at an index
-/
module

public import proofs.«01_k».proof.Proof.Gen.ReferenceIdeal.Run
public import Idealize.ShloMosaic.Lib.Pointwise

@[expose] public section

noncomputable section

namespace Cert.ReferenceIdeal.Mla

open Cert.ReferenceIdeal
open Idealize.ShloMosaic Idealize.ShloMosaic.TcCoe
open scoped BigOperators

set_option maxRecDepth 16384

/-- The scores from the queries and the keys. -/
def Sc (Q K : FVec Ideal S2x512x16x128 .f32) (QR KR : FVec Ideal S2x512x16x32 .f32) : FVec Ideal S2x16x512x512 .f32 :=
  mulf (addf (Host.dotGeneral dot_S2x512x16x128_S2x512x16x128_S2x16x512x512_3_3_1_1_02_02 none Q K)
      (Host.dotGeneral dot_S2x512x16x32_S2x512x16x32_S2x16x512x512_3_3_1_1_02_02 none QR KR))
    (broadcastInDim S2x16x512x512 ![] Gen.bcast_S_S2x16x512x512 (constant S_ .f32 0x3DA1E89B#32))
/-- The exponentials of the scores less their row's maximum. -/
def Ex (S : FVec Ideal S2x16x512x512 .f32) : FVec Ideal S2x16x512x512 .f32 :=
  Host.exp (subf S (broadcastInDim S2x16x512x512 ![0, 1, 2, 3] Gen.bcast_S2x16x512x1_S2x16x512x512_0_1_2_3
    (broadcastInDim S2x16x512x1 ![0, 1, 2] Gen.bcast_S2x16x512_S2x16x512x1_0_1_2
      (Host.reduce FloatOps.maximumf S (constant S_ .f32 0xFF800000#32) Gen.reducesTo_S2x16x512x512_S2x16x512_d3 Gen.h_S_))))
/-- The exponentials over their row's sum. -/
def Pr (E : FVec Ideal S2x16x512x512 .f32) : FVec Ideal S2x16x512x512 .f32 :=
  Host.divf E (broadcastInDim S2x16x512x512 ![0, 1, 2, 3] Gen.bcast_S2x16x512x1_S2x16x512x512_0_1_2_3
    (broadcastInDim S2x16x512x1 ![0, 1, 2] Gen.bcast_S2x16x512_S2x16x512x1_0_1_2
      (Host.reduceAdd E (constant S_ .f32 0x00000000#32) Gen.reducesTo_S2x16x512x512_S2x16x512_d3 Gen.h_S_)))
/-- The values averaged, and their projection. -/
def Out (V : FVec Ideal S2x512x16x128 .f32) (P : FVec Ideal S2x16x512x512 .f32) (wo : FVec Ideal S2048x2048 .f32) : FVec Ideal S2x512x2048 .f32 :=
  Host.dotGeneral dot_S2x512x2048_S2048x2048_S2x512x2048_2_0_01_1_n_n none
    (shapeCast S2x512x2048 (transpose S2x512x16x128 [0, 3, 1, 2] (Host.dotGeneral dot_S2x512x16x128_S2x16x512x512_S2x16x128x512_1_3_3_2_02_01 none V P)
      Gen.transposes_S2x16x128x512_S2x512x16x128_0_3_1_2) Gen.shapeCasts_S2x512x16x128_S2x512x2048) wo
/-- The latent's keys or values, by head. -/
def Kv (x : FVec Ideal S2x512x2048 .f32) (wd : FVec Ideal S2048x1024 .f32) (w : FVec Ideal S1024x2048 .f32) : FVec Ideal S2x512x16x128 .f32 :=
  shapeCast S2x512x16x128 (Host.dotGeneral dot_S2x512x1024_S1024x2048_S2x512x2048_2_0_01_1_n_n none
    (Host.dotGeneral dot_S2x512x2048_S2048x1024_S2x512x1024_2_0_01_1_n_n none x wd) w) Gen.shapeCasts_S2x512x2048_S2x512x16x128
/-- The queries, by head. -/
def Qu (x : FVec Ideal S2x512x2048 .f32) (w : FVec Ideal S2048x2048 .f32) : FVec Ideal S2x512x16x128 .f32 :=
  shapeCast S2x512x16x128 (Host.dotGeneral dot_S2x512x2048_S2048x2048_S2x512x2048_2_0_01_1_n_n none x w) Gen.shapeCasts_S2x512x2048_S2x512x16x128
/-- The rotary queries, by head. -/
def Qr (x : FVec Ideal S2x512x2048 .f32) (w : FVec Ideal S2048x512 .f32) : FVec Ideal S2x512x16x32 .f32 :=
  shapeCast S2x512x16x32 (Host.dotGeneral dot_S2x512x2048_S2048x512_S2x512x512_2_0_01_1_n_n none x w) Gen.shapeCasts_S2x512x512_S2x512x16x32
/-- The rotary keys, the same for every head. -/
def Kr (x : FVec Ideal S2x512x2048 .f32) (w : FVec Ideal S2048x32 .f32) : FVec Ideal S2x512x16x32 .f32 :=
  broadcastInDim S2x512x16x32 ![0, 1, 2, 3] Gen.bcast_S2x512x1x32_S2x512x16x32_0_1_2_3
    (shapeCast S2x512x1x32 (Host.dotGeneral dot_S2x512x2048_S2048x32_S2x512x32_2_0_01_1_n_n none x w) Gen.shapeCasts_S2x512x32_S2x512x1x32)

/-- The reference's result is these pieces put together. -/
theorem res_eq (m : (ℓ : Loc nD τ sig) → Buf (Elt Ideal) ℓ) (c : Dev nD) (x wd wk wv wq wqr wkr wo)
    (h0 : m ((c.tc : Thread nD τ).loc main_arg0) = x) (h1 : m ((c.tc : Thread nD τ).loc main_arg1) = wd)
    (h2 : m ((c.tc : Thread nD τ).loc main_arg2) = wk) (h3 : m ((c.tc : Thread nD τ).loc main_arg3) = wv)
    (h4 : m ((c.tc : Thread nD τ).loc main_arg4) = wq) (h5 : m ((c.tc : Thread nD τ).loc main_arg5) = wqr)
    (h6 : m ((c.tc : Thread nD τ).loc main_arg6) = wkr) (h7 : m ((c.tc : Thread nD τ).loc main_arg7) = wo) :
    Value.res_main_v29 m c = Out (Kv x wd wv) (Pr (Ex (Sc (Qu x wq) (Kv x wd wk) (Qr x wqr) (Kr x wkr)))) wo := by
  unfold Value.res_main_v29
  rw [h0, h1, h2, h3, h4, h5, h6, h7]
  rfl

theorem Sc_ap (Q K QR KR) (b : Fin 2) (h : Fin 16) (s t : Fin 512) :
    Sc Q K QR KR (ix4 b h s t) = (∑ e : Fin 128, Q (ix4 b s h e) * K (ix4 b t h e) + ∑ e : Fin 32, QR (ix4 b s h e) * KR (ix4 b t h e)) * Ideal.ofBits .f32 0x3DA1E89B#32 := by
  pointwise [Sc]
theorem Ex_ap (S) (b : Fin 2) (h : Fin 16) (s t : Fin 512) :
    Ex S (ix4 b h s t) = Ideal.exp (S (ix4 b h s t) - (Finset.univ : Finset (Fin 512)).fold max (Ideal.ofBits .f32 0xFF800000#32) fun t' => S (ix4 b h s t')) := by
  pointwise [Ex]
theorem Pr_ap (E) (b : Fin 2) (h : Fin 16) (s t : Fin 512) :
    Pr E (ix4 b h s t) = Ideal.div (E (ix4 b h s t)) (∑ t', E (ix4 b h s t')) := by
  pointwise [Pr]
theorem Out_ap (V P wo) (b : Fin 2) (s : Fin 512) (o : Fin 2048) :
    Out V P wo (ix3 b s o) = ∑ j : Fin 2048, (∑ t : Fin 512, V (ix4 b t ⟨j.val / 128, by omega⟩ ⟨j.val % 128, by omega⟩) * P (ix4 b ⟨j.val / 128, by omega⟩ s t)) * wo (ix2 j o) := by
  pointwise [Out]
theorem Kv_ap (x wd w) (b : Fin 2) (s : Fin 512) (h : Fin 16) (e : Fin 128) :
    Kv x wd w (ix4 b s h e) = ∑ n : Fin 1024, (∑ k : Fin 2048, x (ix3 b s k) * wd (ix2 k n)) * w (ix2 n ⟨h.val * 128 + e.val, by omega⟩) := by
  pointwise [Kv]
theorem Qu_ap (x w) (b : Fin 2) (s : Fin 512) (h : Fin 16) (e : Fin 128) :
    Qu x w (ix4 b s h e) = ∑ k : Fin 2048, x (ix3 b s k) * w (ix2 k ⟨h.val * 128 + e.val, by omega⟩) := by
  pointwise [Qu]
theorem Qr_ap (x w) (b : Fin 2) (s : Fin 512) (h : Fin 16) (e : Fin 32) :
    Qr x w (ix4 b s h e) = ∑ k : Fin 2048, x (ix3 b s k) * w (ix2 k ⟨h.val * 32 + e.val, by omega⟩) := by
  pointwise [Qr]
theorem Kr_ap (x w) (b : Fin 2) (s : Fin 512) (h : Fin 16) (e : Fin 32) :
    Kr x w (ix4 b s h e) = ∑ k : Fin 2048, x (ix3 b s k) * w (ix2 k e) := by
  pointwise [Kr]

end Cert.ReferenceIdeal.Mla
-- ==== Proof.Spec.lean ====
/-
# The reference's result as sums over the whole arrays

The scale of the scores and the bounds of the comparisons as extended reals, and the reference's result written as the kernel's is.
-/
module

public import proofs.«01_k».proof.Proof.Softmax
public import proofs.«01_k».proof.Proof.Refv

@[expose] public section

noncomputable section

namespace Cert.KernelIdeal.Mla

open Idealize.ShloMosaic Idealize.ShloMosaic.TcCoe
open Cert.ReferenceIdeal.Mla
open scoped BigOperators

set_option maxRecDepth 16384

theorem neg_inf : Ideal.ofBits .f32 0xFF800000#32 = ⊥ := by simp [Ideal.ofBits, Ideal.ieee]

variable (A : Arrs) (b : Fin 2)

theorem Sc_arrs (h : Fin 16) (s t : Fin 512) :
    Sc (Qu A.x A.wq) (Kv A.x A.wd A.wk) (Qr A.x A.wqr) (Kr A.x A.wkr) (ix4 b h s t) = A.sc b h s t := by
  rw [Sc_ap]
  simp only [Qu_ap, Kv_ap, Qr_ap, Kr_ap]
  rfl

/-- Over real scores the reference's quotients are those without the maximum taken off. -/
theorem Pr_arrs (R : A.Real) (h : Fin 16) (s t : Fin 512) :
    Cert.ReferenceIdeal.Mla.Pr (Ex (Sc (Qu A.x A.wq) (Kv A.x A.wd A.wk) (Qr A.x A.wqr) (Kr A.x A.wkr))) (ix4 b h s t)
      = Ideal.div (Ideal.exp (A.sc b h s t)) (∑ t' : Fin 512, Ideal.exp (A.sc b h s t')) := by
  rw [Pr_ap]
  simp only [Ex_ap, Sc_arrs, neg_inf]
  exact softmax_shift (fun t => A.sc b h s t) (fun t => Arrs.sc_real R b h s t) _ (fold_max_real _ fun t => Arrs.sc_real R b h s t) t

/-- The reference's result at an index. -/
theorem Out_arrs (R : A.Real) (s : Fin 512) (j : Fin 2048) :
    Out (Kv A.x A.wd A.wv) (Cert.ReferenceIdeal.Mla.Pr (Ex (Sc (Qu A.x A.wq) (Kv A.x A.wd A.wk) (Qr A.x A.wqr) (Kr A.x A.wkr)))) A.wo (ix3 b s j)
      = ∑ i : Fin 2048, A.o b ⟨i.val / 128, by omega⟩ s ⟨i.val % 128, by omega⟩ * A.wo (ix2 i j) := by
  rw [Out_ap]
  refine Finset.sum_congr rfl fun i _ => congrArg (· * A.wo (ix2 i j)) (Finset.sum_congr rfl fun t _ => ?_)
  rw [Pr_arrs A b R, Kv_ap, mul_comm]
  rfl

end Cert.KernelIdeal.Mla
-- ==== Proof.Finite.lean ====
/-
# What the precondition says

The precondition compares the absolute value of every entry of six of a device's arguments with the greatest extended real; where it holds these entries are real numbers.
-/
module

public import proofs.«01_k».proof.Proof.Softmax
public import proofs.«01_k».proof.Pre_finite_KernelIdeal
public import proofs.«01_k».proof.Pre_finite_ReferenceIdeal
public import Idealize.ShloMosaic.Lib.ReduceAll

@[expose] public section

noncomputable section

namespace Cert.KernelIdeal.Mla

open Idealize.ShloMosaic Idealize.ShloMosaic.TcCoe
open scoped BigOperators

set_option maxRecDepth 16384

/-- The shapes of the precondition's arrays, on a device of the kernel program, -/
theorem facts_kernel : Cert.Pre_finite_KernelIdeal.Facts := by constructor <;> decide
/-- and of the reference's. -/
theorem facts_reference : Cert.Pre_finite_ReferenceIdeal.Facts := by constructor <;> decide

theorem pos_inf : Ideal.ofBits .f32 0x7F800000#32 = ⊤ := by simp [Ideal.ofBits, Ideal.ieee]

/-- An extended real whose absolute value is below the greatest is a real number. -/
theorem real_of_abs {x : EReal} (h : max x (-x) < ⊤) : IsReal x := by
  rw [max_lt_iff] at h
  refine ⟨x.toReal, (EReal.coe_toReal h.1.ne fun e => ?_).symm⟩
  rw [e] at h
  exact absurd h.2 (by simp)

/-- One of the precondition's comparisons, all ones: every entry of the array is real. -/
theorem all_real {s : Shape} {axes : List (Fin s.rank)} (x : FVec Ideal s .f32) (hb : (⟨0, ![]⟩ : Shape).BroadcastsInDim s ![]) (hr : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (⟨0, ![]⟩ : Shape) .f32 0x7F800000#32)))
      (constantI (⟨0, ![]⟩ : Shape) 1 1#1) hr hu j = 1#1) (i : s.Idx) : IsReal (x i) := by
  have : Subsingleton (⟨0, ![]⟩ : Shape).Idx := ⟨fun a b => funext fun k => k.elim0⟩
  have h := Host.reduce_andi_all _ _ hr hu j e i
  have h' : Ideal.cmp .olt (max (x i : EReal) (-(x i : EReal))) (Ideal.ofBits .f32 0x7F800000#32) = 1#1 := h
  rw [pos_inf] at h'
  exact real_of_abs (by by_contra hn; rw [show Ideal.cmp .olt (max (x i : EReal) (-(x i : EReal))) ⊤ = BitVec.ofBool (decide (max (x i : EReal) (-(x i : EReal)) < ⊤)) from rfl, decide_eq_false hn] at h'; exact absurd h' (by decide))

theorem and_one {a b : IVec (⟨0, ![]⟩ : Shape) 1} {j} (h : andi a b j = 1#1) : a j = 1#1 ∧ b j = 1#1 :=
  (by decide : ∀ u v : BitVec 1, IntOp.andi u v = 1#1 → u = 1#1 ∧ v = 1#1) _ _ h

/-- The precondition on one device's arguments. -/
theorem fn_real [Cert.Pre_finite_KernelIdeal.Facts] {x wd wk wv wq wqr wkr wo}
    (h : Cert.Pre_finite_KernelIdeal.fn (F := Ideal) x wd wk wv wq wqr wkr wo = fun _ => 1#1) :
    (∀ i, IsReal (x i)) ∧ (∀ i, IsReal (wd i)) ∧ (∀ i, IsReal (wk i)) ∧ (∀ i, IsReal (wq i)) ∧ (∀ i, IsReal (wqr i)) ∧ (∀ i, IsReal (wkr i)) := by
  have h := congrFun h (fun k => k.elim0)
  unfold Cert.Pre_finite_KernelIdeal.fn Cert.Pre_finite_KernelIdeal.fn_part1 at h
  obtain ⟨h, h6⟩ := and_one h
  obtain ⟨h, h5⟩ := and_one h
  obtain ⟨h, h4⟩ := and_one h
  obtain ⟨h, h3⟩ := and_one h
  obtain ⟨h1, h2⟩ := and_one h
  clear h
  refine ⟨?_, ?_, ?_, ?_, ?_, ?_⟩
  · clear h2 h3 h4 h5 h6; exact all_real _ _ _ _ _ h1
  · clear h1 h3 h4 h5 h6; exact all_real _ _ _ _ _ h2
  · clear h1 h2 h4 h5 h6; exact all_real _ _ _ _ _ h3
  · clear h1 h2 h3 h5 h6; exact all_real _ _ _ _ _ h4
  · clear h1 h2 h3 h4 h6; exact all_real _ _ _ _ _ h5
  · clear h1 h2 h3 h4 h5; exact all_real _ _ _ _ _ h6

end Cert.KernelIdeal.Mla
-- ==== Proof.Agree.lean ====
/-
# The kernel's result is the reference's

Where the kernel program's arguments are the blocks of the reference's, every device's result is the reference's.
-/
module

public import proofs.«01_k».proof.Defs
public import proofs.«01_k».proof.Proof.Host
public import proofs.«01_k».proof.Proof.Spec
public import proofs.«01_k».proof.Proof.Finite

@[expose] public section

noncomputable section

namespace Cert.KernelIdeal.Mla

open Cert.KernelIdeal Cert.KernelIdeal.Gen
open Idealize.ShloMosaic Idealize.ShloMosaic.TcCoe
open scoped BigOperators

set_option maxRecDepth 16384

/-- A block of columns at an index. -/
theorem blockCol_at {R k n : ℕ} {N : ℕ} (h : Layout.Tiles ⟨2, ![R, n]⟩ ⟨2, ![R, N]⟩ 1 k) (d : Fin k) (v : (⟨2, ![R, N]⟩ : Shape).Idx → EReal) (i : Fin R) (j : Fin n) (j' : Fin N)
    (hj : j'.val = d.val * n + j.val) : Layout.block ⟨2, ![R, n]⟩ ⟨2, ![R, N]⟩ 1 k d v h (ix2 i j) = v (ix2 i j') := by
  rw [Layout.block_apply]
  refine congrArg v (funext fun a => Fin.ext ?_)
  match a with
  | ⟨0, _⟩ => exact (Layout.idx_cols_val h d (ix2 i j)).1
  | ⟨1, _⟩ => exact (Layout.idx_cols_val h d (ix2 i j)).2.trans hj.symm
/-- A block of rows at an index. -/
theorem blockRow_at {C k n : ℕ} {N : ℕ} (h : Layout.Tiles ⟨2, ![n, C]⟩ ⟨2, ![N, C]⟩ 0 k) (d : Fin k) (v : (⟨2, ![N, C]⟩ : Shape).Idx → EReal) (i : Fin n) (j : Fin C) (i' : Fin N)
    (hi : i'.val = d.val * n + i.val) : Layout.block ⟨2, ![n, C]⟩ ⟨2, ![N, C]⟩ 0 k d v h (ix2 i j) = v (ix2 i' j) := by
  rw [Layout.block_apply]
  refine congrArg v (funext fun a => Fin.ext ?_)
  match a with
  | ⟨0, _⟩ => exact (Layout.idx_rows_val h d (ix2 i j)).1.trans hi.symm
  | ⟨1, _⟩ => exact (Layout.idx_rows_val h d (ix2 i j)).2

/-- Every column of an array cut into eight blocks of columns is a column of one of them, and every row of one of rows. -/
theorem cut (N : Fin 1024) : ∃ (d : Fin 8) (j : Fin 128), N.val = d.val * 128 + j.val :=
  ⟨⟨N.val / 128, by omega⟩, ⟨N.val % 128, by omega⟩, (Nat.div_add_mod' N.val 128).symm⟩

variable (m : (ℓ : Loc nD τ sig) → Buf (Elt Ideal) ℓ) (A : Arrs)

/-- The kernel program's arguments are the devices' blocks of the arrays. -/
structure Held : Prop where
  x : ∀ c : Dev nD, m ((c.tc : Thread nD τ).loc main_arg0) = A.x
  wd : ∀ c : Dev nD, m ((c.tc : Thread nD τ).loc main_arg1) = Layout.block ⟨2, ![2048, 128]⟩ ⟨2, ![2048, 1024]⟩ 1 8 c A.wd
  wk : ∀ c : Dev nD, m ((c.tc : Thread nD τ).loc main_arg2) = Layout.block ⟨2, ![128, 2048]⟩ ⟨2, ![1024, 2048]⟩ 0 8 c A.wk
  wv : ∀ c : Dev nD, m ((c.tc : Thread nD τ).loc main_arg3) = Layout.block ⟨2, ![128, 2048]⟩ ⟨2, ![1024, 2048]⟩ 0 8 c A.wv
  wq : ∀ c : Dev nD, m ((c.tc : Thread nD τ).loc main_arg4) = A.wq
  wqr : ∀ c : Dev nD, m ((c.tc : Thread nD τ).loc main_arg5) = A.wqr
  wkr : ∀ c : Dev nD, m ((c.tc : Thread nD τ).loc main_arg6) = A.wkr
  wo : ∀ c : Dev nD, m ((c.tc : Thread nD τ).loc main_arg7) = A.wo

variable {m A}

/-- Then the operands of the call are their parts. -/
theorem Held.parts (H : Held m A) : Parts (Iof m) A where
  x d b s k := by rw [I_x, H.x]
  wd d k n := by rw [I_wd, H.wd]; exact blockCol_at _ _ _ _ _ _ rfl
  wk d n t j := by rw [I_wk, H.wk]; exact blockRow_at _ _ _ _ _ _ rfl
  wv d n t j := by rw [I_wv, H.wv]; exact blockRow_at _ _ _ _ _ _ rfl
  wq d k j := by rw [I_wq, H.wq]
  wqr d k j := by rw [I_wqr, H.wqr]
  wkr d k j := by rw [I_wkr, H.wkr]
  wo d k j := by rw [I_wo, H.wo]

/-- And under the precondition the operands of the scores are real. -/
theorem Held.real [Cert.Pre_finite_KernelIdeal.Facts] (H : Held m A) (hp : Cert.Pre_KernelIdeal_finite_KernelIdeal m) : A.Real := by
  have h := fun c => fn_real (hp c)
  refine ⟨fun i => ?_, fun i => ?_, fun i => ?_, fun i => ?_, fun i => ?_, fun i => ?_⟩
  · have := (h 0).1 i; rwa [H.x] at this
  · have e : ∀ (r : Fin 2048) (n : Fin 1024), IsReal (A.wd (ix2 r n)) := fun r n => by
      obtain ⟨d, j, e⟩ := cut n
      have := (h d).2.1 (ix2 r j)
      rwa [H.wd, blockCol_at _ _ _ _ _ n e] at this
    rw [eq_ix2 i]; exact e _ _
  · have e : ∀ (n : Fin 1024) (r : Fin 2048), IsReal (A.wk (ix2 n r)) := fun n r => by
      obtain ⟨d, j, e⟩ := cut n
      have := (h d).2.2.1 (ix2 j r)
      rwa [H.wk, blockRow_at _ _ _ _ _ n e] at this
    rw [eq_ix2 i]; exact e _ _
  · have := (h 0).2.2.2.1 i; rwa [H.wq] at this
  · have := (h 0).2.2.2.2.1 i; rwa [H.wqr] at this
  · have := (h 0).2.2.2.2.2 i; rwa [H.wkr] at this

/-- Every device's result is the reference's. -/
theorem Held.result (H : Held m A) (R : A.Real) (c : Dev nD) :
    outR (Iof m) c = Cert.ReferenceIdeal.Mla.Out (Cert.ReferenceIdeal.Mla.Kv A.x A.wd A.wv) (Cert.ReferenceIdeal.Mla.Pr (Cert.ReferenceIdeal.Mla.Ex (Cert.ReferenceIdeal.Mla.Sc (Cert.ReferenceIdeal.Mla.Qu A.x A.wq) (Cert.ReferenceIdeal.Mla.Kv A.x A.wd A.wk) (Cert.ReferenceIdeal.Mla.Qr A.x A.wqr) (Cert.ReferenceIdeal.Mla.Kr A.x A.wkr)))) A.wo := by
  funext i
  have e : i = ix3 (i 0) (i 1) (i 2) := eq_ix3 i
  rw [e]
  exact (outR_at H.parts c _ _ _).trans (Out_arrs A _ R _ _).symm

end Cert.KernelIdeal.Mla
-- ==== Proof.lean ====
/- The proof of the claims: what each program does when run, from Proof/Start.lean for the kernel, and that the kernel's result is the reference's, from Proof/Agree.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Start
public import proofs.«01_k».proof.Proof.Same
public import proofs.«01_k».proof.Proof.Agree

@[expose] public section

noncomputable section

namespace Cert.Proof

open Idealize.ShloMosaic Idealize.SL.Sem

/-- The kernel program over the machine's own floats runs, leaves its arguments alone and every counter at zero. -/
theorem frame_kernel : Cert.quiescent_Kernel := by
  intro m ρ _
  have h := Cert.KernelIdeal.Mla.run_main (F := Bits) m ρ
  rw [← main_same, ← defs_same] at h
  exact (θ_run Cert.Kernel.defs _ _).mono (fun _ h => ⟨fun c => (h.1 c).1, h.2⟩) h

/-- The same over the real numbers. -/
theorem frame_ideal : Cert.quiescent_KernelIdeal := fun m ρ _ =>
  (θ_run Cert.KernelIdeal.defs _ _).mono (fun _ h => ⟨fun c => (h.1 c).1, h.2⟩) (Cert.KernelIdeal.Mla.run_main (F := Ideal) m ρ)

/-- The reference runs, leaves its arguments alone and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result of the kernel program is the reference's result, where the operands of the scores are finite. -/
theorem agree : Cert.algebraic_KernelIdeal_ReferenceIdeal_pre_finite_KernelIdeal (hPre_finite_KernelIdeal := Cert.KernelIdeal.Mla.facts_kernel) := by
  intro m g m' g' hp ha
  let A : Cert.KernelIdeal.Mla.Arrs := {
    x := m' (((0 : Dev Cert.ReferenceIdeal.nD).tc : Thread Cert.ReferenceIdeal.nD Cert.ReferenceIdeal.τ).loc Cert.ReferenceIdeal.main_arg0)
    wd := m' (((0 : Dev Cert.ReferenceIdeal.nD).tc : Thread Cert.ReferenceIdeal.nD Cert.ReferenceIdeal.τ).loc Cert.ReferenceIdeal.main_arg1)
    wk := m' (((0 : Dev Cert.ReferenceIdeal.nD).tc : Thread Cert.ReferenceIdeal.nD Cert.ReferenceIdeal.τ).loc Cert.ReferenceIdeal.main_arg2)
    wv := m' (((0 : Dev Cert.ReferenceIdeal.nD).tc : Thread Cert.ReferenceIdeal.nD Cert.ReferenceIdeal.τ).loc Cert.ReferenceIdeal.main_arg3)
    wq := m' (((0 : Dev Cert.ReferenceIdeal.nD).tc : Thread Cert.ReferenceIdeal.nD Cert.ReferenceIdeal.τ).loc Cert.ReferenceIdeal.main_arg4)
    wqr := m' (((0 : Dev Cert.ReferenceIdeal.nD).tc : Thread Cert.ReferenceIdeal.nD Cert.ReferenceIdeal.τ).loc Cert.ReferenceIdeal.main_arg5)
    wkr := m' (((0 : Dev Cert.ReferenceIdeal.nD).tc : Thread Cert.ReferenceIdeal.nD Cert.ReferenceIdeal.τ).loc Cert.ReferenceIdeal.main_arg6)
    wo := m' (((0 : Dev Cert.ReferenceIdeal.nD).tc : Thread Cert.ReferenceIdeal.nD Cert.ReferenceIdeal.τ).loc Cert.ReferenceIdeal.main_arg7) }
  have H : Cert.KernelIdeal.Mla.Held m A :=
    ⟨fun c => (ha c).1, fun c => (ha c).2.1, fun c => (ha c).2.2.1, fun c => (ha c).2.2.2.1, fun c => (ha c).2.2.2.2.1,
      fun c => (ha c).2.2.2.2.2.1, fun c => (ha c).2.2.2.2.2.2.1, fun c => (ha c).2.2.2.2.2.2.2⟩
  have R := @Cert.KernelIdeal.Mla.Held.real m A Cert.KernelIdeal.Mla.facts_kernel H hp
  refine ⟨Cert.ReferenceIdeal.Value.res_main_v29 m' 0, ?_, ?_⟩
  · refine (θ_run Cert.KernelIdeal.defs _ _).mono (fun r h c => ⟨?_, (h.1 c).1⟩) (Cert.KernelIdeal.Mla.run_main (F := Ideal) m g)
    refine (h.1 c).2.trans ((H.result R c).trans ?_)
    exact (Cert.ReferenceIdeal.Mla.res_eq m' 0 A.x A.wd A.wk A.wv A.wq A.wqr A.wkr A.wo rfl rfl rfl rfl rfl rfl rfl rfl).symm
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.KernelIdeal.Mla.facts_kernel, Cert.KernelIdeal.Mla.facts_reference,
    frame_kernel, frame_ideal, fun m ρ _ => frame_ideal m ρ trivial, frame_reference, fun m ρ _ => frame_reference m ρ trivial, trivial, agree⟩

end Cert.Proof

end
